-- ==== Defs.lean ====
def Pre_Kernel [hPre_sizes_partition : Cert.Pre_sizes_partition.Facts] (m : (ℓ : Loc Cert.Kernel.nD Cert.Kernel.τ Cert.Kernel.sig) → Buf (Elt Bits) ℓ) : Prop :=
  ∀ c : Dev Cert.Kernel.nD,
    (Cert.Pre_sizes_partition.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_partition : Cert.Pre_sizes_partition.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_partition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_sizes_partition : Cert.Pre_sizes_partition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_partition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_partition : Cert.Pre_sizes_partition.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_partition : Cert.Pre_sizes_partition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_sizes_partition : Cert.Pre_sizes_partition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_partition : Cert.Pre_sizes_partition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_partition : Cert.Pre_sizes_partition.Facts),
    quiescent_Kernel (hKernel := hKernel) (hPre_sizes_partition := hPre_sizes_partition)
    ∧ quiescent_KernelIdeal (hKernelIdeal := hKernelIdeal) (hPre_sizes_partition := hPre_sizes_partition)
    ∧ quiescent_ReferenceIdeal (hReferenceIdeal := hReferenceIdeal) (hPre_sizes_partition := hPre_sizes_partition)
    ∧ preserves_Kernel_KernelIdeal
    ∧ algebraic_KernelIdeal_ReferenceIdeal (hKernelIdeal := hKernelIdeal) (hReferenceIdeal := hReferenceIdeal) (hPre_sizes_partition := hPre_sizes_partition)
-- ==== Pre_sizes_partition.lean ====
abbrev S12288x2816 : Shape := ⟨2, ![12288, 2816]⟩
abbrev S12288x1 : Shape := ⟨2, ![12288, 1]⟩
abbrev S4 : Shape := ⟨1, ![4]⟩
abbrev S4x2816x5632 : Shape := ⟨3, ![4, 2816, 5632]⟩
abbrev S4x5632 : Shape := ⟨2, ![4, 5632]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S12288x2816 .fp8e4m3) (main_arg1 : FVec F S12288x1 .f32) (main_arg2 : IVec S4 32) (main_arg3 : FVec F S4x2816x5632 .fp8e4m3) (main_arg4 : FVec F S4x5632 .f32) : IVec S4 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 12288#32
  let main_v2 : IVec S4 32 := broadcastInDim S4 ![] bcast_S_S4 main_c_0
  let main_v3 : IVec S4 1 := cmpi .sle main_arg2 main_v2
  let main_v4 : IVec S4 1 := andi main_v1 main_v3
  let main_c_1 : IVec S_ 32 := constantI S_ 32 0#32
  let main_v5 : IVec S_ 32 := (fun x v => Host.reduce IntOp.addi x v reducesTo_S4_S_d0 h_S_) main_arg2 main_c_1
  let main_c_2 : IVec S_ 32 := constantI S_ 32 12288#32
  let main_v6 : IVec S_ 1 := cmpi .eq main_v5 main_c_2
  let main_v7 : IVec S4 1 := broadcastInDim S4 ![] bcast_S_S4 main_v6
  let main_v8 : IVec S4 1 := andi main_v4 main_v7
  main_v8
-- ==== Kernel.lean ====
abbrev S12288x2816 : Shape := ⟨2, ![12288, 2816]⟩
abbrev S12288x1 : Shape := ⟨2, ![12288, 1]⟩
abbrev S4 : Shape := ⟨1, ![4]⟩
abbrev S4x2816x5632 : Shape := ⟨3, ![4, 2816, 5632]⟩
abbrev S4x5632 : Shape := ⟨2, ![4, 5632]⟩
abbrev S4x1x5632 : Shape := ⟨3, ![4, 1, 5632]⟩
abbrev S12288x5632 : Shape := ⟨2, ![12288, 5632]⟩
abbrev S512x2816 : Shape := ⟨2, ![512, 2816]⟩
abbrev S1 : Shape := ⟨1, ![1]⟩
abbrev S512x1 : Shape := ⟨2, ![512, 1]⟩
abbrev S1x2816x5632 : Shape := ⟨3, ![1, 2816, 5632]⟩
abbrev S1x1x5632 : Shape := ⟨3, ![1, 1, 5632]⟩
abbrev S512x5632 : Shape := ⟨2, ![512, 5632]⟩
abbrev S1x2816x512 : Shape := ⟨3, ![1, 2816, 512]⟩
abbrev S2816x512 : Shape := ⟨2, ![2816, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 1
  | _ => 0

abbrev bufTy : (tb : Table) → Fin (tcTables nBuf tb) → BufTy
  | .hbm, ⟨0, _⟩ => ⟨S12288x2816, .fp8e4m3⟩
  | .hbm, ⟨1, _⟩ => ⟨S12288x1, .f32⟩
  | .hbm, ⟨2, _⟩ => ⟨S4x2816x5632, .fp8e4m3⟩
  | .hbm, ⟨3, _⟩ => ⟨S4x5632, .f32⟩
  | .hbm, ⟨4, _⟩ => ⟨S4x1x5632, .f32⟩
  | .hbm, ⟨5, _⟩ => ⟨S12288x5632, .bf16⟩
  | .local _ .vmem, ⟨0, _⟩ => ⟨S512x2816, .fp8e4m3⟩
  | .local _ .vmem, ⟨1, _⟩ => ⟨S512x2816, .fp8e4m3⟩
  | .local _ .vmem, ⟨2, _⟩ => ⟨S512x1, .f32⟩
  | .local _ .vmem, ⟨3, _⟩ => ⟨S512x1, .f32⟩
  | .local _ .vmem, ⟨4, _⟩ => ⟨S1x2816x5632, .fp8e4m3⟩
  | .local _ .vmem, ⟨5, _⟩ => ⟨S1x2816x5632, .fp8e4m3⟩
  | .local _ .vmem, ⟨6, _⟩ => ⟨S1x1x5632, .f32⟩
  | .local _ .vmem, ⟨7, _⟩ => ⟨S1x1x5632, .f32⟩
  | .local _ .vmem, ⟨8, _⟩ => ⟨S512x5632, .bf16⟩
  | .local _ .vmem, ⟨9, _⟩ => ⟨S512x5632, .bf16⟩
  | .local _ .smem, ⟨0, _⟩ => ⟨S4, .i32⟩
  | _, _ => ⟨S12288x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![27], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (v0 : BitVec 32) (v52 : BitVec 32) (v104 : BitVec 32) (v156 : BitVec 32) : Fin 1 → Nat :=
  let arg0 : BitVec 32 := BitVec.ofNat 32 (i 0).val
  let c0_i32_25 : BitVec 32 := 0#32
  let c0_i32_5 : BitVec 32 := 0#32
  let v18 : BitVec 1 := Scalar.cmpi .sgt v0 c0_i32_5
  let c0_i32_6 : BitVec 32 := 0#32
  let v19 : BitVec 32 := Scalar.addi c0_i32_6 v0
  let c1_i32_7 : BitVec 32 := 1#32
  let v20 : BitVec 32 := Scalar.subi v19 c1_i32_7
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_13 : BitVec 32 := 0#32
  let v34 : BitVec 1 := Scalar.cmpi .ne v33 c0_i32_13
  let v35 : BitVec 1 := Scalar.andi v32 v34
  let v21 : BitVec 32 := Scalar.divsi v20 c512_i32_8
  let c1_i32_14 : BitVec 32 := 1#32
  let v36 : BitVec 32 := Scalar.subi v21 c1_i32_14
  let v37 : BitVec 32 := Scalar.select v35 v36 v21
  let c0_i32 : BitVec 32 := 0#32
  let c0_i32_0 : BitVec 32 := 0#32
  let v2 : BitVec 1 := Scalar.cmpi .sgt c0_i32 c0_i32_0
  let v3 : BitVec 32 := Scalar.extui v2
  let c0_i32_1 : BitVec 32 := 0#32
  let v4 : BitVec 1 := Scalar.cmpi .slt c0_i32 c0_i32_1
  let v5 : BitVec 32 := Scalar.extui v4
  let v6 : BitVec 32 := Scalar.subi v3 v5
  let c512_i32 : BitVec 32 := 512#32
  let c0_i32_2 : BitVec 32 := 0#32
  let v7 : BitVec 1 := Scalar.cmpi .sgt c512_i32 c0_i32_2
  let v8 : BitVec 32 := Scalar.extui v7
  let c0_i32_3 : BitVec 32 := 0#32
  let v9 : BitVec 1 := Scalar.cmpi .slt c512_i32 c0_i32_3
  let v10 : BitVec 32 := Scalar.extui v9
  let v11 : BitVec 32 := Scalar.subi v8 v10
  let v12 : BitVec 1 := Scalar.cmpi .ne v6 v11
  let v13 : BitVec 32 := Scalar.remsi c0_i32 c512_i32
  let c0_i32_4 : BitVec 32 := 0#32
  let v14 : BitVec 1 := Scalar.cmpi .ne v13 c0_i32_4
  let v15 : BitVec 1 := Scalar.andi v12 v14
  let v1 : BitVec 32 := Scalar.divsi c0_i32 c512_i32
  let c1_i32 : BitVec 32 := 1#32
  let v16 : BitVec 32 := Scalar.subi v1 c1_i32
  let v17 : BitVec 32 := Scalar.select v15 v16 v1
  let v38 : BitVec 32 := Scalar.subi v37 v17
  let c1_i32_15 : BitVec 32 := 1#32
  let v39 : BitVec 32 := Scalar.addi v38 c1_i32_15
  let c0_i32_16 : BitVec 32 := 0#32
  let v40 : BitVec 32 := Scalar.select v18 v39 c0_i32_16
  let v51 : BitVec 32 := Scalar.addi c0_i32_25 v40
  let c0_i32_33 : BitVec 32 := 0#32
  let v70 : BitVec 1 := Scalar.cmpi .sgt v52 c0_i32_33
  let c0_i32_24 : BitVec 32 := 0#32
  let v50 : BitVec 32 := Scalar.addi c0_i32_24 v0
  let v71 : BitVec 32 := Scalar.addi v50 v52
  let c1_i32_34 : BitVec 32 := 1#32
  let v72 : BitVec 32 := Scalar.subi v71 c1_i32_34
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c512_i32_35 : BitVec 32 := 512#32
  let c0_i32_38 : BitVec 32 := 0#32
  let v79 : BitVec 1 := Scalar.cmpi .sgt c512_i32_35 c0_i32_38
  let v80 : BitVec 32 := Scalar.extui v79
  let c0_i32_39 : BitVec 32 := 0#32
  let v81 : BitVec 1 := Scalar.cmpi .slt c512_i32_35 c0_i32_39
  let v82 : BitVec 32 := Scalar.extui v81
  let v83 : BitVec 32 := Scalar.subi v80 v82
  let v84 : BitVec 1 := Scalar.cmpi .ne v78 v83
  let v85 : BitVec 32 := Scalar.remsi v72 c512_i32_35
  let c0_i32_40 : BitVec 32 := 0#32
  let v86 : BitVec 1 := Scalar.cmpi .ne v85 c0_i32_40
  let v87 : BitVec 1 := Scalar.andi v84 v86
  let v73 : BitVec 32 := Scalar.divsi v72 c512_i32_35
  let c1_i32_41 : BitVec 32 := 1#32
  let v88 : BitVec 32 := Scalar.subi v73 c1_i32_41
  let v89 : BitVec 32 := Scalar.select v87 v88 v73
  let c0_i32_27 : BitVec 32 := 0#32
  let v54 : BitVec 1 := Scalar.cmpi .sgt v50 c0_i32_27
  let v55 : BitVec 32 := Scalar.extui v54
  let c0_i32_28 : BitVec 32 := 0#32
  let v56 : BitVec 1 := Scalar.cmpi .slt v50 c0_i32_28
  let v57 : BitVec 32 := Scalar.extui v56
  let v58 : BitVec 32 := Scalar.subi v55 v57
  let c512_i32_26 : BitVec 32 := 512#32
  let c0_i32_29 : BitVec 32 := 0#32
  let v59 : BitVec 1 := Scalar.cmpi .sgt c512_i32_26 c0_i32_29
  let v60 : BitVec 32 := Scalar.extui v59
  let c0_i32_30 : BitVec 32 := 0#32
  let v61 : BitVec 1 := Scalar.cmpi .slt c512_i32_26 c0_i32_30
  let v62 : BitVec 32 := Scalar.extui v61
  let v63 : BitVec 32 := Scalar.subi v60 v62
  let v64 : BitVec 1 := Scalar.cmpi .ne v58 v63
  let v65 : BitVec 32 := Scalar.remsi v50 c512_i32_26
  let c0_i32_31 : BitVec 32 := 0#32
  let v66 : BitVec 1 := Scalar.cmpi .ne v65 c0_i32_31
  let v67 : BitVec 1 := Scalar.andi v64 v66
  let v53 : BitVec 32 := Scalar.divsi v50 c512_i32_26
  let c1_i32_32 : BitVec 32 := 1#32
  let v68 : BitVec 32 := Scalar.subi v53 c1_i32_32
  let v69 : BitVec 32 := Scalar.select v67 v68 v53
  let v90 : BitVec 32 := Scalar.subi v89 v69
  let c1_i32_42 : BitVec 32 := 1#32
  let v91 : BitVec 32 := Scalar.addi v90 c1_i32_42
  let c0_i32_43 : BitVec 32 := 0#32
  let v92 : BitVec 32 := Scalar.select v70 v91 c0_i32_43
  let v103 : BitVec 32 := Scalar.addi v51 v92
  let c0_i32_54 : BitVec 32 := 0#32
  let v122 : BitVec 1 := Scalar.cmpi .sgt v104 c0_i32_54
  let v102 : BitVec 32 := Scalar.addi v50 v52
  let v123 : BitVec 32 := Scalar.addi v102 v104
  let c1_i32_55 : BitVec 32 := 1#32
  let v124 : BitVec 32 := Scalar.subi v123 c1_i32_55
  let c0_i32_57 : BitVec 32 := 0#32
  let v126 : BitVec 1 := Scalar.cmpi .sgt v124 c0_i32_57
  let v127 : BitVec 32 := Scalar.extui v126
  let c0_i32_58 : BitVec 32 := 0#32
  let v128 : BitVec 1 := Scalar.cmpi .slt v124 c0_i32_58
  let v129 : BitVec 32 := Scalar.extui v128
  let v130 : BitVec 32 := Scalar.subi v127 v129
  let c512_i32_56 : BitVec 32 := 512#32
  let c0_i32_59 : BitVec 32 := 0#32
  let v131 : BitVec 1 := Scalar.cmpi .sgt c512_i32_56 c0_i32_59
  let v132 : BitVec 32 := Scalar.extui v131
  let c0_i32_60 : BitVec 32 := 0#32
  let v133 : BitVec 1 := Scalar.cmpi .slt c512_i32_56 c0_i32_60
  let v134 : BitVec 32 := Scalar.extui v133
  let v135 : BitVec 32 := Scalar.subi v132 v134
  let v136 : BitVec 1 := Scalar.cmpi .ne v130 v135
  let v137 : BitVec 32 := Scalar.remsi v124 c512_i32_56
  let c0_i32_61 : BitVec 32 := 0#32
  let v138 : BitVec 1 := Scalar.cmpi .ne v137 c0_i32_61
  let v139 : BitVec 1 := Scalar.andi v136 v138
  let v125 : BitVec 32 := Scalar.divsi v124 c512_i32_56
  let c1_i32_62 : BitVec 32 := 1#32
  let v140 : BitVec 32 := Scalar.subi v125 c1_i32_62
  let v141 : BitVec 32 := Scalar.select v139 v140 v125
  let c0_i32_48 : BitVec 32 := 0#32
  let v106 : BitVec 1 := Scalar.cmpi .sgt v102 c0_i32_48
  let v107 : BitVec 32 := Scalar.extui v106
  let c0_i32_49 : BitVec 32 := 0#32
  let v108 : BitVec 1 := Scalar.cmpi .slt v102 c0_i32_49
  let v109 : BitVec 32 := Scalar.extui v108
  let v110 : BitVec 32 := Scalar.subi v107 v109
  let c512_i32_47 : BitVec 32 := 512#32
  let c0_i32_50 : BitVec 32 := 0#32
  let v111 : BitVec 1 := Scalar.cmpi .sgt c512_i32_47 c0_i32_50
  let v112 : BitVec 32 := Scalar.extui v111
  let c0_i32_51 : BitVec 32 := 0#32
  let v113 : BitVec 1 := Scalar.cmpi .slt c512_i32_47 c0_i32_51
  let v114 : BitVec 32 := Scalar.extui v113
  let v115 : BitVec 32 := Scalar.subi v112 v114
  let v116 : BitVec 1 := Scalar.cmpi .ne v110 v115
  let v117 : BitVec 32 := Scalar.remsi v102 c512_i32_47
  let c0_i32_52 : BitVec 32 := 0#32
  let v118 : BitVec 1 := Scalar.cmpi .ne v117 c0_i32_52
  let v119 : BitVec 1 := Scalar.andi v116 v118
  let v105 : BitVec 32 := Scalar.divsi v102 c512_i32_47
  let c1_i32_53 : BitVec 32 := 1#32
  let v120 : BitVec 32 := Scalar.subi v105 c1_i32_53
  let v121 : BitVec 32 := Scalar.select v119 v120 v105
  let v142 : BitVec 32 := Scalar.subi v141 v121
  let c1_i32_63 : BitVec 32 := 1#32
  let v143 : BitVec 32 := Scalar.addi v142 c1_i32_63
  let c0_i32_64 : BitVec 32 := 0#32
  let v144 : BitVec 32 := Scalar.select v122 v143 c0_i32_64
  let v155 : BitVec 32 := Scalar.addi v103 v144
  let v197 : BitVec 1 := Scalar.cmpi .sge arg0 v155
  let c0_i32_74 : BitVec 32 := 0#32
  let v174 : BitVec 1 := Scalar.cmpi .sgt v156 c0_i32_74
  let v154 : BitVec 32 := Scalar.addi v102 v104
  let v175 : BitVec 32 := Scalar.addi v154 v156
  let c1_i32_75 : BitVec 32 := 1#32
  let v176 : BitVec 32 := Scalar.subi v175 c1_i32_75
  let c0_i32_77 : BitVec 32 := 0#32
  let v178 : BitVec 1 := Scalar.cmpi .sgt v176 c0_i32_77
  let v179 : BitVec 32 := Scalar.extui v178
  let c0_i32_78 : BitVec 32 := 0#32
  let v180 : BitVec 1 := Scalar.cmpi .slt v176 c0_i32_78
  let v181 : BitVec 32 := Scalar.extui v180
  let v182 : BitVec 32 := Scalar.subi v179 v181
  let c512_i32_76 : BitVec 32 := 512#32
  let c0_i32_79 : BitVec 32 := 0#32
  let v183 : BitVec 1 := Scalar.cmpi .sgt c512_i32_76 c0_i32_79
  let v184 : BitVec 32 := Scalar.extui v183
  let c0_i32_80 : BitVec 32 := 0#32
  let v185 : BitVec 1 := Scalar.cmpi .slt c512_i32_76 c0_i32_80
  let v186 : BitVec 32 := Scalar.extui v185
  let v187 : BitVec 32 := Scalar.subi v184 v186
  let v188 : BitVec 1 := Scalar.cmpi .ne v182 v187
  let v189 : BitVec 32 := Scalar.remsi v176 c512_i32_76
  let c0_i32_81 : BitVec 32 := 0#32
  let v190 : BitVec 1 := Scalar.cmpi .ne v189 c0_i32_81
  let v191 : BitVec 1 := Scalar.andi v188 v190
  let v177 : BitVec 32 := Scalar.divsi v176 c512_i32_76
  let c1_i32_82 : BitVec 32 := 1#32
  let v192 : BitVec 32 := Scalar.subi v177 c1_i32_82
  let v193 : BitVec 32 := Scalar.select v191 v192 v177
  let c0_i32_68 : BitVec 32 := 0#32
  let v158 : BitVec 1 := Scalar.cmpi .sgt v154 c0_i32_68
  let v159 : BitVec 32 := Scalar.extui v158
  let c0_i32_69 : BitVec 32 := 0#32
  let v160 : BitVec 1 := Scalar.cmpi .slt v154 c0_i32_69
  let v161 : BitVec 32 := Scalar.extui v160
  let v162 : BitVec 32 := Scalar.subi v159 v161
  let c512_i32_67 : BitVec 32 := 512#32
  let c0_i32_70 : BitVec 32 := 0#32
  let v163 : BitVec 1 := Scalar.cmpi .sgt c512_i32_67 c0_i32_70
  let v164 : BitVec 32 := Scalar.extui v163
  let c0_i32_71 : BitVec 32 := 0#32
  let v165 : BitVec 1 := Scalar.cmpi .slt c512_i32_67 c0_i32_71
  let v166 : BitVec 32 := Scalar.extui v165
  let v167 : BitVec 32 := Scalar.subi v164 v166
  let v168 : BitVec 1 := Scalar.cmpi .ne v162 v167
  let v169 : BitVec 32 := Scalar.remsi v154 c512_i32_67
  let c0_i32_72 : BitVec 32 := 0#32
  let v170 : BitVec 1 := Scalar.cmpi .ne v169 c0_i32_72
  let v171 : BitVec 1 := Scalar.andi v168 v170
  let v157 : BitVec 32 := Scalar.divsi v154 c512_i32_67
  let c1_i32_73 : BitVec 32 := 1#32
  let v172 : BitVec 32 := Scalar.subi v157 c1_i32_73
  let v173 : BitVec 32 := Scalar.select v171 v172 v157
  let v194 : BitVec 32 := Scalar.subi v193 v173
  let c1_i32_83 : BitVec 32 := 1#32
  let v195 : BitVec 32 := Scalar.addi v194 c1_i32_83
  let c0_i32_84 : BitVec 32 := 0#32
  let v196 : BitVec 32 := Scalar.select v174 v195 c0_i32_84
  let c0_i32_85 : BitVec 32 := 0#32
  let v198 : BitVec 1 := Scalar.cmpi .sgt v196 c0_i32_85
  let v199 : BitVec 1 := Scalar.andi v197 v198
  let c3_i32 : BitVec 32 := 3#32
  let v145 : BitVec 1 := Scalar.cmpi .sge arg0 v103
  let c0_i32_65 : BitVec 32 := 0#32
  let v146 : BitVec 1 := Scalar.cmpi .sgt v144 c0_i32_65
  let v147 : BitVec 1 := Scalar.andi v145 v146
  let c2_i32 : BitVec 32 := 2#32
  let v93 : BitVec 1 := Scalar.cmpi .sge arg0 v51
  let c0_i32_44 : BitVec 32 := 0#32
  let v94 : BitVec 1 := Scalar.cmpi .sgt v92 c0_i32_44
  let v95 : BitVec 1 := Scalar.andi v93 v94
  let c1_i32_46 : BitVec 32 := 1#32
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let c0_i32_22 : BitVec 32 := 0#32
  let c0_i32_23 : BitVec 32 := 0#32
  let v49 : BitVec 32 := Scalar.select v43 c0_i32_22 c0_i32_23
  let v101 : BitVec 32 := Scalar.select v95 c1_i32_46 v49
  let v153 : BitVec 32 := Scalar.select v147 c2_i32 v101
  let v205 : BitVec 32 := Scalar.select v199 c3_i32 v153
  let v226 : Index := Scalar.indexCast v205
  ![v226.toNat]
def k0_cond1 (i : grid0.Coords) (v0 : BitVec 32) (v52 : BitVec 32) (v104 : BitVec 32) (v156 : BitVec 32) : BitVec 1 :=
  let arg0 : BitVec 32 := BitVec.ofNat 32 (i 0).val
  let c0_i32_25 : BitVec 32 := 0#32
  let c0_i32_5 : BitVec 32 := 0#32
  let v18 : BitVec 1 := Scalar.cmpi .sgt v0 c0_i32_5
  let c0_i32_6 : BitVec 32 := 0#32
  let v19 : BitVec 32 := Scalar.addi c0_i32_6 v0
  let c1_i32_7 : BitVec 32 := 1#32
  let v20 : BitVec 32 := Scalar.subi v19 c1_i32_7
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c512_i32_8 : BitVec 32 := 512#32
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_13 : BitVec 32 := 0#32
  let v34 : BitVec 1 := Scalar.cmpi .ne v33 c0_i32_13
  let v35 : BitVec 1 := Scalar.andi v32 v34
  let v21 : BitVec 32 := Scalar.divsi v20 c512_i32_8
  let c1_i32_14 : BitVec 32 := 1#32
  let v36 : BitVec 32 := Scalar.subi v21 c1_i32_14
  let v37 : BitVec 32 := Scalar.select v35 v36 v21
  let c0_i32 : BitVec 32 := 0#32
  let c0_i32_0 : BitVec 32 := 0#32
  let v2 : BitVec 1 := Scalar.cmpi .sgt c0_i32 c0_i32_0
  let v3 : BitVec 32 := Scalar.extui v2
  let c0_i32_1 : BitVec 32 := 0#32
  let v4 : BitVec 1 := Scalar.cmpi .slt c0_i32 c0_i32_1
  let v5 : BitVec 32 := Scalar.extui v4
  let v6 : BitVec 32 := Scalar.subi v3 v5
  let c512_i32 : BitVec 32 := 512#32
  let c0_i32_2 : BitVec 32 := 0#32
  let v7 : BitVec 1 := Scalar.cmpi .sgt c512_i32 c0_i32_2
  let v8 : BitVec 32 := Scalar.extui v7
  let c0_i32_3 : BitVec 32 := 0#32
  let v9 : BitVec 1 := Scalar.cmpi .slt c512_i32 c0_i32_3
  let v10 : BitVec 32 := Scalar.extui v9
  let v11 : BitVec 32 := Scalar.subi v8 v10
  let v12 : BitVec 1 := Scalar.cmpi .ne v6 v11
  let v13 : BitVec 32 := Scalar.remsi c0_i32 c512_i32
  let c0_i32_4 : BitVec 32 := 0#32
  let v14 : BitVec 1 := Scalar.cmpi .ne v13 c0_i32_4
  let v15 : BitVec 1 := Scalar.andi v12 v14
  let v1 : BitVec 32 := Scalar.divsi c0_i32 c512_i32
  let c1_i32 : BitVec 32 := 1#32
  let v16 : BitVec 32 := Scalar.subi v1 c1_i32
  let v17 : BitVec 32 := Scalar.select v15 v16 v1
  let v38 : BitVec 32 := Scalar.subi v37 v17
  let c1_i32_15 : BitVec 32 := 1#32
  let v39 : BitVec 32 := Scalar.addi v38 c1_i32_15
  let c0_i32_16 : BitVec 32 := 0#32
  let v40 : BitVec 32 := Scalar.select v18 v39 c0_i32_16
  let v51 : BitVec 32 := Scalar.addi c0_i32_25 v40
  let c0_i32_33 : BitVec 32 := 0#32
  let v70 : BitVec 1 := Scalar.cmpi .sgt v52 c0_i32_33
  let c0_i32_24 : BitVec 32 := 0#32
  let v50 : BitVec 32 := Scalar.addi c0_i32_24 v0
  let v71 : BitVec 32 := Scalar.addi v50 v52
  let c1_i32_34 : BitVec 32 := 1#32
  let v72 : BitVec 32 := Scalar.subi v71 c1_i32_34
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c512_i32_35 : BitVec 32 := 512#32
  let c0_i32_38 : BitVec 32 := 0#32
  let v79 : BitVec 1 := Scalar.cmpi .sgt c512_i32_35 c0_i32_38
  let v80 : BitVec 32 := Scalar.extui v79
  let c0_i32_39 : BitVec 32 := 0#32
  let v81 : BitVec 1 := Scalar.cmpi .slt c512_i32_35 c0_i32_39
  let v82 : BitVec 32 := Scalar.extui v81
  let v83 : BitVec 32 := Scalar.subi v80 v82
  let v84 : BitVec 1 := Scalar.cmpi .ne v78 v83
  let v85 : BitVec 32 := Scalar.remsi v72 c512_i32_35
  let c0_i32_40 : BitVec 32 := 0#32
  let v86 : BitVec 1 := Scalar.cmpi .ne v85 c0_i32_40
  let v87 : BitVec 1 := Scalar.andi v84 v86
  let v73 : BitVec 32 := Scalar.divsi v72 c512_i32_35
  let c1_i32_41 : BitVec 32 := 1#32
  let v88 : BitVec 32 := Scalar.subi v73 c1_i32_41
  let v89 : BitVec 32 := Scalar.select v87 v88 v73
  let c0_i32_27 : BitVec 32 := 0#32
  let v54 : BitVec 1 := Scalar.cmpi .sgt v50 c0_i32_27
  let v55 : BitVec 32 := Scalar.extui v54
  let c0_i32_28 : BitVec 32 := 0#32
  let v56 : BitVec 1 := Scalar.cmpi .slt v50 c0_i32_28
  let v57 : BitVec 32 := Scalar.extui v56
  let v58 : BitVec 32 := Scalar.subi v55 v57
  let c512_i32_26 : BitVec 32 := 512#32
  let c0_i32_29 : BitVec 32 := 0#32
  let v59 : BitVec 1 := Scalar.cmpi .sgt c512_i32_26 c0_i32_29
  let v60 : BitVec 32 := Scalar.extui v59
  let c0_i32_30 : BitVec 32 := 0#32
  let v61 : BitVec 1 := Scalar.cmpi .slt c512_i32_26 c0_i32_30
  let v62 : BitVec 32 := Scalar.extui v61
  let v63 : BitVec 32 := Scalar.subi v60 v62
  let v64 : BitVec 1 := Scalar.cmpi .ne v58 v63
  let v65 : BitVec 32 := Scalar.remsi v50 c512_i32_26
  let c0_i32_31 : BitVec 32 := 0#32
  let v66 : BitVec 1 := Scalar.cmpi .ne v65 c0_i32_31
  let v67 : BitVec 1 := Scalar.andi v64 v66
  let v53 : BitVec 32 := Scalar.divsi v50 c512_i32_26
  let c1_i32_32 : BitVec 32 := 1#32
  let v68 : BitVec 32 := Scalar.subi v53 c1_i32_32
  let v69 : BitVec 32 := Scalar.select v67 v68 v53
  let v90 : BitVec 32 := Scalar.subi v89 v69
  let c1_i32_42 : BitVec 32 := 1#32
  let v91 : BitVec 32 := Scalar.addi v90 c1_i32_42
  let c0_i32_43 : BitVec 32 := 0#32
  let v92 : BitVec 32 := Scalar.select v70 v91 c0_i32_43
  let v103 : BitVec 32 := Scalar.addi v51 v92
  let c0_i32_54 : BitVec 32 := 0#32
  let v122 : BitVec 1 := Scalar.cmpi .sgt v104 c0_i32_54
  let v102 : BitVec 32 := Scalar.addi v50 v52
  let v123 : BitVec 32 := Scalar.addi v102 v104
  let c1_i32_55 : BitVec 32 := 1#32
  let v124 : BitVec 32 := Scalar.subi v123 c1_i32_55
  let c0_i32_57 : BitVec 32 := 0#32
  let v126 : BitVec 1 := Scalar.cmpi .sgt v124 c0_i32_57
  let v127 : BitVec 32 := Scalar.extui v126
  let c0_i32_58 : BitVec 32 := 0#32
  let v128 : BitVec 1 := Scalar.cmpi .slt v124 c0_i32_58
  let v129 : BitVec 32 := Scalar.extui v128
  let v130 : BitVec 32 := Scalar.subi v127 v129
  let c512_i32_56 : BitVec 32 := 512#32
  let c0_i32_59 : BitVec 32 := 0#32
  let v131 : BitVec 1 := Scalar.cmpi .sgt c512_i32_56 c0_i32_59
  let v132 : BitVec 32 := Scalar.extui v131
  let c0_i32_60 : BitVec 32 := 0#32
  let v133 : BitVec 1 := Scalar.cmpi .slt c512_i32_56 c0_i32_60
  let v134 : BitVec 32 := Scalar.extui v133
  let v135 : BitVec 32 := Scalar.subi v132 v134
  let v136 : BitVec 1 := Scalar.cmpi .ne v130 v135
  let v137 : BitVec 32 := Scalar.remsi v124 c512_i32_56
  let c0_i32_61 : BitVec 32 := 0#32
  let v138 : BitVec 1 := Scalar.cmpi .ne v137 c0_i32_61
  let v139 : BitVec 1 := Scalar.andi v136 v138
  let v125 : BitVec 32 := Scalar.divsi v124 c512_i32_56
  let c1_i32_62 : BitVec 32 := 1#32
  let v140 : BitVec 32 := Scalar.subi v125 c1_i32_62
  let v141 : BitVec 32 := Scalar.select v139 v140 v125
  let c0_i32_48 : BitVec 32 := 0#32
  let v106 : BitVec 1 := Scalar.cmpi .sgt v102 c0_i32_48
  let v107 : BitVec 32 := Scalar.extui v106
  let c0_i32_49 : BitVec 32 := 0#32
  let v108 : BitVec 1 := Scalar.cmpi .slt v102 c0_i32_49
  let v109 : BitVec 32 := Scalar.extui v108
  let v110 : BitVec 32 := Scalar.subi v107 v109
  let c512_i32_47 : BitVec 32 := 512#32
  let c0_i32_50 : BitVec 32 := 0#32
  let v111 : BitVec 1 := Scalar.cmpi .sgt c512_i32_47 c0_i32_50
  let v112 : BitVec 32 := Scalar.extui v111
  let c0_i32_51 : BitVec 32 := 0#32
  let v113 : BitVec 1 := Scalar.cmpi .slt c512_i32_47 c0_i32_51
  let v114 : BitVec 32 := Scalar.extui v113
  let v115 : BitVec 32 := Scalar.subi v112 v114
  let v116 : BitVec 1 := Scalar.cmpi .ne v110 v115
  let v117 : BitVec 32 := Scalar.remsi v102 c512_i32_47
  let c0_i32_52 : BitVec 32 := 0#32
  let v118 : BitVec 1 := Scalar.cmpi .ne v117 c0_i32_52
  let v119 : BitVec 1 := Scalar.andi v116 v118
  let v105 : BitVec 32 := Scalar.divsi v102 c512_i32_47
  let c1_i32_53 : BitVec 32 := 1#32
  let v120 : BitVec 32 := Scalar.subi v105 c1_i32_53
  let v121 : BitVec 32 := Scalar.select v119 v120 v105
  let v142 : BitVec 32 := Scalar.subi v141 v121
  let c1_i32_63 : BitVec 32 := 1#32
  let v143 : BitVec 32 := Scalar.addi v142 c1_i32_63
  let c0_i32_64 : BitVec 32 := 0#32
  let v144 : BitVec 32 := Scalar.select v122 v143 c0_i32_64
  let v155 : BitVec 32 := Scalar.addi v103 v144
  let c0_i32_74 : BitVec 32 := 0#32
  let v174 : BitVec 1 := Scalar.cmpi .sgt v156 c0_i32_74
  let v154 : BitVec 32 := Scalar.addi v102 v104
  let v175 : BitVec 32 := Scalar.addi v154 v156
  let c1_i32_75 : BitVec 32 := 1#32
  let v176 : BitVec 32 := Scalar.subi v175 c1_i32_75
  let c0_i32_77 : BitVec 32 := 0#32
  let v178 : BitVec 1 := Scalar.cmpi .sgt v176 c0_i32_77
  let v179 : BitVec 32 := Scalar.extui v178
  let c0_i32_78 : BitVec 32 := 0#32
  let v180 : BitVec 1 := Scalar.cmpi .slt v176 c0_i32_78
  let v181 : BitVec 32 := Scalar.extui v180
  let v182 : BitVec 32 := Scalar.subi v179 v181
  let c512_i32_76 : BitVec 32 := 512#32
  let c0_i32_79 : BitVec 32 := 0#32
  let v183 : BitVec 1 := Scalar.cmpi .sgt c512_i32_76 c0_i32_79
  let v184 : BitVec 32 := Scalar.extui v183
  let c0_i32_80 : BitVec 32 := 0#32
  let v185 : BitVec 1 := Scalar.cmpi .slt c512_i32_76 c0_i32_80
  let v186 : BitVec 32 := Scalar.extui v185
  let v187 : BitVec 32 := Scalar.subi v184 v186
  let v188 : BitVec 1 := Scalar.cmpi .ne v182 v187
  let v189 : BitVec 32 := Scalar.remsi v176 c512_i32_76
  let c0_i32_81 : BitVec 32 := 0#32
  let v190 : BitVec 1 := Scalar.cmpi .ne v189 c0_i32_81
  let v191 : BitVec 1 := Scalar.andi v188 v190
  let v177 : BitVec 32 := Scalar.divsi v176 c512_i32_76
  let c1_i32_82 : BitVec 32 := 1#32
  let v192 : BitVec 32 := Scalar.subi v177 c1_i32_82
  let v193 : BitVec 32 := Scalar.select v191 v192 v177
  let c0_i32_68 : BitVec 32 := 0#32
  let v158 : BitVec 1 := Scalar.cmpi .sgt v154 c0_i32_68
  let v159 : BitVec 32 := Scalar.extui v158
  let c0_i32_69 : BitVec 32 := 0#32
  let v160 : BitVec 1 := Scalar.cmpi .slt v154 c0_i32_69
  let v161 : BitVec 32 := Scalar.extui v160
  let v162 : BitVec 32 := Scalar.subi v159 v161
  let c512_i32_67 : BitVec 32 := 512#32
  let c0_i32_70 : BitVec 32 := 0#32
  let v163 : BitVec 1 := Scalar.cmpi .sgt c512_i32_67 c0_i32_70
  let v164 : BitVec 32 := Scalar.extui v163
  let c0_i32_71 : BitVec 32 := 0#32
  let v165 : BitVec 1 := Scalar.cmpi .slt c512_i32_67 c0_i32_71
  let v166 : BitVec 32 := Scalar.extui v165
  let v167 : BitVec 32 := Scalar.subi v164 v166
  let v168 : BitVec 1 := Scalar.cmpi .ne v162 v167
  let v169 : BitVec 32 := Scalar.remsi v154 c512_i32_67
  let c0_i32_72 : BitVec 32 := 0#32
  let v170 : BitVec 1 := Scalar.cmpi .ne v169 c0_i32_72
  let v171 : BitVec 1 := Scalar.andi v168 v170
  let v157 : BitVec 32 := Scalar.divsi v154 c512_i32_67
  let c1_i32_73 : BitVec 32 := 1#32
  let v172 : BitVec 32 := Scalar.subi v157 c1_i32_73
  let v173 : BitVec 32 := Scalar.select v171 v172 v157
  let v194 : BitVec 32 := Scalar.subi v193 v173
  let c1_i32_83 : BitVec 32 := 1#32
  let v195 : BitVec 32 := Scalar.addi v194 c1_i32_83
  let c0_i32_84 : BitVec 32 := 0#32
  let v196 : BitVec 32 := Scalar.select v174 v195 c0_i32_84
  let v206 : BitVec 32 := Scalar.addi v155 v196
  let v207 : BitVec 1 := Scalar.cmpi .slt arg0 v206
  let v208 : BitVec 32 := Scalar.extui v207
  let c0_i32_87 : BitVec 32 := 0#32
  let v209 : BitVec 1 := Scalar.cmpi .ne v208 c0_i32_87
  v209

def k0_chk1 (i : grid0.Coords) (v0 : BitVec 32) (v52 : BitVec 32) (v104 : BitVec 32) (v156 : BitVec 32) : Prop :=
  (∀ (k0_h1 : k0_cond1 i v0 v52 v104 v156 = 1#1), ∀ a, (k0_off1 i v0 v52 v104 v156) a + S1.size a ≤ S4.size a)
theorem k0_off1_inb : ∀ (i : grid0.Coords) (v0 : BitVec 32) (v52 : BitVec 32) (v104 : BitVec 32) (v156 : BitVec 32) (k0_hw1 : k0_chk1 i v0 v52 v104 v156), ∀ (k0_h1 : k0_cond1 i v0 v52 v104 v156 = 1#1), ∀ a, (k0_off1 i v0 v52 v104 v156) a + S1.size a ≤ S4.size a := fun i v0 v52 v104 v156 k0_hw1 k0_h1 => k0_hw1 k0_h1

def cc0_transform_0 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c512_i32 : BitVec 32 := 512#32
  let v1 : BitVec 32 := Scalar.divsi c0_i32 c512_i32
  let c0_i32_0 : BitVec 32 := 0#32
  let v2 : BitVec 1 := Scalar.cmpi .sgt c0_i32 c0_i32_0
  let v3 : BitVec 32 := Scalar.extui v2
  let c0_i32_1 : BitVec 32 := 0#32
  let v4 : BitVec 1 := Scalar.cmpi .slt c0_i32 c0_i32_1
  let v5 : BitVec 32 := Scalar.extui v4
  let v6 : BitVec 32 := Scalar.subi v3 v5
  let c0_i32_2 : BitVec 32 := 0#32
  let v7 : BitVec 1 := Scalar.cmpi .sgt c512_i32 c0_i32_2
  let v8 : BitVec 32 := Scalar.extui v7
  let c0_i32_3 : BitVec 32 := 0#32
  let v9 : BitVec 1 := Scalar.cmpi .slt c512_i32 c0_i32_3
  let v10 : BitVec 32 := Scalar.extui v9
  let v11 : BitVec 32 := Scalar.subi v8 v10
  let v12 : BitVec 1 := Scalar.cmpi .ne v6 v11
  let v13 : BitVec 32 := Scalar.remsi c0_i32 c512_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 1 := Scalar.cmpi .sgt v0 c0_i32_5
  let c0_i32_6 : BitVec 32 := 0#32
  let v19 : BitVec 32 := Scalar.addi c0_i32_6 v0
  let c1_i32_7 : BitVec 32 := 1#32
  let v20 : BitVec 32 := Scalar.subi v19 c1_i32_7
  let c512_i32_8 : BitVec 32 := 512#32
  let v21 : BitVec 32 := Scalar.divsi v20 c512_i32_8
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_13 : BitVec 32 := 0#32
  let v34 : BitVec 1 := Scalar.cmpi .ne v33 c0_i32_13
  let v35 : BitVec 1 := Scalar.andi v32 v34
  let c1_i32_14 : BitVec 32 := 1#32
  let v36 : BitVec 32 := Scalar.subi v21 c1_i32_14
  let v37 : BitVec 32 := Scalar.select v35 v36 v21
  let v38 : BitVec 32 := Scalar.subi v37 v17
  let c1_i32_15 : BitVec 32 := 1#32
  let v39 : BitVec 32 := Scalar.addi v38 c1_i32_15
  let c0_i32_16 : BitVec 32 := 0#32
  let v40 : BitVec 32 := Scalar.select v18 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let c0_i32_19 : BitVec 32 := 0#32
  let v44 : BitVec 32 := Scalar.subi arg0 c0_i32_19
  let c1_i32_20 : BitVec 32 := 1#32
  let v45 : BitVec 32 := Scalar.subi v40 c1_i32_20
  let v46 : BitVec 32 := Scalar.minsi v44 v45
  let v47 : BitVec 32 := Scalar.addi v17 v46
  let c0_i32_21 : BitVec 32 := 0#32
  let v48 : BitVec 32 := Scalar.select v43 v47 c0_i32_21
  let c0_i32_22 : BitVec 32 := 0#32
  let c0_i32_23 : BitVec 32 := 0#32
  let v49 : BitVec 32 := Scalar.select v43 c0_i32_22 c0_i32_23
  let c0_i32_24 : BitVec 32 := 0#32
  let v50 : BitVec 32 := Scalar.addi c0_i32_24 v0
  let c0_i32_25 : BitVec 32 := 0#32
  let v51 : BitVec 32 := Scalar.addi c0_i32_25 v40
  let c1 : Index := 1#32
  let v52 : BitVec 32 := pf.at 0 (Rect.unit (s := S4) ![1] S1.size inb_S4_S1_1) numel1_S1
  let c512_i32_26 : BitVec 32 := 512#32
  let v53 : BitVec 32 := Scalar.divsi v50 c512_i32_26
  let c0_i32_27 : BitVec 32 := 0#32
  let v54 : BitVec 1 := Scalar.cmpi .sgt v50 c0_i32_27
  let v55 : BitVec 32 := Scalar.extui v54
  let c0_i32_28 : BitVec 32 := 0#32
  let v56 : BitVec 1 := Scalar.cmpi .slt v50 c0_i32_28
  let v57 : BitVec 32 := Scalar.extui v56
  let v58 : BitVec 32 := Scalar.subi v55 v57
  let c0_i32_29 : BitVec 32 := 0#32
  let v59 : BitVec 1 := Scalar.cmpi .sgt c512_i32_26 c0_i32_29
  let v60 : BitVec 32 := Scalar.extui v59
  let c0_i32_30 : BitVec 32 := 0#32
  let v61 : BitVec 1 := Scalar.cmpi .slt c512_i32_26 c0_i32_30
  let v62 : BitVec 32 := Scalar.extui v61
  let v63 : BitVec 32 := Scalar.subi v60 v62
  let v64 : BitVec 1 := Scalar.cmpi .ne v58 v63
  let v65 : BitVec 32 := Scalar.remsi v50 c512_i32_26
  let c0_i32_31 : BitVec 32 := 0#32
  let v66 : BitVec 1 := Scalar.cmpi .ne v65 c0_i32_31
  let v67 : BitVec 1 := Scalar.andi v64 v66
  let c1_i32_32 : BitVec 32 := 1#32
  let v68 : BitVec 32 := Scalar.subi v53 c1_i32_32
  let v69 : BitVec 32 := Scalar.select v67 v68 v53
  let c0_i32_33 : BitVec 32 := 0#32
  let v70 : BitVec 1 := Scalar.cmpi .sgt v52 c0_i32_33
  let v71 : BitVec 32 := Scalar.addi v50 v52
  let c1_i32_34 : BitVec 32 := 1#32
  let v72 : BitVec 32 := Scalar.subi v71 c1_i32_34
  let c512_i32_35 : BitVec 32 := 512#32
  let v73 : BitVec 32 := Scalar.divsi v72 c512_i32_35
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c0_i32_38 : BitVec 32 := 0#32
  let v79 : BitVec 1 := Scalar.cmpi .sgt c512_i32_35 c0_i32_38
  let v80 : BitVec 32 := Scalar.extui v79
  let c0_i32_39 : BitVec 32 := 0#32
  let v81 : BitVec 1 := Scalar.cmpi .slt c512_i32_35 c0_i32_39
  let v82 : BitVec 32 := Scalar.extui v81
  let v83 : BitVec 32 := Scalar.subi v80 v82
  let v84 : BitVec 1 := Scalar.cmpi .ne v78 v83
  let v85 : BitVec 32 := Scalar.remsi v72 c512_i32_35
  let c0_i32_40 : BitVec 32 := 0#32
  let v86 : BitVec 1 := Scalar.cmpi .ne v85 c0_i32_40
  let v87 : BitVec 1 := Scalar.andi v84 v86
  let c1_i32_41 : BitVec 32 := 1#32
  let v88 : BitVec 32 := Scalar.subi v73 c1_i32_41
  let v89 : BitVec 32 := Scalar.select v87 v88 v73
  let v90 : BitVec 32 := Scalar.subi v89 v69
  let c1_i32_42 : BitVec 32 := 1#32
  let v91 : BitVec 32 := Scalar.addi v90 c1_i32_42
  let c0_i32_43 : BitVec 32 := 0#32
  let v92 : BitVec 32 := Scalar.select v70 v91 c0_i32_43
  let v93 : BitVec 1 := Scalar.cmpi .sge arg0 v51
  let c0_i32_44 : BitVec 32 := 0#32
  let v94 : BitVec 1 := Scalar.cmpi .sgt v92 c0_i32_44
  let v95 : BitVec 1 := Scalar.andi v93 v94
  let v96 : BitVec 32 := Scalar.subi arg0 v51
  let c1_i32_45 : BitVec 32 := 1#32
  let v97 : BitVec 32 := Scalar.subi v92 c1_i32_45
  let v98 : BitVec 32 := Scalar.minsi v96 v97
  let v99 : BitVec 32 := Scalar.addi v69 v98
  let v100 : BitVec 32 := Scalar.select v95 v99 v48
  let c1_i32_46 : BitVec 32 := 1#32
  let v101 : BitVec 32 := Scalar.select v95 c1_i32_46 v49
  let v102 : BitVec 32 := Scalar.addi v50 v52
  let v103 : BitVec 32 := Scalar.addi v51 v92
  let c2 : Index := 2#32
  let v104 : BitVec 32 := pf.at 0 (Rect.unit (s := S4) ![2] S1.size inb_S4_S1_2) numel1_S1
  let c512_i32_47 : BitVec 32 := 512#32
  let v105 : BitVec 32 := Scalar.divsi v102 c512_i32_47
  let c0_i32_48 : BitVec 32 := 0#32
  let v106 : BitVec 1 := Scalar.cmpi .sgt v102 c0_i32_48
  let v107 : BitVec 32 := Scalar.extui v106
  let c0_i32_49 : BitVec 32 := 0#32
  let v108 : BitVec 1 := Scalar.cmpi .slt v102 c0_i32_49
  let v109 : BitVec 32 := Scalar.extui v108
  let v110 : BitVec 32 := Scalar.subi v107 v109
  let c0_i32_50 : BitVec 32 := 0#32
  let v111 : BitVec 1 := Scalar.cmpi .sgt c512_i32_47 c0_i32_50
  let v112 : BitVec 32 := Scalar.extui v111
  let c0_i32_51 : BitVec 32 := 0#32
  let v113 : BitVec 1 := Scalar.cmpi .slt c512_i32_47 c0_i32_51
  let v114 : BitVec 32 := Scalar.extui v113
  let v115 : BitVec 32 := Scalar.subi v112 v114
  let v116 : BitVec 1 := Scalar.cmpi .ne v110 v115
  let v117 : BitVec 32 := Scalar.remsi v102 c512_i32_47
  let c0_i32_52 : BitVec 32 := 0#32
  let v118 : BitVec 1 := Scalar.cmpi .ne v117 c0_i32_52
  let v119 : BitVec 1 := Scalar.andi v116 v118
  let c1_i32_53 : BitVec 32 := 1#32
  let v120 : BitVec 32 := Scalar.subi v105 c1_i32_53
  let v121 : BitVec 32 := Scalar.select v119 v120 v105
  let c0_i32_54 : BitVec 32 := 0#32
  let v122 : BitVec 1 := Scalar.cmpi .sgt v104 c0_i32_54
  let v123 : BitVec 32 := Scalar.addi v102 v104
  let c1_i32_55 : BitVec 32 := 1#32
  let v124 : BitVec 32 := Scalar.subi v123 c1_i32_55
  let c512_i32_56 : BitVec 32 := 512#32
  let v125 : BitVec 32 := Scalar.divsi v124 c512_i32_56
  let c0_i32_57 : BitVec 32 := 0#32
  let v126 : BitVec 1 := Scalar.cmpi .sgt v124 c0_i32_57
  let v127 : BitVec 32 := Scalar.extui v126
  let c0_i32_58 : BitVec 32 := 0#32
  let v128 : BitVec 1 := Scalar.cmpi .slt v124 c0_i32_58
  let v129 : BitVec 32 := Scalar.extui v128
  let v130 : BitVec 32 := Scalar.subi v127 v129
  let c0_i32_59 : BitVec 32 := 0#32
  let v131 : BitVec 1 := Scalar.cmpi .sgt c512_i32_56 c0_i32_59
  let v132 : BitVec 32 := Scalar.extui v131
  let c0_i32_60 : BitVec 32 := 0#32
  let v133 : BitVec 1 := Scalar.cmpi .slt c512_i32_56 c0_i32_60
  let v134 : BitVec 32 := Scalar.extui v133
  let v135 : BitVec 32 := Scalar.subi v132 v134
  let v136 : BitVec 1 := Scalar.cmpi .ne v130 v135
  let v137 : BitVec 32 := Scalar.remsi v124 c512_i32_56
  let c0_i32_61 : BitVec 32 := 0#32
  let v138 : BitVec 1 := Scalar.cmpi .ne v137 c0_i32_61
  let v139 : BitVec 1 := Scalar.andi v136 v138
  let c1_i32_62 : BitVec 32 := 1#32
  let v140 : BitVec 32 := Scalar.subi v125 c1_i32_62
  let v141 : BitVec 32 := Scalar.select v139 v140 v125
  let v142 : BitVec 32 := Scalar.subi v141 v121
  let c1_i32_63 : BitVec 32 := 1#32
  let v143 : BitVec 32 := Scalar.addi v142 c1_i32_63
  let c0_i32_64 : BitVec 32 := 0#32
  let v144 : BitVec 32 := Scalar.select v122 v143 c0_i32_64
  let v145 : BitVec 1 := Scalar.cmpi .sge arg0 v103
  let c0_i32_65 : BitVec 32 := 0#32
  let v146 : BitVec 1 := Scalar.cmpi .sgt v144 c0_i32_65
  let v147 : BitVec 1 := Scalar.andi v145 v146
  let v148 : BitVec 32 := Scalar.subi arg0 v103
  let c1_i32_66 : BitVec 32 := 1#32
  let v149 : BitVec 32 := Scalar.subi v144 c1_i32_66
  let v150 : BitVec 32 := Scalar.minsi v148 v149
  let v151 : BitVec 32 := Scalar.addi v121 v150
  let v152 : BitVec 32 := Scalar.select v147 v151 v100
  let c2_i32 : BitVec 32 := 2#32
  let v153 : BitVec 32 := Scalar.select v147 c2_i32 v101
  let v154 : BitVec 32 := Scalar.addi v102 v104
  let v155 : BitVec 32 := Scalar.addi v103 v144
  let c3 : Index := 3#32
  let v156 : BitVec 32 := pf.at 0 (Rect.unit (s := S4) ![3] S1.size inb_S4_S1_3) numel1_S1
  let c512_i32_67 : BitVec 32 := 512#32
  let v157 : BitVec 32 := Scalar.divsi v154 c512_i32_67
  let c0_i32_68 : BitVec 32 := 0#32
  let v158 : BitVec 1 := Scalar.cmpi .sgt v154 c0_i32_68
  let v159 : BitVec 32 := Scalar.extui v158
  let c0_i32_69 : BitVec 32 := 0#32
  let v160 : BitVec 1 := Scalar.cmpi .slt v154 c0_i32_69
  let v161 : BitVec 32 := Scalar.extui v160
  let v162 : BitVec 32 := Scalar.subi v159 v161
  let c0_i32_70 : BitVec 32 := 0#32
  let v163 : BitVec 1 := Scalar.cmpi .sgt c512_i32_67 c0_i32_70
  let v164 : BitVec 32 := Scalar.extui v163
  let c0_i32_71 : BitVec 32 := 0#32
  let v165 : BitVec 1 := Scalar.cmpi .slt c512_i32_67 c0_i32_71
  let v166 : BitVec 32 := Scalar.extui v165
  let v167 : BitVec 32 := Scalar.subi v164 v166
  let v168 : BitVec 1 := Scalar.cmpi .ne v162 v167
  let v169 : BitVec 32 := Scalar.remsi v154 c512_i32_67
  let c0_i32_72 : BitVec 32 := 0#32
  let v170 : BitVec 1 := Scalar.cmpi .ne v169 c0_i32_72
  let v171 : BitVec 1 := Scalar.andi v168 v170
  let c1_i32_73 : BitVec 32 := 1#32
  let v172 : BitVec 32 := Scalar.subi v157 c1_i32_73
  let v173 : BitVec 32 := Scalar.select v171 v172 v157
  let c0_i32_74 : BitVec 32 := 0#32
  let v174 : BitVec 1 := Scalar.cmpi .sgt v156 c0_i32_74
  let v175 : BitVec 32 := Scalar.addi v154 v156
  let c1_i32_75 : BitVec 32 := 1#32
  let v176 : BitVec 32 := Scalar.subi v175 c1_i32_75
  let c512_i32_76 : BitVec 32 := 512#32
  let v177 : BitVec 32 := Scalar.divsi v176 c512_i32_76
  let c0_i32_77 : BitVec 32 := 0#32
  let v178 : BitVec 1 := Scalar.cmpi .sgt v176 c0_i32_77
  let v179 : BitVec 32 := Scalar.extui v178
  let c0_i32_78 : BitVec 32 := 0#32
  let v180 : BitVec 1 := Scalar.cmpi .slt v176 c0_i32_78
  let v181 : BitVec 32 := Scalar.extui v180
  let v182 : BitVec 32 := Scalar.subi v179 v181
  let c0_i32_79 : BitVec 32 := 0#32
  let v183 : BitVec 1 := Scalar.cmpi .sgt c512_i32_76 c0_i32_79
  let v184 : BitVec 32 := Scalar.extui v183
  let c0_i32_80 : BitVec 32 := 0#32
  let v185 : BitVec 1 := Scalar.cmpi .slt c512_i32_76 c0_i32_80
  let v186 : BitVec 32 := Scalar.extui v185
  let v187 : BitVec 32 := Scalar.subi v184 v186
  let v188 : BitVec 1 := Scalar.cmpi .ne v182 v187
  let v189 : BitVec 32 := Scalar.remsi v176 c512_i32_76
  let c0_i32_81 : BitVec 32 := 0#32
  let v190 : BitVec 1 := Scalar.cmpi .ne v189 c0_i32_81
  let v191 : BitVec 1 := Scalar.andi v188 v190
  let c1_i32_82 : BitVec 32 := 1#32
  let v192 : BitVec 32 := Scalar.subi v177 c1_i32_82
  let v193 : BitVec 32 := Scalar.select v191 v192 v177
  let v194 : BitVec 32 := Scalar.subi v193 v173
  let c1_i32_83 : BitVec 32 := 1#32
  let v195 : BitVec 32 := Scalar.addi v194 c1_i32_83
  let c0_i32_84 : BitVec 32 := 0#32
  let v196 : BitVec 32 := Scalar.select v174 v195 c0_i32_84
  let v197 : BitVec 1 := Scalar.cmpi .sge arg0 v155
  let c0_i32_85 : BitVec 32 := 0#32
  let v198 : BitVec 1 := Scalar.cmpi .sgt v196 c0_i32_85
  let v199 : BitVec 1 := Scalar.andi v197 v198
  let v200 : BitVec 32 := Scalar.subi arg0 v155
  let c1_i32_86 : BitVec 32 := 1#32
  let v201 : BitVec 32 := Scalar.subi v196 c1_i32_86
  let v202 : BitVec 32 := Scalar.minsi v200 v201
  let v203 : BitVec 32 := Scalar.addi v173 v202
  let v204 : BitVec 32 := Scalar.select v199 v203 v152
  let c3_i32 : BitVec 32 := 3#32
  let v205 : BitVec 32 := Scalar.select v199 c3_i32 v153
  let v206 : BitVec 32 := Scalar.addi v154 v156
  let v207 : BitVec 32 := Scalar.addi v155 v196
  let v208 : BitVec 1 := Scalar.cmpi .slt arg0 v207
  let c0_i32_87 : BitVec 32 := 0#32
  let c0_i32_88 : BitVec 32 := 0#32
  ![v204.toNat, c0_i32_87.toNat]

def cc0_transform_1 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c512_i32 : BitVec 32 := 512#32
  let v1 : BitVec 32 := Scalar.divsi c0_i32 c512_i32
  let c0_i32_0 : BitVec 32 := 0#32
  let v2 : BitVec 1 := Scalar.cmpi .sgt c0_i32 c0_i32_0
  let v3 : BitVec 32 := Scalar.extui v2
  let c0_i32_1 : BitVec 32 := 0#32
  let v4 : BitVec 1 := Scalar.cmpi .slt c0_i32 c0_i32_1
  let v5 : BitVec 32 := Scalar.extui v4
  let v6 : BitVec 32 := Scalar.subi v3 v5
  let c0_i32_2 : BitVec 32 := 0#32
  let v7 : BitVec 1 := Scalar.cmpi .sgt c512_i32 c0_i32_2
  let v8 : BitVec 32 := Scalar.extui v7
  let c0_i32_3 : BitVec 32 := 0#32
  let v9 : BitVec 1 := Scalar.cmpi .slt c512_i32 c0_i32_3
  let v10 : BitVec 32 := Scalar.extui v9
  let v11 : BitVec 32 := Scalar.subi v8 v10
  let v12 : BitVec 1 := Scalar.cmpi .ne v6 v11
  let v13 : BitVec 32 := Scalar.remsi c0_i32 c512_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 1 := Scalar.cmpi .sgt v0 c0_i32_5
  let c0_i32_6 : BitVec 32 := 0#32
  let v19 : BitVec 32 := Scalar.addi c0_i32_6 v0
  let c1_i32_7 : BitVec 32 := 1#32
  let v20 : BitVec 32 := Scalar.subi v19 c1_i32_7
  let c512_i32_8 : BitVec 32 := 512#32
  let v21 : BitVec 32 := Scalar.divsi v20 c512_i32_8
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_13 : BitVec 32 := 0#32
  let v34 : BitVec 1 := Scalar.cmpi .ne v33 c0_i32_13
  let v35 : BitVec 1 := Scalar.andi v32 v34
  let c1_i32_14 : BitVec 32 := 1#32
  let v36 : BitVec 32 := Scalar.subi v21 c1_i32_14
  let v37 : BitVec 32 := Scalar.select v35 v36 v21
  let v38 : BitVec 32 := Scalar.subi v37 v17
  let c1_i32_15 : BitVec 32 := 1#32
  let v39 : BitVec 32 := Scalar.addi v38 c1_i32_15
  let c0_i32_16 : BitVec 32 := 0#32
  let v40 : BitVec 32 := Scalar.select v18 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let c0_i32_19 : BitVec 32 := 0#32
  let v44 : BitVec 32 := Scalar.subi arg0 c0_i32_19
  let c1_i32_20 : BitVec 32 := 1#32
  let v45 : BitVec 32 := Scalar.subi v40 c1_i32_20
  let v46 : BitVec 32 := Scalar.minsi v44 v45
  let v47 : BitVec 32 := Scalar.addi v17 v46
  let c0_i32_21 : BitVec 32 := 0#32
  let v48 : BitVec 32 := Scalar.select v43 v47 c0_i32_21
  let c0_i32_22 : BitVec 32 := 0#32
  let c0_i32_23 : BitVec 32 := 0#32
  let v49 : BitVec 32 := Scalar.select v43 c0_i32_22 c0_i32_23
  let c0_i32_24 : BitVec 32 := 0#32
  let v50 : BitVec 32 := Scalar.addi c0_i32_24 v0
  let c0_i32_25 : BitVec 32 := 0#32
  let v51 : BitVec 32 := Scalar.addi c0_i32_25 v40
  let c1 : Index := 1#32
  let v52 : BitVec 32 := pf.at 0 (Rect.unit (s := S4) ![1] S1.size inb_S4_S1_1) numel1_S1
  let c512_i32_26 : BitVec 32 := 512#32
  let v53 : BitVec 32 := Scalar.divsi v50 c512_i32_26
  let c0_i32_27 : BitVec 32 := 0#32
  let v54 : BitVec 1 := Scalar.cmpi .sgt v50 c0_i32_27
  let v55 : BitVec 32 := Scalar.extui v54
  let c0_i32_28 : BitVec 32 := 0#32
  let v56 : BitVec 1 := Scalar.cmpi .slt v50 c0_i32_28
  let v57 : BitVec 32 := Scalar.extui v56
  let v58 : BitVec 32 := Scalar.subi v55 v57
  let c0_i32_29 : BitVec 32 := 0#32
  let v59 : BitVec 1 := Scalar.cmpi .sgt c512_i32_26 c0_i32_29
  let v60 : BitVec 32 := Scalar.extui v59
  let c0_i32_30 : BitVec 32 := 0#32
  let v61 : BitVec 1 := Scalar.cmpi .slt c512_i32_26 c0_i32_30
  let v62 : BitVec 32 := Scalar.extui v61
  let v63 : BitVec 32 := Scalar.subi v60 v62
  let v64 : BitVec 1 := Scalar.cmpi .ne v58 v63
  let v65 : BitVec 32 := Scalar.remsi v50 c512_i32_26
  let c0_i32_31 : BitVec 32 := 0#32
  let v66 : BitVec 1 := Scalar.cmpi .ne v65 c0_i32_31
  let v67 : BitVec 1 := Scalar.andi v64 v66
  let c1_i32_32 : BitVec 32 := 1#32
  let v68 : BitVec 32 := Scalar.subi v53 c1_i32_32
  let v69 : BitVec 32 := Scalar.select v67 v68 v53
  let c0_i32_33 : BitVec 32 := 0#32
  let v70 : BitVec 1 := Scalar.cmpi .sgt v52 c0_i32_33
  let v71 : BitVec 32 := Scalar.addi v50 v52
  let c1_i32_34 : BitVec 32 := 1#32
  let v72 : BitVec 32 := Scalar.subi v71 c1_i32_34
  let c512_i32_35 : BitVec 32 := 512#32
  let v73 : BitVec 32 := Scalar.divsi v72 c512_i32_35
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c0_i32_38 : BitVec 32 := 0#32
  let v79 : BitVec 1 := Scalar.cmpi .sgt c512_i32_35 c0_i32_38
  let v80 : BitVec 32 := Scalar.extui v79
  let c0_i32_39 : BitVec 32 := 0#32
  let v81 : BitVec 1 := Scalar.cmpi .slt c512_i32_35 c0_i32_39
  let v82 : BitVec 32 := Scalar.extui v81
  let v83 : BitVec 32 := Scalar.subi v80 v82
  let v84 : BitVec 1 := Scalar.cmpi .ne v78 v83
  let v85 : BitVec 32 := Scalar.remsi v72 c512_i32_35
  let c0_i32_40 : BitVec 32 := 0#32
  let v86 : BitVec 1 := Scalar.cmpi .ne v85 c0_i32_40
  let v87 : BitVec 1 := Scalar.andi v84 v86
  let c1_i32_41 : BitVec 32 := 1#32
  let v88 : BitVec 32 := Scalar.subi v73 c1_i32_41
  let v89 : BitVec 32 := Scalar.select v87 v88 v73
  let v90 : BitVec 32 := Scalar.subi v89 v69
  let c1_i32_42 : BitVec 32 := 1#32
  let v91 : BitVec 32 := Scalar.addi v90 c1_i32_42
  let c0_i32_43 : BitVec 32 := 0#32
  let v92 : BitVec 32 := Scalar.select v70 v91 c0_i32_43
  let v93 : BitVec 1 := Scalar.cmpi .sge arg0 v51
  let c0_i32_44 : BitVec 32 := 0#32
  let v94 : BitVec 1 := Scalar.cmpi .sgt v92 c0_i32_44
  let v95 : BitVec 1 := Scalar.andi v93 v94
  let v96 : BitVec 32 := Scalar.subi arg0 v51
  let c1_i32_45 : BitVec 32 := 1#32
  let v97 : BitVec 32 := Scalar.subi v92 c1_i32_45
  let v98 : BitVec 32 := Scalar.minsi v96 v97
  let v99 : BitVec 32 := Scalar.addi v69 v98
  let v100 : BitVec 32 := Scalar.select v95 v99 v48
  let c1_i32_46 : BitVec 32 := 1#32
  let v101 : BitVec 32 := Scalar.select v95 c1_i32_46 v49
  let v102 : BitVec 32 := Scalar.addi v50 v52
  let v103 : BitVec 32 := Scalar.addi v51 v92
  let c2 : Index := 2#32
  let v104 : BitVec 32 := pf.at 0 (Rect.unit (s := S4) ![2] S1.size inb_S4_S1_2) numel1_S1
  let c512_i32_47 : BitVec 32 := 512#32
  let v105 : BitVec 32 := Scalar.divsi v102 c512_i32_47
  let c0_i32_48 : BitVec 32 := 0#32
  let v106 : BitVec 1 := Scalar.cmpi .sgt v102 c0_i32_48
  let v107 : BitVec 32 := Scalar.extui v106
  let c0_i32_49 : BitVec 32 := 0#32
  let v108 : BitVec 1 := Scalar.cmpi .slt v102 c0_i32_49
  let v109 : BitVec 32 := Scalar.extui v108
  let v110 : BitVec 32 := Scalar.subi v107 v109
  let c0_i32_50 : BitVec 32 := 0#32
  let v111 : BitVec 1 := Scalar.cmpi .sgt c512_i32_47 c0_i32_50
  let v112 : BitVec 32 := Scalar.extui v111
  let c0_i32_51 : BitVec 32 := 0#32
  let v113 : BitVec 1 := Scalar.cmpi .slt c512_i32_47 c0_i32_51
  let v114 : BitVec 32 := Scalar.extui v113
  let v115 : BitVec 32 := Scalar.subi v112 v114
  let v116 : BitVec 1 := Scalar.cmpi .ne v110 v115
  let v117 : BitVec 32 := Scalar.remsi v102 c512_i32_47
  let c0_i32_52 : BitVec 32 := 0#32
  let v118 : BitVec 1 := Scalar.cmpi .ne v117 c0_i32_52
  let v119 : BitVec 1 := Scalar.andi v116 v118
  let c1_i32_53 : BitVec 32 := 1#32
  let v120 : BitVec 32 := Scalar.subi v105 c1_i32_53
  let v121 : BitVec 32 := Scalar.select v119 v120 v105
  let c0_i32_54 : BitVec 32 := 0#32
  let v122 : BitVec 1 := Scalar.cmpi .sgt v104 c0_i32_54
  let v123 : BitVec 32 := Scalar.addi v102 v104
  let c1_i32_55 : BitVec 32 := 1#32
  let v124 : BitVec 32 := Scalar.subi v123 c1_i32_55
  let c512_i32_56 : BitVec 32 := 512#32
  let v125 : BitVec 32 := Scalar.divsi v124 c512_i32_56
  let c0_i32_57 : BitVec 32 := 0#32
  let v126 : BitVec 1 := Scalar.cmpi .sgt v124 c0_i32_57
  let v127 : BitVec 32 := Scalar.extui v126
  let c0_i32_58 : BitVec 32 := 0#32
  let v128 : BitVec 1 := Scalar.cmpi .slt v124 c0_i32_58
  let v129 : BitVec 32 := Scalar.extui v128
  let v130 : BitVec 32 := Scalar.subi v127 v129
  let c0_i32_59 : BitVec 32 := 0#32
  let v131 : BitVec 1 := Scalar.cmpi .sgt c512_i32_56 c0_i32_59
  let v132 : BitVec 32 := Scalar.extui v131
  let c0_i32_60 : BitVec 32 := 0#32
  let v133 : BitVec 1 := Scalar.cmpi .slt c512_i32_56 c0_i32_60
  let v134 : BitVec 32 := Scalar.extui v133
  let v135 : BitVec 32 := Scalar.subi v132 v134
  let v136 : BitVec 1 := Scalar.cmpi .ne v130 v135
  let v137 : BitVec 32 := Scalar.remsi v124 c512_i32_56
  let c0_i32_61 : BitVec 32 := 0#32
  let v138 : BitVec 1 := Scalar.cmpi .ne v137 c0_i32_61
  let v139 : BitVec 1 := Scalar.andi v136 v138
  let c1_i32_62 : BitVec 32 := 1#32
  let v140 : BitVec 32 := Scalar.subi v125 c1_i32_62
  let v141 : BitVec 32 := Scalar.select v139 v140 v125
  let v142 : BitVec 32 := Scalar.subi v141 v121
  let c1_i32_63 : BitVec 32 := 1#32
  let v143 : BitVec 32 := Scalar.addi v142 c1_i32_63
  let c0_i32_64 : BitVec 32 := 0#32
  let v144 : BitVec 32 := Scalar.select v122 v143 c0_i32_64
  let v145 : BitVec 1 := Scalar.cmpi .sge arg0 v103
  let c0_i32_65 : BitVec 32 := 0#32
  let v146 : BitVec 1 := Scalar.cmpi .sgt v144 c0_i32_65
  let v147 : BitVec 1 := Scalar.andi v145 v146
  let v148 : BitVec 32 := Scalar.subi arg0 v103
  let c1_i32_66 : BitVec 32 := 1#32
  let v149 : BitVec 32 := Scalar.subi v144 c1_i32_66
  let v150 : BitVec 32 := Scalar.minsi v148 v149
  let v151 : BitVec 32 := Scalar.addi v121 v150
  let v152 : BitVec 32 := Scalar.select v147 v151 v100
  let c2_i32 : BitVec 32 := 2#32
  let v153 : BitVec 32 := Scalar.select v147 c2_i32 v101
  let v154 : BitVec 32 := Scalar.addi v102 v104
  let v155 : BitVec 32 := Scalar.addi v103 v144
  let c3 : Index := 3#32
  let v156 : BitVec 32 := pf.at 0 (Rect.unit (s := S4) ![3] S1.size inb_S4_S1_3) numel1_S1
  let c512_i32_67 : BitVec 32 := 512#32
  let v157 : BitVec 32 := Scalar.divsi v154 c512_i32_67
  let c0_i32_68 : BitVec 32 := 0#32
  let v158 : BitVec 1 := Scalar.cmpi .sgt v154 c0_i32_68
  let v159 : BitVec 32 := Scalar.extui v158
  let c0_i32_69 : BitVec 32 := 0#32
  let v160 : BitVec 1 := Scalar.cmpi .slt v154 c0_i32_69
  let v161 : BitVec 32 := Scalar.extui v160
  let v162 : BitVec 32 := Scalar.subi v159 v161
  let c0_i32_70 : BitVec 32 := 0#32
  let v163 : BitVec 1 := Scalar.cmpi .sgt c512_i32_67 c0_i32_70
  let v164 : BitVec 32 := Scalar.extui v163
  let c0_i32_71 : BitVec 32 := 0#32
  let v165 : BitVec 1 := Scalar.cmpi .slt c512_i32_67 c0_i32_71
  let v166 : BitVec 32 := Scalar.extui v165
  let v167 : BitVec 32 := Scalar.subi v164 v166
  let v168 : BitVec 1 := Scalar.cmpi .ne v162 v167
  let v169 : BitVec 32 := Scalar.remsi v154 c512_i32_67
  let c0_i32_72 : BitVec 32 := 0#32
  let v170 : BitVec 1 := Scalar.cmpi .ne v169 c0_i32_72
  let v171 : BitVec 1 := Scalar.andi v168 v170
  let c1_i32_73 : BitVec 32 := 1#32
  let v172 : BitVec 32 := Scalar.subi v157 c1_i32_73
  let v173 : BitVec 32 := Scalar.select v171 v172 v157
  let c0_i32_74 : BitVec 32 := 0#32
  let v174 : BitVec 1 := Scalar.cmpi .sgt v156 c0_i32_74
  let v175 : BitVec 32 := Scalar.addi v154 v156
  let c1_i32_75 : BitVec 32 := 1#32
  let v176 : BitVec 32 := Scalar.subi v175 c1_i32_75
  let c512_i32_76 : BitVec 32 := 512#32
  let v177 : BitVec 32 := Scalar.divsi v176 c512_i32_76
  let c0_i32_77 : BitVec 32 := 0#32
  let v178 : BitVec 1 := Scalar.cmpi .sgt v176 c0_i32_77
  let v179 : BitVec 32 := Scalar.extui v178
  let c0_i32_78 : BitVec 32 := 0#32
  let v180 : BitVec 1 := Scalar.cmpi .slt v176 c0_i32_78
  let v181 : BitVec 32 := Scalar.extui v180
  let v182 : BitVec 32 := Scalar.subi v179 v181
  let c0_i32_79 : BitVec 32 := 0#32
  let v183 : BitVec 1 := Scalar.cmpi .sgt c512_i32_76 c0_i32_79
  let v184 : BitVec 32 := Scalar.extui v183
  let c0_i32_80 : BitVec 32 := 0#32
  let v185 : BitVec 1 := Scalar.cmpi .slt c512_i32_76 c0_i32_80
  let v186 : BitVec 32 := Scalar.extui v185
  let v187 : BitVec 32 := Scalar.subi v184 v186
  let v188 : BitVec 1 := Scalar.cmpi .ne v182 v187
  let v189 : BitVec 32 := Scalar.remsi v176 c512_i32_76
  let c0_i32_81 : BitVec 32 := 0#32
  let v190 : BitVec 1 := Scalar.cmpi .ne v189 c0_i32_81
  let v191 : BitVec 1 := Scalar.andi v188 v190
  let c1_i32_82 : BitVec 32 := 1#32
  let v192 : BitVec 32 := Scalar.subi v177 c1_i32_82
  let v193 : BitVec 32 := Scalar.select v191 v192 v177
  let v194 : BitVec 32 := Scalar.subi v193 v173
  let c1_i32_83 : BitVec 32 := 1#32
  let v195 : BitVec 32 := Scalar.addi v194 c1_i32_83
  let c0_i32_84 : BitVec 32 := 0#32
  let v196 : BitVec 32 := Scalar.select v174 v195 c0_i32_84
  let v197 : BitVec 1 := Scalar.cmpi .sge arg0 v155
  let c0_i32_85 : BitVec 32 := 0#32
  let v198 : BitVec 1 := Scalar.cmpi .sgt v196 c0_i32_85
  let v199 : BitVec 1 := Scalar.andi v197 v198
  let v200 : BitVec 32 := Scalar.subi arg0 v155
  let c1_i32_86 : BitVec 32 := 1#32
  let v201 : BitVec 32 := Scalar.subi v196 c1_i32_86
  let v202 : BitVec 32 := Scalar.minsi v200 v201
  let v203 : BitVec 32 := Scalar.addi v173 v202
  let v204 : BitVec 32 := Scalar.select v199 v203 v152
  let c3_i32 : BitVec 32 := 3#32
  let v205 : BitVec 32 := Scalar.select v199 c3_i32 v153
  let v206 : BitVec 32 := Scalar.addi v154 v156
  let v207 : BitVec 32 := Scalar.addi v155 v196
  let v208 : BitVec 1 := Scalar.cmpi .slt arg0 v207
  let c0_i32_87 : BitVec 32 := 0#32
  let c0_i32_88 : BitVec 32 := 0#32
  ![v204.toNat, c0_i32_87.toNat]

def cc0_transform_2 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c512_i32 : BitVec 32 := 512#32
  let v1 : BitVec 32 := Scalar.divsi c0_i32 c512_i32
  let c0_i32_0 : BitVec 32 := 0#32
  let v2 : BitVec 1 := Scalar.cmpi .sgt c0_i32 c0_i32_0
  let v3 : BitVec 32 := Scalar.extui v2
  let c0_i32_1 : BitVec 32 := 0#32
  let v4 : BitVec 1 := Scalar.cmpi .slt c0_i32 c0_i32_1
  let v5 : BitVec 32 := Scalar.extui v4
  let v6 : BitVec 32 := Scalar.subi v3 v5
  let c0_i32_2 : BitVec 32 := 0#32
  let v7 : BitVec 1 := Scalar.cmpi .sgt c512_i32 c0_i32_2
  let v8 : BitVec 32 := Scalar.extui v7
  let c0_i32_3 : BitVec 32 := 0#32
  let v9 : BitVec 1 := Scalar.cmpi .slt c512_i32 c0_i32_3
  let v10 : BitVec 32 := Scalar.extui v9
  let v11 : BitVec 32 := Scalar.subi v8 v10
  let v12 : BitVec 1 := Scalar.cmpi .ne v6 v11
  let v13 : BitVec 32 := Scalar.remsi c0_i32 c512_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 1 := Scalar.cmpi .sgt v0 c0_i32_5
  let c0_i32_6 : BitVec 32 := 0#32
  let v19 : BitVec 32 := Scalar.addi c0_i32_6 v0
  let c1_i32_7 : BitVec 32 := 1#32
  let v20 : BitVec 32 := Scalar.subi v19 c1_i32_7
  let c512_i32_8 : BitVec 32 := 512#32
  let v21 : BitVec 32 := Scalar.divsi v20 c512_i32_8
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_13 : BitVec 32 := 0#32
  let v34 : BitVec 1 := Scalar.cmpi .ne v33 c0_i32_13
  let v35 : BitVec 1 := Scalar.andi v32 v34
  let c1_i32_14 : BitVec 32 := 1#32
  let v36 : BitVec 32 := Scalar.subi v21 c1_i32_14
  let v37 : BitVec 32 := Scalar.select v35 v36 v21
  let v38 : BitVec 32 := Scalar.subi v37 v17
  let c1_i32_15 : BitVec 32 := 1#32
  let v39 : BitVec 32 := Scalar.addi v38 c1_i32_15
  let c0_i32_16 : BitVec 32 := 0#32
  let v40 : BitVec 32 := Scalar.select v18 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let c0_i32_19 : BitVec 32 := 0#32
  let v44 : BitVec 32 := Scalar.subi arg0 c0_i32_19
  let c1_i32_20 : BitVec 32 := 1#32
  let v45 : BitVec 32 := Scalar.subi v40 c1_i32_20
  let v46 : BitVec 32 := Scalar.minsi v44 v45
  let v47 : BitVec 32 := Scalar.addi v17 v46
  let c0_i32_21 : BitVec 32 := 0#32
  let v48 : BitVec 32 := Scalar.select v43 v47 c0_i32_21
  let c0_i32_22 : BitVec 32 := 0#32
  let c0_i32_23 : BitVec 32 := 0#32
  let v49 : BitVec 32 := Scalar.select v43 c0_i32_22 c0_i32_23
  let c0_i32_24 : BitVec 32 := 0#32
  let v50 : BitVec 32 := Scalar.addi c0_i32_24 v0
  let c0_i32_25 : BitVec 32 := 0#32
  let v51 : BitVec 32 := Scalar.addi c0_i32_25 v40
  let c1 : Index := 1#32
  let v52 : BitVec 32 := pf.at 0 (Rect.unit (s := S4) ![1] S1.size inb_S4_S1_1) numel1_S1
  let c512_i32_26 : BitVec 32 := 512#32
  let v53 : BitVec 32 := Scalar.divsi v50 c512_i32_26
  let c0_i32_27 : BitVec 32 := 0#32
  let v54 : BitVec 1 := Scalar.cmpi .sgt v50 c0_i32_27
  let v55 : BitVec 32 := Scalar.extui v54
  let c0_i32_28 : BitVec 32 := 0#32
  let v56 : BitVec 1 := Scalar.cmpi .slt v50 c0_i32_28
  let v57 : BitVec 32 := Scalar.extui v56
  let v58 : BitVec 32 := Scalar.subi v55 v57
  let c0_i32_29 : BitVec 32 := 0#32
  let v59 : BitVec 1 := Scalar.cmpi .sgt c512_i32_26 c0_i32_29
  let v60 : BitVec 32 := Scalar.extui v59
  let c0_i32_30 : BitVec 32 := 0#32
  let v61 : BitVec 1 := Scalar.cmpi .slt c512_i32_26 c0_i32_30
  let v62 : BitVec 32 := Scalar.extui v61
  let v63 : BitVec 32 := Scalar.subi v60 v62
  let v64 : BitVec 1 := Scalar.cmpi .ne v58 v63
  let v65 : BitVec 32 := Scalar.remsi v50 c512_i32_26
  let c0_i32_31 : BitVec 32 := 0#32
  let v66 : BitVec 1 := Scalar.cmpi .ne v65 c0_i32_31
  let v67 : BitVec 1 := Scalar.andi v64 v66
  let c1_i32_32 : BitVec 32 := 1#32
  let v68 : BitVec 32 := Scalar.subi v53 c1_i32_32
  let v69 : BitVec 32 := Scalar.select v67 v68 v53
  let c0_i32_33 : BitVec 32 := 0#32
  let v70 : BitVec 1 := Scalar.cmpi .sgt v52 c0_i32_33
  let v71 : BitVec 32 := Scalar.addi v50 v52
  let c1_i32_34 : BitVec 32 := 1#32
  let v72 : BitVec 32 := Scalar.subi v71 c1_i32_34
  let c512_i32_35 : BitVec 32 := 512#32
  let v73 : BitVec 32 := Scalar.divsi v72 c512_i32_35
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c0_i32_38 : BitVec 32 := 0#32
  let v79 : BitVec 1 := Scalar.cmpi .sgt c512_i32_35 c0_i32_38
  let v80 : BitVec 32 := Scalar.extui v79
  let c0_i32_39 : BitVec 32 := 0#32
  let v81 : BitVec 1 := Scalar.cmpi .slt c512_i32_35 c0_i32_39
  let v82 : BitVec 32 := Scalar.extui v81
  let v83 : BitVec 32 := Scalar.subi v80 v82
  let v84 : BitVec 1 := Scalar.cmpi .ne v78 v83
  let v85 : BitVec 32 := Scalar.remsi v72 c512_i32_35
  let c0_i32_40 : BitVec 32 := 0#32
  let v86 : BitVec 1 := Scalar.cmpi .ne v85 c0_i32_40
  let v87 : BitVec 1 := Scalar.andi v84 v86
  let c1_i32_41 : BitVec 32 := 1#32
  let v88 : BitVec 32 := Scalar.subi v73 c1_i32_41
  let v89 : BitVec 32 := Scalar.select v87 v88 v73
  let v90 : BitVec 32 := Scalar.subi v89 v69
  let c1_i32_42 : BitVec 32 := 1#32
  let v91 : BitVec 32 := Scalar.addi v90 c1_i32_42
  let c0_i32_43 : BitVec 32 := 0#32
  let v92 : BitVec 32 := Scalar.select v70 v91 c0_i32_43
  let v93 : BitVec 1 := Scalar.cmpi .sge arg0 v51
  let c0_i32_44 : BitVec 32 := 0#32
  let v94 : BitVec 1 := Scalar.cmpi .sgt v92 c0_i32_44
  let v95 : BitVec 1 := Scalar.andi v93 v94
  let v96 : BitVec 32 := Scalar.subi arg0 v51
  let c1_i32_45 : BitVec 32 := 1#32
  let v97 : BitVec 32 := Scalar.subi v92 c1_i32_45
  let v98 : BitVec 32 := Scalar.minsi v96 v97
  let v99 : BitVec 32 := Scalar.addi v69 v98
  let v100 : BitVec 32 := Scalar.select v95 v99 v48
  let c1_i32_46 : BitVec 32 := 1#32
  let v101 : BitVec 32 := Scalar.select v95 c1_i32_46 v49
  let v102 : BitVec 32 := Scalar.addi v50 v52
  let v103 : BitVec 32 := Scalar.addi v51 v92
  let c2 : Index := 2#32
  let v104 : BitVec 32 := pf.at 0 (Rect.unit (s := S4) ![2] S1.size inb_S4_S1_2) numel1_S1
  let c512_i32_47 : BitVec 32 := 512#32
  let v105 : BitVec 32 := Scalar.divsi v102 c512_i32_47
  let c0_i32_48 : BitVec 32 := 0#32
  let v106 : BitVec 1 := Scalar.cmpi .sgt v102 c0_i32_48
  let v107 : BitVec 32 := Scalar.extui v106
  let c0_i32_49 : BitVec 32 := 0#32
  let v108 : BitVec 1 := Scalar.cmpi .slt v102 c0_i32_49
  let v109 : BitVec 32 := Scalar.extui v108
  let v110 : BitVec 32 := Scalar.subi v107 v109
  let c0_i32_50 : BitVec 32 := 0#32
  let v111 : BitVec 1 := Scalar.cmpi .sgt c512_i32_47 c0_i32_50
  let v112 : BitVec 32 := Scalar.extui v111
  let c0_i32_51 : BitVec 32 := 0#32
  let v113 : BitVec 1 := Scalar.cmpi .slt c512_i32_47 c0_i32_51
  let v114 : BitVec 32 := Scalar.extui v113
  let v115 : BitVec 32 := Scalar.subi v112 v114
  let v116 : BitVec 1 := Scalar.cmpi .ne v110 v115
  let v117 : BitVec 32 := Scalar.remsi v102 c512_i32_47
  let c0_i32_52 : BitVec 32 := 0#32
  let v118 : BitVec 1 := Scalar.cmpi .ne v117 c0_i32_52
  let v119 : BitVec 1 := Scalar.andi v116 v118
  let c1_i32_53 : BitVec 32 := 1#32
  let v120 : BitVec 32 := Scalar.subi v105 c1_i32_53
  let v121 : BitVec 32 := Scalar.select v119 v120 v105
  let c0_i32_54 : BitVec 32 := 0#32
  let v122 : BitVec 1 := Scalar.cmpi .sgt v104 c0_i32_54
  let v123 : BitVec 32 := Scalar.addi v102 v104
  let c1_i32_55 : BitVec 32 := 1#32
  let v124 : BitVec 32 := Scalar.subi v123 c1_i32_55
  let c512_i32_56 : BitVec 32 := 512#32
  let v125 : BitVec 32 := Scalar.divsi v124 c512_i32_56
  let c0_i32_57 : BitVec 32 := 0#32
  let v126 : BitVec 1 := Scalar.cmpi .sgt v124 c0_i32_57
  let v127 : BitVec 32 := Scalar.extui v126
  let c0_i32_58 : BitVec 32 := 0#32
  let v128 : BitVec 1 := Scalar.cmpi .slt v124 c0_i32_58
  let v129 : BitVec 32 := Scalar.extui v128
  let v130 : BitVec 32 := Scalar.subi v127 v129
  let c0_i32_59 : BitVec 32 := 0#32
  let v131 : BitVec 1 := Scalar.cmpi .sgt c512_i32_56 c0_i32_59
  let v132 : BitVec 32 := Scalar.extui v131
  let c0_i32_60 : BitVec 32 := 0#32
  let v133 : BitVec 1 := Scalar.cmpi .slt c512_i32_56 c0_i32_60
  let v134 : BitVec 32 := Scalar.extui v133
  let v135 : BitVec 32 := Scalar.subi v132 v134
  let v136 : BitVec 1 := Scalar.cmpi .ne v130 v135
  let v137 : BitVec 32 := Scalar.remsi v124 c512_i32_56
  let c0_i32_61 : BitVec 32 := 0#32
  let v138 : BitVec 1 := Scalar.cmpi .ne v137 c0_i32_61
  let v139 : BitVec 1 := Scalar.andi v136 v138
  let c1_i32_62 : BitVec 32 := 1#32
  let v140 : BitVec 32 := Scalar.subi v125 c1_i32_62
  let v141 : BitVec 32 := Scalar.select v139 v140 v125
  let v142 : BitVec 32 := Scalar.subi v141 v121
  let c1_i32_63 : BitVec 32 := 1#32
  let v143 : BitVec 32 := Scalar.addi v142 c1_i32_63
  let c0_i32_64 : BitVec 32 := 0#32
  let v144 : BitVec 32 := Scalar.select v122 v143 c0_i32_64
  let v145 : BitVec 1 := Scalar.cmpi .sge arg0 v103
  let c0_i32_65 : BitVec 32 := 0#32
  let v146 : BitVec 1 := Scalar.cmpi .sgt v144 c0_i32_65
  let v147 : BitVec 1 := Scalar.andi v145 v146
  let v148 : BitVec 32 := Scalar.subi arg0 v103
  let c1_i32_66 : BitVec 32 := 1#32
  let v149 : BitVec 32 := Scalar.subi v144 c1_i32_66
  let v150 : BitVec 32 := Scalar.minsi v148 v149
  let v151 : BitVec 32 := Scalar.addi v121 v150
  let v152 : BitVec 32 := Scalar.select v147 v151 v100
  let c2_i32 : BitVec 32 := 2#32
  let v153 : BitVec 32 := Scalar.select v147 c2_i32 v101
  let v154 : BitVec 32 := Scalar.addi v102 v104
  let v155 : BitVec 32 := Scalar.addi v103 v144
  let c3 : Index := 3#32
  let v156 : BitVec 32 := pf.at 0 (Rect.unit (s := S4) ![3] S1.size inb_S4_S1_3) numel1_S1
  let c512_i32_67 : BitVec 32 := 512#32
  let v157 : BitVec 32 := Scalar.divsi v154 c512_i32_67
  let c0_i32_68 : BitVec 32 := 0#32
  let v158 : BitVec 1 := Scalar.cmpi .sgt v154 c0_i32_68
  let v159 : BitVec 32 := Scalar.extui v158
  let c0_i32_69 : BitVec 32 := 0#32
  let v160 : BitVec 1 := Scalar.cmpi .slt v154 c0_i32_69
  let v161 : BitVec 32 := Scalar.extui v160
  let v162 : BitVec 32 := Scalar.subi v159 v161
  let c0_i32_70 : BitVec 32 := 0#32
  let v163 : BitVec 1 := Scalar.cmpi .sgt c512_i32_67 c0_i32_70
  let v164 : BitVec 32 := Scalar.extui v163
  let c0_i32_71 : BitVec 32 := 0#32
  let v165 : BitVec 1 := Scalar.cmpi .slt c512_i32_67 c0_i32_71
  let v166 : BitVec 32 := Scalar.extui v165
  let v167 : BitVec 32 := Scalar.subi v164 v166
  let v168 : BitVec 1 := Scalar.cmpi .ne v162 v167
  let v169 : BitVec 32 := Scalar.remsi v154 c512_i32_67
  let c0_i32_72 : BitVec 32 := 0#32
  let v170 : BitVec 1 := Scalar.cmpi .ne v169 c0_i32_72
  let v171 : BitVec 1 := Scalar.andi v168 v170
  let c1_i32_73 : BitVec 32 := 1#32
  let v172 : BitVec 32 := Scalar.subi v157 c1_i32_73
  let v173 : BitVec 32 := Scalar.select v171 v172 v157
  let c0_i32_74 : BitVec 32 := 0#32
  let v174 : BitVec 1 := Scalar.cmpi .sgt v156 c0_i32_74
  let v175 : BitVec 32 := Scalar.addi v154 v156
  let c1_i32_75 : BitVec 32 := 1#32
  let v176 : BitVec 32 := Scalar.subi v175 c1_i32_75
  let c512_i32_76 : BitVec 32 := 512#32
  let v177 : BitVec 32 := Scalar.divsi v176 c512_i32_76
  let c0_i32_77 : BitVec 32 := 0#32
  let v178 : BitVec 1 := Scalar.cmpi .sgt v176 c0_i32_77
  let v179 : BitVec 32 := Scalar.extui v178
  let c0_i32_78 : BitVec 32 := 0#32
  let v180 : BitVec 1 := Scalar.cmpi .slt v176 c0_i32_78
  let v181 : BitVec 32 := Scalar.extui v180
  let v182 : BitVec 32 := Scalar.subi v179 v181
  let c0_i32_79 : BitVec 32 := 0#32
  let v183 : BitVec 1 := Scalar.cmpi .sgt c512_i32_76 c0_i32_79
  let v184 : BitVec 32 := Scalar.extui v183
  let c0_i32_80 : BitVec 32 := 0#32
  let v185 : BitVec 1 := Scalar.cmpi .slt c512_i32_76 c0_i32_80
  let v186 : BitVec 32 := Scalar.extui v185
  let v187 : BitVec 32 := Scalar.subi v184 v186
  let v188 : BitVec 1 := Scalar.cmpi .ne v182 v187
  let v189 : BitVec 32 := Scalar.remsi v176 c512_i32_76
  let c0_i32_81 : BitVec 32 := 0#32
  let v190 : BitVec 1 := Scalar.cmpi .ne v189 c0_i32_81
  let v191 : BitVec 1 := Scalar.andi v188 v190
  let c1_i32_82 : BitVec 32 := 1#32
  let v192 : BitVec 32 := Scalar.subi v177 c1_i32_82
  let v193 : BitVec 32 := Scalar.select v191 v192 v177
  let v194 : BitVec 32 := Scalar.subi v193 v173
  let c1_i32_83 : BitVec 32 := 1#32
  let v195 : BitVec 32 := Scalar.addi v194 c1_i32_83
  let c0_i32_84 : BitVec 32 := 0#32
  let v196 : BitVec 32 := Scalar.select v174 v195 c0_i32_84
  let v197 : BitVec 1 := Scalar.cmpi .sge arg0 v155
  let c0_i32_85 : BitVec 32 := 0#32
  let v198 : BitVec 1 := Scalar.cmpi .sgt v196 c0_i32_85
  let v199 : BitVec 1 := Scalar.andi v197 v198
  let v200 : BitVec 32 := Scalar.subi arg0 v155
  let c1_i32_86 : BitVec 32 := 1#32
  let v201 : BitVec 32 := Scalar.subi v196 c1_i32_86
  let v202 : BitVec 32 := Scalar.minsi v200 v201
  let v203 : BitVec 32 := Scalar.addi v173 v202
  let v204 : BitVec 32 := Scalar.select v199 v203 v152
  let c3_i32 : BitVec 32 := 3#32
  let v205 : BitVec 32 := Scalar.select v199 c3_i32 v153
  let v206 : BitVec 32 := Scalar.addi v154 v156
  let v207 : BitVec 32 := Scalar.addi v155 v196
  let v208 : BitVec 1 := Scalar.cmpi .slt arg0 v207
  let c0_i32_87 : BitVec 32 := 0#32
  let c0_i32_88 : BitVec 32 := 0#32
  let c0_i32_89 : BitVec 32 := 0#32
  ![v205.toNat, c0_i32_87.toNat, c0_i32_88.toNat]

def cc0_transform_3 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c512_i32 : BitVec 32 := 512#32
  let v1 : BitVec 32 := Scalar.divsi c0_i32 c512_i32
  let c0_i32_0 : BitVec 32 := 0#32
  let v2 : BitVec 1 := Scalar.cmpi .sgt c0_i32 c0_i32_0
  let v3 : BitVec 32 := Scalar.extui v2
  let c0_i32_1 : BitVec 32 := 0#32
  let v4 : BitVec 1 := Scalar.cmpi .slt c0_i32 c0_i32_1
  let v5 : BitVec 32 := Scalar.extui v4
  let v6 : BitVec 32 := Scalar.subi v3 v5
  let c0_i32_2 : BitVec 32 := 0#32
  let v7 : BitVec 1 := Scalar.cmpi .sgt c512_i32 c0_i32_2
  let v8 : BitVec 32 := Scalar.extui v7
  let c0_i32_3 : BitVec 32 := 0#32
  let v9 : BitVec 1 := Scalar.cmpi .slt c512_i32 c0_i32_3
  let v10 : BitVec 32 := Scalar.extui v9
  let v11 : BitVec 32 := Scalar.subi v8 v10
  let v12 : BitVec 1 := Scalar.cmpi .ne v6 v11
  let v13 : BitVec 32 := Scalar.remsi c0_i32 c512_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 1 := Scalar.cmpi .sgt v0 c0_i32_5
  let c0_i32_6 : BitVec 32 := 0#32
  let v19 : BitVec 32 := Scalar.addi c0_i32_6 v0
  let c1_i32_7 : BitVec 32 := 1#32
  let v20 : BitVec 32 := Scalar.subi v19 c1_i32_7
  let c512_i32_8 : BitVec 32 := 512#32
  let v21 : BitVec 32 := Scalar.divsi v20 c512_i32_8
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_13 : BitVec 32 := 0#32
  let v34 : BitVec 1 := Scalar.cmpi .ne v33 c0_i32_13
  let v35 : BitVec 1 := Scalar.andi v32 v34
  let c1_i32_14 : BitVec 32 := 1#32
  let v36 : BitVec 32 := Scalar.subi v21 c1_i32_14
  let v37 : BitVec 32 := Scalar.select v35 v36 v21
  let v38 : BitVec 32 := Scalar.subi v37 v17
  let c1_i32_15 : BitVec 32 := 1#32
  let v39 : BitVec 32 := Scalar.addi v38 c1_i32_15
  let c0_i32_16 : BitVec 32 := 0#32
  let v40 : BitVec 32 := Scalar.select v18 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let c0_i32_19 : BitVec 32 := 0#32
  let v44 : BitVec 32 := Scalar.subi arg0 c0_i32_19
  let c1_i32_20 : BitVec 32 := 1#32
  let v45 : BitVec 32 := Scalar.subi v40 c1_i32_20
  let v46 : BitVec 32 := Scalar.minsi v44 v45
  let v47 : BitVec 32 := Scalar.addi v17 v46
  let c0_i32_21 : BitVec 32 := 0#32
  let v48 : BitVec 32 := Scalar.select v43 v47 c0_i32_21
  let c0_i32_22 : BitVec 32 := 0#32
  let c0_i32_23 : BitVec 32 := 0#32
  let v49 : BitVec 32 := Scalar.select v43 c0_i32_22 c0_i32_23
  let c0_i32_24 : BitVec 32 := 0#32
  let v50 : BitVec 32 := Scalar.addi c0_i32_24 v0
  let c0_i32_25 : BitVec 32 := 0#32
  let v51 : BitVec 32 := Scalar.addi c0_i32_25 v40
  let c1 : Index := 1#32
  let v52 : BitVec 32 := pf.at 0 (Rect.unit (s := S4) ![1] S1.size inb_S4_S1_1) numel1_S1
  let c512_i32_26 : BitVec 32 := 512#32
  let v53 : BitVec 32 := Scalar.divsi v50 c512_i32_26
  let c0_i32_27 : BitVec 32 := 0#32
  let v54 : BitVec 1 := Scalar.cmpi .sgt v50 c0_i32_27
  let v55 : BitVec 32 := Scalar.extui v54
  let c0_i32_28 : BitVec 32 := 0#32
  let v56 : BitVec 1 := Scalar.cmpi .slt v50 c0_i32_28
  let v57 : BitVec 32 := Scalar.extui v56
  let v58 : BitVec 32 := Scalar.subi v55 v57
  let c0_i32_29 : BitVec 32 := 0#32
  let v59 : BitVec 1 := Scalar.cmpi .sgt c512_i32_26 c0_i32_29
  let v60 : BitVec 32 := Scalar.extui v59
  let c0_i32_30 : BitVec 32 := 0#32
  let v61 : BitVec 1 := Scalar.cmpi .slt c512_i32_26 c0_i32_30
  let v62 : BitVec 32 := Scalar.extui v61
  let v63 : BitVec 32 := Scalar.subi v60 v62
  let v64 : BitVec 1 := Scalar.cmpi .ne v58 v63
  let v65 : BitVec 32 := Scalar.remsi v50 c512_i32_26
  let c0_i32_31 : BitVec 32 := 0#32
  let v66 : BitVec 1 := Scalar.cmpi .ne v65 c0_i32_31
  let v67 : BitVec 1 := Scalar.andi v64 v66
  let c1_i32_32 : BitVec 32 := 1#32
  let v68 : BitVec 32 := Scalar.subi v53 c1_i32_32
  let v69 : BitVec 32 := Scalar.select v67 v68 v53
  let c0_i32_33 : BitVec 32 := 0#32
  let v70 : BitVec 1 := Scalar.cmpi .sgt v52 c0_i32_33
  let v71 : BitVec 32 := Scalar.addi v50 v52
  let c1_i32_34 : BitVec 32 := 1#32
  let v72 : BitVec 32 := Scalar.subi v71 c1_i32_34
  let c512_i32_35 : BitVec 32 := 512#32
  let v73 : BitVec 32 := Scalar.divsi v72 c512_i32_35
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c0_i32_38 : BitVec 32 := 0#32
  let v79 : BitVec 1 := Scalar.cmpi .sgt c512_i32_35 c0_i32_38
  let v80 : BitVec 32 := Scalar.extui v79
  let c0_i32_39 : BitVec 32 := 0#32
  let v81 : BitVec 1 := Scalar.cmpi .slt c512_i32_35 c0_i32_39
  let v82 : BitVec 32 := Scalar.extui v81
  let v83 : BitVec 32 := Scalar.subi v80 v82
  let v84 : BitVec 1 := Scalar.cmpi .ne v78 v83
  let v85 : BitVec 32 := Scalar.remsi v72 c512_i32_35
  let c0_i32_40 : BitVec 32 := 0#32
  let v86 : BitVec 1 := Scalar.cmpi .ne v85 c0_i32_40
  let v87 : BitVec 1 := Scalar.andi v84 v86
  let c1_i32_41 : BitVec 32 := 1#32
  let v88 : BitVec 32 := Scalar.subi v73 c1_i32_41
  let v89 : BitVec 32 := Scalar.select v87 v88 v73
  let v90 : BitVec 32 := Scalar.subi v89 v69
  let c1_i32_42 : BitVec 32 := 1#32
  let v91 : BitVec 32 := Scalar.addi v90 c1_i32_42
  let c0_i32_43 : BitVec 32 := 0#32
  let v92 : BitVec 32 := Scalar.select v70 v91 c0_i32_43
  let v93 : BitVec 1 := Scalar.cmpi .sge arg0 v51
  let c0_i32_44 : BitVec 32 := 0#32
  let v94 : BitVec 1 := Scalar.cmpi .sgt v92 c0_i32_44
  let v95 : BitVec 1 := Scalar.andi v93 v94
  let v96 : BitVec 32 := Scalar.subi arg0 v51
  let c1_i32_45 : BitVec 32 := 1#32
  let v97 : BitVec 32 := Scalar.subi v92 c1_i32_45
  let v98 : BitVec 32 := Scalar.minsi v96 v97
  let v99 : BitVec 32 := Scalar.addi v69 v98
  let v100 : BitVec 32 := Scalar.select v95 v99 v48
  let c1_i32_46 : BitVec 32 := 1#32
  let v101 : BitVec 32 := Scalar.select v95 c1_i32_46 v49
  let v102 : BitVec 32 := Scalar.addi v50 v52
  let v103 : BitVec 32 := Scalar.addi v51 v92
  let c2 : Index := 2#32
  let v104 : BitVec 32 := pf.at 0 (Rect.unit (s := S4) ![2] S1.size inb_S4_S1_2) numel1_S1
  let c512_i32_47 : BitVec 32 := 512#32
  let v105 : BitVec 32 := Scalar.divsi v102 c512_i32_47
  let c0_i32_48 : BitVec 32 := 0#32
  let v106 : BitVec 1 := Scalar.cmpi .sgt v102 c0_i32_48
  let v107 : BitVec 32 := Scalar.extui v106
  let c0_i32_49 : BitVec 32 := 0#32
  let v108 : BitVec 1 := Scalar.cmpi .slt v102 c0_i32_49
  let v109 : BitVec 32 := Scalar.extui v108
  let v110 : BitVec 32 := Scalar.subi v107 v109
  let c0_i32_50 : BitVec 32 := 0#32
  let v111 : BitVec 1 := Scalar.cmpi .sgt c512_i32_47 c0_i32_50
  let v112 : BitVec 32 := Scalar.extui v111
  let c0_i32_51 : BitVec 32 := 0#32
  let v113 : BitVec 1 := Scalar.cmpi .slt c512_i32_47 c0_i32_51
  let v114 : BitVec 32 := Scalar.extui v113
  let v115 : BitVec 32 := Scalar.subi v112 v114
  let v116 : BitVec 1 := Scalar.cmpi .ne v110 v115
  let v117 : BitVec 32 := Scalar.remsi v102 c512_i32_47
  let c0_i32_52 : BitVec 32 := 0#32
  let v118 : BitVec 1 := Scalar.cmpi .ne v117 c0_i32_52
  let v119 : BitVec 1 := Scalar.andi v116 v118
  let c1_i32_53 : BitVec 32 := 1#32
  let v120 : BitVec 32 := Scalar.subi v105 c1_i32_53
  let v121 : BitVec 32 := Scalar.select v119 v120 v105
  let c0_i32_54 : BitVec 32 := 0#32
  let v122 : BitVec 1 := Scalar.cmpi .sgt v104 c0_i32_54
  let v123 : BitVec 32 := Scalar.addi v102 v104
  let c1_i32_55 : BitVec 32 := 1#32
  let v124 : BitVec 32 := Scalar.subi v123 c1_i32_55
  let c512_i32_56 : BitVec 32 := 512#32
  let v125 : BitVec 32 := Scalar.divsi v124 c512_i32_56
  let c0_i32_57 : BitVec 32 := 0#32
  let v126 : BitVec 1 := Scalar.cmpi .sgt v124 c0_i32_57
  let v127 : BitVec 32 := Scalar.extui v126
  let c0_i32_58 : BitVec 32 := 0#32
  let v128 : BitVec 1 := Scalar.cmpi .slt v124 c0_i32_58
  let v129 : BitVec 32 := Scalar.extui v128
  let v130 : BitVec 32 := Scalar.subi v127 v129
  let c0_i32_59 : BitVec 32 := 0#32
  let v131 : BitVec 1 := Scalar.cmpi .sgt c512_i32_56 c0_i32_59
  let v132 : BitVec 32 := Scalar.extui v131
  let c0_i32_60 : BitVec 32 := 0#32
  let v133 : BitVec 1 := Scalar.cmpi .slt c512_i32_56 c0_i32_60
  let v134 : BitVec 32 := Scalar.extui v133
  let v135 : BitVec 32 := Scalar.subi v132 v134
  let v136 : BitVec 1 := Scalar.cmpi .ne v130 v135
  let v137 : BitVec 32 := Scalar.remsi v124 c512_i32_56
  let c0_i32_61 : BitVec 32 := 0#32
  let v138 : BitVec 1 := Scalar.cmpi .ne v137 c0_i32_61
  let v139 : BitVec 1 := Scalar.andi v136 v138
  let c1_i32_62 : BitVec 32 := 1#32
  let v140 : BitVec 32 := Scalar.subi v125 c1_i32_62
  let v141 : BitVec 32 := Scalar.select v139 v140 v125
  let v142 : BitVec 32 := Scalar.subi v141 v121
  let c1_i32_63 : BitVec 32 := 1#32
  let v143 : BitVec 32 := Scalar.addi v142 c1_i32_63
  let c0_i32_64 : BitVec 32 := 0#32
  let v144 : BitVec 32 := Scalar.select v122 v143 c0_i32_64
  let v145 : BitVec 1 := Scalar.cmpi .sge arg0 v103
  let c0_i32_65 : BitVec 32 := 0#32
  let v146 : BitVec 1 := Scalar.cmpi .sgt v144 c0_i32_65
  let v147 : BitVec 1 := Scalar.andi v145 v146
  let v148 : BitVec 32 := Scalar.subi arg0 v103
  let c1_i32_66 : BitVec 32 := 1#32
  let v149 : BitVec 32 := Scalar.subi v144 c1_i32_66
  let v150 : BitVec 32 := Scalar.minsi v148 v149
  let v151 : BitVec 32 := Scalar.addi v121 v150
  let v152 : BitVec 32 := Scalar.select v147 v151 v100
  let c2_i32 : BitVec 32 := 2#32
  let v153 : BitVec 32 := Scalar.select v147 c2_i32 v101
  let v154 : BitVec 32 := Scalar.addi v102 v104
  let v155 : BitVec 32 := Scalar.addi v103 v144
  let c3 : Index := 3#32
  let v156 : BitVec 32 := pf.at 0 (Rect.unit (s := S4) ![3] S1.size inb_S4_S1_3) numel1_S1
  let c512_i32_67 : BitVec 32 := 512#32
  let v157 : BitVec 32 := Scalar.divsi v154 c512_i32_67
  let c0_i32_68 : BitVec 32 := 0#32
  let v158 : BitVec 1 := Scalar.cmpi .sgt v154 c0_i32_68
  let v159 : BitVec 32 := Scalar.extui v158
  let c0_i32_69 : BitVec 32 := 0#32
  let v160 : BitVec 1 := Scalar.cmpi .slt v154 c0_i32_69
  let v161 : BitVec 32 := Scalar.extui v160
  let v162 : BitVec 32 := Scalar.subi v159 v161
  let c0_i32_70 : BitVec 32 := 0#32
  let v163 : BitVec 1 := Scalar.cmpi .sgt c512_i32_67 c0_i32_70
  let v164 : BitVec 32 := Scalar.extui v163
  let c0_i32_71 : BitVec 32 := 0#32
  let v165 : BitVec 1 := Scalar.cmpi .slt c512_i32_67 c0_i32_71
  let v166 : BitVec 32 := Scalar.extui v165
  let v167 : BitVec 32 := Scalar.subi v164 v166
  let v168 : BitVec 1 := Scalar.cmpi .ne v162 v167
  let v169 : BitVec 32 := Scalar.remsi v154 c512_i32_67
  let c0_i32_72 : BitVec 32 := 0#32
  let v170 : BitVec 1 := Scalar.cmpi .ne v169 c0_i32_72
  let v171 : BitVec 1 := Scalar.andi v168 v170
  let c1_i32_73 : BitVec 32 := 1#32
  let v172 : BitVec 32 := Scalar.subi v157 c1_i32_73
  let v173 : BitVec 32 := Scalar.select v171 v172 v157
  let c0_i32_74 : BitVec 32 := 0#32
  let v174 : BitVec 1 := Scalar.cmpi .sgt v156 c0_i32_74
  let v175 : BitVec 32 := Scalar.addi v154 v156
  let c1_i32_75 : BitVec 32 := 1#32
  let v176 : BitVec 32 := Scalar.subi v175 c1_i32_75
  let c512_i32_76 : BitVec 32 := 512#32
  let v177 : BitVec 32 := Scalar.divsi v176 c512_i32_76
  let c0_i32_77 : BitVec 32 := 0#32
  let v178 : BitVec 1 := Scalar.cmpi .sgt v176 c0_i32_77
  let v179 : BitVec 32 := Scalar.extui v178
  let c0_i32_78 : BitVec 32 := 0#32
  let v180 : BitVec 1 := Scalar.cmpi .slt v176 c0_i32_78
  let v181 : BitVec 32 := Scalar.extui v180
  let v182 : BitVec 32 := Scalar.subi v179 v181
  let c0_i32_79 : BitVec 32 := 0#32
  let v183 : BitVec 1 := Scalar.cmpi .sgt c512_i32_76 c0_i32_79
  let v184 : BitVec 32 := Scalar.extui v183
  let c0_i32_80 : BitVec 32 := 0#32
  let v185 : BitVec 1 := Scalar.cmpi .slt c512_i32_76 c0_i32_80
  let v186 : BitVec 32 := Scalar.extui v185
  let v187 : BitVec 32 := Scalar.subi v184 v186
  let v188 : BitVec 1 := Scalar.cmpi .ne v182 v187
  let v189 : BitVec 32 := Scalar.remsi v176 c512_i32_76
  let c0_i32_81 : BitVec 32 := 0#32
  let v190 : BitVec 1 := Scalar.cmpi .ne v189 c0_i32_81
  let v191 : BitVec 1 := Scalar.andi v188 v190
  let c1_i32_82 : BitVec 32 := 1#32
  let v192 : BitVec 32 := Scalar.subi v177 c1_i32_82
  let v193 : BitVec 32 := Scalar.select v191 v192 v177
  let v194 : BitVec 32 := Scalar.subi v193 v173
  let c1_i32_83 : BitVec 32 := 1#32
  let v195 : BitVec 32 := Scalar.addi v194 c1_i32_83
  let c0_i32_84 : BitVec 32 := 0#32
  let v196 : BitVec 32 := Scalar.select v174 v195 c0_i32_84
  let v197 : BitVec 1 := Scalar.cmpi .sge arg0 v155
  let c0_i32_85 : BitVec 32 := 0#32
  let v198 : BitVec 1 := Scalar.cmpi .sgt v196 c0_i32_85
  let v199 : BitVec 1 := Scalar.andi v197 v198
  let v200 : BitVec 32 := Scalar.subi arg0 v155
  let c1_i32_86 : BitVec 32 := 1#32
  let v201 : BitVec 32 := Scalar.subi v196 c1_i32_86
  let v202 : BitVec 32 := Scalar.minsi v200 v201
  let v203 : BitVec 32 := Scalar.addi v173 v202
  let v204 : BitVec 32 := Scalar.select v199 v203 v152
  let c3_i32 : BitVec 32 := 3#32
  let v205 : BitVec 32 := Scalar.select v199 c3_i32 v153
  let v206 : BitVec 32 := Scalar.addi v154 v156
  let v207 : BitVec 32 := Scalar.addi v155 v196
  let v208 : BitVec 1 := Scalar.cmpi .slt arg0 v207
  let c0_i32_87 : BitVec 32 := 0#32
  let c0_i32_88 : BitVec 32 := 0#32
  let c0_i32_89 : BitVec 32 := 0#32
  ![v205.toNat, c0_i32_87.toNat, c0_i32_88.toNat]

def cc0_transform_4 (inb_S4_S1_0 : ∀ a, (![0] : Fin 1 → Nat) a + S1.size a ≤ S4.size a) (numel1_S1 : S1.numel = 1) (inb_S4_S1_1 : ∀ a, (![1] : Fin 1 → Nat) a + S1.size a ≤ S4.size a) (inb_S4_S1_2 : ∀ a, (![2] : Fin 1 → Nat) a + S1.size a ≤ S4.size a) (inb_S4_S1_3 : ∀ a, (![3] : Fin 1 → Nat) a + S1.size a ≤ S4.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S4) ![0] S1.size inb_S4_S1_0) numel1_S1
  let c0_i32 : BitVec 32 := 0#32
  let c512_i32 : BitVec 32 := 512#32
  let v1 : BitVec 32 := Scalar.divsi c0_i32 c512_i32
  let c0_i32_0 : BitVec 32 := 0#32
  let v2 : BitVec 1 := Scalar.cmpi .sgt c0_i32 c0_i32_0
  let v3 : BitVec 32 := Scalar.extui v2
  let c0_i32_1 : BitVec 32 := 0#32
  let v4 : BitVec 1 := Scalar.cmpi .slt c0_i32 c0_i32_1
  let v5 : BitVec 32 := Scalar.extui v4
  let v6 : BitVec 32 := Scalar.subi v3 v5
  let c0_i32_2 : BitVec 32 := 0#32
  let v7 : BitVec 1 := Scalar.cmpi .sgt c512_i32 c0_i32_2
  let v8 : BitVec 32 := Scalar.extui v7
  let c0_i32_3 : BitVec 32 := 0#32
  let v9 : BitVec 1 := Scalar.cmpi .slt c512_i32 c0_i32_3
  let v10 : BitVec 32 := Scalar.extui v9
  let v11 : BitVec 32 := Scalar.subi v8 v10
  let v12 : BitVec 1 := Scalar.cmpi .ne v6 v11
  let v13 : BitVec 32 := Scalar.remsi c0_i32 c512_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 1 := Scalar.cmpi .sgt v0 c0_i32_5
  let c0_i32_6 : BitVec 32 := 0#32
  let v19 : BitVec 32 := Scalar.addi c0_i32_6 v0
  let c1_i32_7 : BitVec 32 := 1#32
  let v20 : BitVec 32 := Scalar.subi v19 c1_i32_7
  let c512_i32_8 : BitVec 32 := 512#32
  let v21 : BitVec 32 := Scalar.divsi v20 c512_i32_8
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c0_i32_11 : BitVec 32 := 0#32
  let v27 : BitVec 1 := Scalar.cmpi .sgt c512_i32_8 c0_i32_11
  let v28 : BitVec 32 := Scalar.extui v27
  let c0_i32_12 : BitVec 32 := 0#32
  let v29 : BitVec 1 := Scalar.cmpi .slt c512_i32_8 c0_i32_12
  let v30 : BitVec 32 := Scalar.extui v29
  let v31 : BitVec 32 := Scalar.subi v28 v30
  let v32 : BitVec 1 := Scalar.cmpi .ne v26 v31
  let v33 : BitVec 32 := Scalar.remsi v20 c512_i32_8
  let c0_i32_13 : BitVec 32 := 0#32
  let v34 : BitVec 1 := Scalar.cmpi .ne v33 c0_i32_13
  let v35 : BitVec 1 := Scalar.andi v32 v34
  let c1_i32_14 : BitVec 32 := 1#32
  let v36 : BitVec 32 := Scalar.subi v21 c1_i32_14
  let v37 : BitVec 32 := Scalar.select v35 v36 v21
  let v38 : BitVec 32 := Scalar.subi v37 v17
  let c1_i32_15 : BitVec 32 := 1#32
  let v39 : BitVec 32 := Scalar.addi v38 c1_i32_15
  let c0_i32_16 : BitVec 32 := 0#32
  let v40 : BitVec 32 := Scalar.select v18 v39 c0_i32_16
  let c0_i32_17 : BitVec 32 := 0#32
  let v41 : BitVec 1 := Scalar.cmpi .sge arg0 c0_i32_17
  let c0_i32_18 : BitVec 32 := 0#32
  let v42 : BitVec 1 := Scalar.cmpi .sgt v40 c0_i32_18
  let v43 : BitVec 1 := Scalar.andi v41 v42
  let c0_i32_19 : BitVec 32 := 0#32
  let v44 : BitVec 32 := Scalar.subi arg0 c0_i32_19
  let c1_i32_20 : BitVec 32 := 1#32
  let v45 : BitVec 32 := Scalar.subi v40 c1_i32_20
  let v46 : BitVec 32 := Scalar.minsi v44 v45
  let v47 : BitVec 32 := Scalar.addi v17 v46
  let c0_i32_21 : BitVec 32 := 0#32
  let v48 : BitVec 32 := Scalar.select v43 v47 c0_i32_21
  let c0_i32_22 : BitVec 32 := 0#32
  let c0_i32_23 : BitVec 32 := 0#32
  let v49 : BitVec 32 := Scalar.select v43 c0_i32_22 c0_i32_23
  let c0_i32_24 : BitVec 32 := 0#32
  let v50 : BitVec 32 := Scalar.addi c0_i32_24 v0
  let c0_i32_25 : BitVec 32 := 0#32
  let v51 : BitVec 32 := Scalar.addi c0_i32_25 v40
  let c1 : Index := 1#32
  let v52 : BitVec 32 := pf.at 0 (Rect.unit (s := S4) ![1] S1.size inb_S4_S1_1) numel1_S1
  let c512_i32_26 : BitVec 32 := 512#32
  let v53 : BitVec 32 := Scalar.divsi v50 c512_i32_26
  let c0_i32_27 : BitVec 32 := 0#32
  let v54 : BitVec 1 := Scalar.cmpi .sgt v50 c0_i32_27
  let v55 : BitVec 32 := Scalar.extui v54
  let c0_i32_28 : BitVec 32 := 0#32
  let v56 : BitVec 1 := Scalar.cmpi .slt v50 c0_i32_28
  let v57 : BitVec 32 := Scalar.extui v56
  let v58 : BitVec 32 := Scalar.subi v55 v57
  let c0_i32_29 : BitVec 32 := 0#32
  let v59 : BitVec 1 := Scalar.cmpi .sgt c512_i32_26 c0_i32_29
  let v60 : BitVec 32 := Scalar.extui v59
  let c0_i32_30 : BitVec 32 := 0#32
  let v61 : BitVec 1 := Scalar.cmpi .slt c512_i32_26 c0_i32_30
  let v62 : BitVec 32 := Scalar.extui v61
  let v63 : BitVec 32 := Scalar.subi v60 v62
  let v64 : BitVec 1 := Scalar.cmpi .ne v58 v63
  let v65 : BitVec 32 := Scalar.remsi v50 c512_i32_26
  let c0_i32_31 : BitVec 32 := 0#32
  let v66 : BitVec 1 := Scalar.cmpi .ne v65 c0_i32_31
  let v67 : BitVec 1 := Scalar.andi v64 v66
  let c1_i32_32 : BitVec 32 := 1#32
  let v68 : BitVec 32 := Scalar.subi v53 c1_i32_32
  let v69 : BitVec 32 := Scalar.select v67 v68 v53
  let c0_i32_33 : BitVec 32 := 0#32
  let v70 : BitVec 1 := Scalar.cmpi .sgt v52 c0_i32_33
  let v71 : BitVec 32 := Scalar.addi v50 v52
  let c1_i32_34 : BitVec 32 := 1#32
  let v72 : BitVec 32 := Scalar.subi v71 c1_i32_34
  let c512_i32_35 : BitVec 32 := 512#32
  let v73 : BitVec 32 := Scalar.divsi v72 c512_i32_35
  let c0_i32_36 : BitVec 32 := 0#32
  let v74 : BitVec 1 := Scalar.cmpi .sgt v72 c0_i32_36
  let v75 : BitVec 32 := Scalar.extui v74
  let c0_i32_37 : BitVec 32 := 0#32
  let v76 : BitVec 1 := Scalar.cmpi .slt v72 c0_i32_37
  let v77 : BitVec 32 := Scalar.extui v76
  let v78 : BitVec 32 := Scalar.subi v75 v77
  let c0_i32_38 : BitVec 32 := 0#32
  let v79 : BitVec 1 := Scalar.cmpi .sgt c512_i32_35 c0_i32_38
  let v80 : BitVec 32 := Scalar.extui v79
  let c0_i32_39 : BitVec 32 := 0#32
  let v81 : BitVec 1 := Scalar.cmpi .slt c512_i32_35 c0_i32_39
  let v82 : BitVec 32 := Scalar.extui v81
  let v83 : BitVec 32 := Scalar.subi v80 v82
  let v84 : BitVec 1 := Scalar.cmpi .ne v78 v83
  let v85 : BitVec 32 := Scalar.remsi v72 c512_i32_35
  let c0_i32_40 : BitVec 32 := 0#32
  let v86 : BitVec 1 := Scalar.cmpi .ne v85 c0_i32_40
  let v87 : BitVec 1 := Scalar.andi v84 v86
  let c1_i32_41 : BitVec 32 := 1#32
  let v88 : BitVec 32 := Scalar.subi v73 c1_i32_41
  let v89 : BitVec 32 := Scalar.select v87 v88 v73
  let v90 : BitVec 32 := Scalar.subi v89 v69
  let c1_i32_42 : BitVec 32 := 1#32
  let v91 : BitVec 32 := Scalar.addi v90 c1_i32_42
  let c0_i32_43 : BitVec 32 := 0#32
  let v92 : BitVec 32 := Scalar.select v70 v91 c0_i32_43
  let v93 : BitVec 1 := Scalar.cmpi .sge arg0 v51
  let c0_i32_44 : BitVec 32 := 0#32
  let v94 : BitVec 1 := Scalar.cmpi .sgt v92 c0_i32_44
  let v95 : BitVec 1 := Scalar.andi v93 v94
  let v96 : BitVec 32 := Scalar.subi arg0 v51
  let c1_i32_45 : BitVec 32 := 1#32
  let v97 : BitVec 32 := Scalar.subi v92 c1_i32_45
  let v98 : BitVec 32 := Scalar.minsi v96 v97
  let v99 : BitVec 32 := Scalar.addi v69 v98
  let v100 : BitVec 32 := Scalar.select v95 v99 v48
  let c1_i32_46 : BitVec 32 := 1#32
  let v101 : BitVec 32 := Scalar.select v95 c1_i32_46 v49
  let v102 : BitVec 32 := Scalar.addi v50 v52
  let v103 : BitVec 32 := Scalar.addi v51 v92
  let c2 : Index := 2#32
  let v104 : BitVec 32 := pf.at 0 (Rect.unit (s := S4) ![2] S1.size inb_S4_S1_2) numel1_S1
  let c512_i32_47 : BitVec 32 := 512#32
  let v105 : BitVec 32 := Scalar.divsi v102 c512_i32_47
  let c0_i32_48 : BitVec 32 := 0#32
  let v106 : BitVec 1 := Scalar.cmpi .sgt v102 c0_i32_48
  let v107 : BitVec 32 := Scalar.extui v106
  let c0_i32_49 : BitVec 32 := 0#32
  let v108 : BitVec 1 := Scalar.cmpi .slt v102 c0_i32_49
  let v109 : BitVec 32 := Scalar.extui v108
  let v110 : BitVec 32 := Scalar.subi v107 v109
  let c0_i32_50 : BitVec 32 := 0#32
  let v111 : BitVec 1 := Scalar.cmpi .sgt c512_i32_47 c0_i32_50
  let v112 : BitVec 32 := Scalar.extui v111
  let c0_i32_51 : BitVec 32 := 0#32
  let v113 : BitVec 1 := Scalar.cmpi .slt c512_i32_47 c0_i32_51
  let v114 : BitVec 32 := Scalar.extui v113
  let v115 : BitVec 32 := Scalar.subi v112 v114
  let v116 : BitVec 1 := Scalar.cmpi .ne v110 v115
  let v117 : BitVec 32 := Scalar.remsi v102 c512_i32_47
  let c0_i32_52 : BitVec 32 := 0#32
  let v118 : BitVec 1 := Scalar.cmpi .ne v117 c0_i32_52
  let v119 : BitVec 1 := Scalar.andi v116 v118
  let c1_i32_53 : BitVec 32 := 1#32
  let v120 : BitVec 32 := Scalar.subi v105 c1_i32_53
  let v121 : BitVec 32 := Scalar.select v119 v120 v105
  let c0_i32_54 : BitVec 32 := 0#32
  let v122 : BitVec 1 := Scalar.cmpi .sgt v104 c0_i32_54
  let v123 : BitVec 32 := Scalar.addi v102 v104
  let c1_i32_55 : BitVec 32 := 1#32
  let v124 : BitVec 32 := Scalar.subi v123 c1_i32_55
  let c512_i32_56 : BitVec 32 := 512#32
  let v125 : BitVec 32 := Scalar.divsi v124 c512_i32_56
  let c0_i32_57 : BitVec 32 := 0#32
  let v126 : BitVec 1 := Scalar.cmpi .sgt v124 c0_i32_57
  let v127 : BitVec 32 := Scalar.extui v126
  let c0_i32_58 : BitVec 32 := 0#32
  let v128 : BitVec 1 := Scalar.cmpi .slt v124 c0_i32_58
  let v129 : BitVec 32 := Scalar.extui v128
  let v130 : BitVec 32 := Scalar.subi v127 v129
  let c0_i32_59 : BitVec 32 := 0#32
  let v131 : BitVec 1 := Scalar.cmpi .sgt c512_i32_56 c0_i32_59
  let v132 : BitVec 32 := Scalar.extui v131
  let c0_i32_60 : BitVec 32 := 0#32
  let v133 : BitVec 1 := Scalar.cmpi .slt c512_i32_56 c0_i32_60
  let v134 : BitVec 32 := Scalar.extui v133
  let v135 : BitVec 32 := Scalar.subi v132 v134
  let v136 : BitVec 1 := Scalar.cmpi .ne v130 v135
  let v137 : BitVec 32 := Scalar.remsi v124 c512_i32_56
  let c0_i32_61 : BitVec 32 := 0#32
  let v138 : BitVec 1 := Scalar.cmpi .ne v137 c0_i32_61
  let v139 : BitVec 1 := Scalar.andi v136 v138
  let c1_i32_62 : BitVec 32 := 1#32
  let v140 : BitVec 32 := Scalar.subi v125 c1_i32_62
  let v141 : BitVec 32 := Scalar.select v139 v140 v125
  let v142 : BitVec 32 := Scalar.subi v141 v121
  let c1_i32_63 : BitVec 32 := 1#32
  let v143 : BitVec 32 := Scalar.addi v142 c1_i32_63
  let c0_i32_64 : BitVec 32 := 0#32
  let v144 : BitVec 32 := Scalar.select v122 v143 c0_i32_64
  let v145 : BitVec 1 := Scalar.cmpi .sge arg0 v103
  let c0_i32_65 : BitVec 32 := 0#32
  let v146 : BitVec 1 := Scalar.cmpi .sgt v144 c0_i32_65
  let v147 : BitVec 1 := Scalar.andi v145 v146
  let v148 : BitVec 32 := Scalar.subi arg0 v103
  let c1_i32_66 : BitVec 32 := 1#32
  let v149 : BitVec 32 := Scalar.subi v144 c1_i32_66
  let v150 : BitVec 32 := Scalar.minsi v148 v149
  let v151 : BitVec 32 := Scalar.addi v121 v150
  let v152 : BitVec 32 := Scalar.select v147 v151 v100
  let c2_i32 : BitVec 32 := 2#32
  let v153 : BitVec 32 := Scalar.select v147 c2_i32 v101
  let v154 : BitVec 32 := Scalar.addi v102 v104
  let v155 : BitVec 32 := Scalar.addi v103 v144
  let c3 : Index := 3#32
  let v156 : BitVec 32 := pf.at 0 (Rect.unit (s := S4) ![3] S1.size inb_S4_S1_3) numel1_S1
  let c512_i32_67 : BitVec 32 := 512#32
  let v157 : BitVec 32 := Scalar.divsi v154 c512_i32_67
  let c0_i32_68 : BitVec 32 := 0#32
  let v158 : BitVec 1 := Scalar.cmpi .sgt v154 c0_i32_68
  let v159 : BitVec 32 := Scalar.extui v158
  let c0_i32_69 : BitVec 32 := 0#32
  let v160 : BitVec 1 := Scalar.cmpi .slt v154 c0_i32_69
  let v161 : BitVec 32 := Scalar.extui v160
  let v162 : BitVec 32 := Scalar.subi v159 v161
  let c0_i32_70 : BitVec 32 := 0#32
  let v163 : BitVec 1 := Scalar.cmpi .sgt c512_i32_67 c0_i32_70
  let v164 : BitVec 32 := Scalar.extui v163
  let c0_i32_71 : BitVec 32 := 0#32
  let v165 : BitVec 1 := Scalar.cmpi .slt c512_i32_67 c0_i32_71
  let v166 : BitVec 32 := Scalar.extui v165
  let v167 : BitVec 32 := Scalar.subi v164 v166
  let v168 : BitVec 1 := Scalar.cmpi .ne v162 v167
  let v169 : BitVec 32 := Scalar.remsi v154 c512_i32_67
  let c0_i32_72 : BitVec 32 := 0#32
  let v170 : BitVec 1 := Scalar.cmpi .ne v169 c0_i32_72
  let v171 : BitVec 1 := Scalar.andi v168 v170
  let c1_i32_73 : BitVec 32 := 1#32
  let v172 : BitVec 32 := Scalar.subi v157 c1_i32_73
  let v173 : BitVec 32 := Scalar.select v171 v172 v157
  let c0_i32_74 : BitVec 32 := 0#32
  let v174 : BitVec 1 := Scalar.cmpi .sgt v156 c0_i32_74
  let v175 : BitVec 32 := Scalar.addi v154 v156
  let c1_i32_75 : BitVec 32 := 1#32
  let v176 : BitVec 32 := Scalar.subi v175 c1_i32_75
  let c512_i32_76 : BitVec 32 := 512#32
  let v177 : BitVec 32 := Scalar.divsi v176 c512_i32_76
  let c0_i32_77 : BitVec 32 := 0#32
  let v178 : BitVec 1 := Scalar.cmpi .sgt v176 c0_i32_77
  let v179 : BitVec 32 := Scalar.extui v178
  let c0_i32_78 : BitVec 32 := 0#32
  let v180 : BitVec 1 := Scalar.cmpi .slt v176 c0_i32_78
  let v181 : BitVec 32 := Scalar.extui v180
  let v182 : BitVec 32 := Scalar.subi v179 v181
  let c0_i32_79 : BitVec 32 := 0#32
  let v183 : BitVec 1 := Scalar.cmpi .sgt c512_i32_76 c0_i32_79
  let v184 : BitVec 32 := Scalar.extui v183
  let c0_i32_80 : BitVec 32 := 0#32
  let v185 : BitVec 1 := Scalar.cmpi .slt c512_i32_76 c0_i32_80
  let v186 : BitVec 32 := Scalar.extui v185
  let v187 : BitVec 32 := Scalar.subi v184 v186
  let v188 : BitVec 1 := Scalar.cmpi .ne v182 v187
  let v189 : BitVec 32 := Scalar.remsi v176 c512_i32_76
  let c0_i32_81 : BitVec 32 := 0#32
  let v190 : BitVec 1 := Scalar.cmpi .ne v189 c0_i32_81
  let v191 : BitVec 1 := Scalar.andi v188 v190
  let c1_i32_82 : BitVec 32 := 1#32
  let v192 : BitVec 32 := Scalar.subi v177 c1_i32_82
  let v193 : BitVec 32 := Scalar.select v191 v192 v177
  let v194 : BitVec 32 := Scalar.subi v193 v173
  let c1_i32_83 : BitVec 32 := 1#32
  let v195 : BitVec 32 := Scalar.addi v194 c1_i32_83
  let c0_i32_84 : BitVec 32 := 0#32
  let v196 : BitVec 32 := Scalar.select v174 v195 c0_i32_84
  let v197 : BitVec 1 := Scalar.cmpi .sge arg0 v155
  let c0_i32_85 : BitVec 32 := 0#32
  let v198 : BitVec 1 := Scalar.cmpi .sgt v196 c0_i32_85
  let v199 : BitVec 1 := Scalar.andi v197 v198
  let v200 : BitVec 32 := Scalar.subi arg0 v155
  let c1_i32_86 : BitVec 32 := 1#32
  let v201 : BitVec 32 := Scalar.subi v196 c1_i32_86
  let v202 : BitVec 32 := Scalar.minsi v200 v201
  let v203 : BitVec 32 := Scalar.addi v173 v202
  let v204 : BitVec 32 := Scalar.select v199 v203 v152
  let c3_i32 : BitVec 32 := 3#32
  let v205 : BitVec 32 := Scalar.select v199 c3_i32 v153
  let v206 : BitVec 32 := Scalar.addi v154 v156
  let v207 : BitVec 32 := Scalar.addi v155 v196
  let v208 : BitVec 1 := Scalar.cmpi .slt arg0 v207
  let c0_i32_87 : BitVec 32 := 0#32
  let c0_i32_88 : BitVec 32 := 0#32
  ![v204.toNat, c0_i32_87.toNat]

abbrev stage0_0 : Fin 2 → Memref sig .tc .vmem S512x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x5632 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S12288x2816 : Shape := ⟨2, ![12288, 2816]⟩
abbrev S12288x1 : Shape := ⟨2, ![12288, 1]⟩
abbrev S4 : Shape := ⟨1, ![4]⟩
abbrev S4x2816x5632 : Shape := ⟨3, ![4, 2816, 5632]⟩
abbrev S4x5632 : Shape := ⟨2, ![4, 5632]⟩
abbrev S12288x5632 : Shape := ⟨2, ![12288, 5632]⟩
abbrev S1 : Shape := ⟨1, ![1]⟩
abbrev S1x2816x5632 : Shape := ⟨3, ![1, 2816, 5632]⟩
abbrev S2816x5632 : Shape := ⟨2, ![2816, 5632]⟩
abbrev S1x5632 : Shape := ⟨2, ![1, 5632]⟩

abbrev nBuf : Space → Nat
  | .hbm => 6
  | .vmem => 5
  | .smem => 1
  | _ => 0

abbrev bufTy : (tb : Table) → Fin (tcTables nBuf tb) → BufTy
  | .hbm, ⟨0, _⟩ => ⟨S12288x2816, .fp8e4m3⟩
  | .hbm, ⟨1, _⟩ => ⟨S12288x1, .f32⟩
  | .hbm, ⟨2, _⟩ => ⟨S4, .i32⟩
  | .hbm, ⟨3, _⟩ => ⟨S4x2816x5632, .fp8e4m3⟩
  | .hbm, ⟨4, _⟩ => ⟨S4x5632, .f32⟩
  | .hbm, ⟨5, _⟩ => ⟨S12288x5632, .bf16⟩
  | .local _ .vmem, ⟨0, _⟩ => ⟨S12288x2816, .fp8e4m3⟩
  | .local _ .vmem, ⟨1, _⟩ => ⟨S12288x1, .f32⟩
  | .local _ .vmem, ⟨2, _⟩ => ⟨S4x2816x5632, .fp8e4m3⟩
  | .local _ .vmem, ⟨3, _⟩ => ⟨S4x5632, .f32⟩
  | .local _ .vmem, ⟨4, _⟩ => ⟨S12288x5632, .bf16⟩
  | .local _ .smem, ⟨0, _⟩ => ⟨S4, .i32⟩
  | _, _ => ⟨S12288x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2816x5632 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelIdeal.Runs.lean ====
/- What the region of the kernel finds: the buffers after the host's reshape, the prefetched table of group sizes
   (and the pipeline at it), and each window's block at a grid point. -/
module

public import proofs.«01_k».proof.Proof.Gen.KernelIdeal.Skeleton
public import proofs.«01_k».proof.Proof.Gen.KernelIdeal.Launch
public import Idealize.ShloMosaic.Lib.Claim
public import Idealize.ShloMosaic.Lib.Exec
public import Idealize.ShloMosaic.Lib.Pipeline.Frame
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main runs the host operation and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operation writes `main_v0` alone: every other buffer is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-! ## The prefetched table -/

/-- The table's contents when the region is entered (the program runs on one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The pipeline's side condition of the table: every window's block is inside its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM0_0 : Memref sig .tc .smem S4 .i32 := Memref.whole main_arg2
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The word the body loads from the table at group `k` (a literal). -/
abbrev rd0 (c : Dev nD) (xt : TbBuf0 (F := F) c tbM0_0) : BitVec 32 :=
  tbM0_0.view.readAt (Elt F) (Rect.unit (s := S4) ![0] S1.size inb_S4_S1_0).toLoadRect xt (Shape.Idx.first (numel1_S1.symm ▸ Nat.one_pos))
abbrev rd1 (c : Dev nD) (xt : TbBuf0 (F := F) c tbM0_0) : BitVec 32 :=
  tbM0_0.view.readAt (Elt F) (Rect.unit (s := S4) ![1] S1.size inb_S4_S1_1).toLoadRect xt (Shape.Idx.first (numel1_S1.symm ▸ Nat.one_pos))
abbrev rd2 (c : Dev nD) (xt : TbBuf0 (F := F) c tbM0_0) : BitVec 32 :=
  tbM0_0.view.readAt (Elt F) (Rect.unit (s := S4) ![2] S1.size inb_S4_S1_2).toLoadRect xt (Shape.Idx.first (numel1_S1.symm ▸ Nat.one_pos))
abbrev rd3 (c : Dev nD) (xt : TbBuf0 (F := F) c tbM0_0) : BitVec 32 :=
  tbM0_0.view.readAt (Elt F) (Rect.unit (s := S4) ![3] S1.size inb_S4_S1_3).toLoadRect xt (Shape.Idx.first (numel1_S1.symm ▸ Nat.one_pos))

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms0_0 (hO : Ok m) (t : Fin (cfgM m hO).N) : Memref sig .tc .vmem S512x2816 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2816x5632 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x5632 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x5632 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The body as the pipeline calls it at point `t`. -/
def bodyAt0 (hO : Ok m) (t : Fin (cfgM m hO).N) : Prog (TpuEff nD τ sig (Elt F) Λ₀ .tc) PUnit :=
  cc0_grouped_fp8_matmul (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t)

end Cert.KernelIdeal.Hand

end
-- ==== Proof.KernelIdeal.Real.lean ====
/- The kernel body, run on whole staging buffers at a work item: it leaves in the output's buffer eleven 512-column pieces. -/
module

public import proofs.«01_k».proof.Proof.KernelIdeal.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 8000000 in
/-- At a work item: what the body's stores leave in the output's buffer, as pieces (last first), with the proof that the body
    runs there and hands every other buffer back as it was. -/
noncomputable def kernelRun_real (c : Dev nD) (i : grid0.Coords) (arg2 : Memref sig .tc .vmem S512x2816 .fp8e4m3) (harg2 : arg2.IsWhole) (arg3 : Memref sig .tc .vmem S512x1 .f32) (harg3 : arg3.IsWhole) (arg4 : Memref sig .tc .vmem S1x2816x5632 .fp8e4m3) (harg4 : arg4.IsWhole) (arg5 : Memref sig .tc .vmem S1x1x5632 .f32) (harg5 : arg5.IsWhole) (arg6 : Memref sig .tc .vmem S512x5632 .bf16) (harg6 : arg6.IsWhole)
    (x0 : Vec F S512x2816 .fp8e4m3) (x1 : Vec F S512x1 .f32) (x2 : Vec F S1x2816x5632 .fp8e4m3) (x3 : Vec F S1x1x5632 .f32) (x4 : Vec F S512x5632 .bf16) (xt : TbBuf0 (F := F) c tbM0_0)
    (hw : k0_chk1 i (rd0 c xt) (rd1 c xt) (rd2 c xt) (rd3 c xt)) (hc : k0_cond1 i (rd0 c xt) (rd1 c xt) (rd2 c xt) (rd3 c xt) = 1#1) :
    { L4 : List (View.Piece (Elt F) S512x5632 .bf16) //
      ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ tbPt0 c tbM0_0 xt) -∗ K ⟨⟩))
      ⊢ wp frame (wpE (defs₀ (F := F)) Variants.none c none) E (cc0_grouped_fp8_matmul i tbM0_0 htbM0_0 arg2 harg2 arg3 harg3 arg4 harg4 arg5 harg5 arg6 harg6) K } := by
  refine ⟨?_, fun E K => ?run⟩
  case run =>
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold k0_part1_skel k0_part2_skel k0_part3_skel k0_part4_skel k0_part5_skel k0_part6_skel k0_part7_skel k0_part8_skel k0_part9_skel k0_part10_skel k0_part11_skel
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hw | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact HT0

end Cert.KernelIdeal.Hand

end
-- ==== Proof.KernelIdeal.Idle.lean ====
/- The kernel body, run on whole staging buffers: at a grid point past the last work item it stores nothing; at a work
   item it leaves in the output's buffer eleven 512-column pieces. -/
module

public import proofs.«01_k».proof.Proof.KernelIdeal.Runs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- Past the last work item the body stores nothing: every buffer is handed back as it was. -/
theorem kernelRun_idle (c : Dev nD) (i : grid0.Coords) (arg2 : Memref sig .tc .vmem S512x2816 .fp8e4m3) (harg2 : arg2.IsWhole) (arg3 : Memref sig .tc .vmem S512x1 .f32) (harg3 : arg3.IsWhole) (arg4 : Memref sig .tc .vmem S1x2816x5632 .fp8e4m3) (harg4 : arg4.IsWhole) (arg5 : Memref sig .tc .vmem S1x1x5632 .f32) (harg5 : arg5.IsWhole) (arg6 : Memref sig .tc .vmem S512x5632 .bf16) (harg6 : arg6.IsWhole)
    (x0 : Vec F S512x2816 .fp8e4m3) (x1 : Vec F S512x1 .f32) (x2 : Vec F S1x2816x5632 .fp8e4m3) (x3 : Vec F S1x1x5632 .f32) (x4 : Vec F S512x5632 .bf16) (xt : TbBuf0 (F := F) c tbM0_0)
    (hw : k0_chk1 i (rd0 c xt) (rd1 c xt) (rd2 c xt) (rd3 c xt)) (hc : ¬ k0_cond1 i (rd0 c xt) (rd1 c xt) (rd2 c xt) (rd3 c xt) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 xt) -∗ K ⟨⟩))
      ⊢ wp frame (wpE (defs₀ (F := F)) Variants.none c none) E (cc0_grouped_fp8_matmul i tbM0_0 htbM0_0 arg2 harg2 arg3 harg3 arg4 harg4 arg5 harg5 arg6 harg6) K := by
  simp only [cc0_grouped_fp8_matmul_eq_skeleton]; unfold cc0_grouped_fp8_matmul_skel
  simp only [k0_part7_eq_skeleton, k0_part8_eq_skeleton, k0_part9_eq_skeleton, k0_part10_eq_skeleton, k0_part11_eq_skeleton]
  unfold k0_part7_skel k0_part8_skel k0_part9_skel k0_part10_skel k0_part11_skel
  unfold owns
  iintro ⟨H0, H1, H2, H3, H4, HT0, Hk⟩
  sl_exec (disch := first | sl_exact hw | sl_exact hc)
  sl_step
  iapply Hk
  isplitl [H0]; · iexact H0
  isplitl [H1]; · iexact H1
  isplitl [H2]; · iexact H2
  isplitl [H3]; · iexact H3
  isplitl [H4]; · iexact H4
  iexact HT0

end Cert.KernelIdeal.Hand

end
-- ==== Proof.Words.lean ====
/- The kernel's index arithmetic on 32-bit words, written once: the tile and the expert of a grid point ("item"), and
   whether the point is a work item, from the four group sizes. The printed kernel spells these out in its index maps
   and in its body; KernelIdeal/Index.lean and Kernel/Index.lean identify the printed words with these. -/
module

public import Idealize.ShloMosaic.Lib.WordCmp
public import Idealize.ShloMosaic.Lib.NatWords

@[expose] public section

namespace Cert.Words

open Idealize.ShloMosaic

/-- `x // 512` (rounding down) as it is printed: the quotient rounded to zero, one less when the signs differ and the
    division is not exact. -/
def fdiv (x : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 512#32 0#32)) (Scalar.extui (Scalar.cmpi .slt 512#32 0#32))))
      (Scalar.cmpi .ne (Scalar.remsi x 512#32) 0#32))
    (Scalar.subi (Scalar.divsi x 512#32) 1#32) (Scalar.divsi x 512#32)

/-- How many tiles a group of `size` rows from row `start` meets. -/
def count (start size : BitVec 32) : BitVec 32 :=
  Scalar.select (Scalar.cmpi .sgt size 0#32)
    (Scalar.addi (Scalar.subi (fdiv (Scalar.subi (Scalar.addi start size) 1#32)) (fdiv start)) 1#32) 0#32

/-- Whether item `i` is at or after the group's first item (`before` items precede it), the group not empty. -/
def here (i before n : BitVec 32) : BitVec 1 := Scalar.andi (Scalar.cmpi .sge i before) (Scalar.cmpi .sgt n 0#32)

/-- The tile item `i` has in the group. -/
def pick (i before n start : BitVec 32) : BitVec 32 :=
  Scalar.addi (fdiv start) (Scalar.minsi (Scalar.subi i before) (Scalar.subi n 1#32))

section
variable (i a b c d : BitVec 32)

def st1 : BitVec 32 := Scalar.addi 0#32 a
def st2 : BitVec 32 := Scalar.addi (st1 a) b
def st3 : BitVec 32 := Scalar.addi (st2 a b) c
def cn0 : BitVec 32 := count 0#32 a
def cn1 : BitVec 32 := count (st1 a) b
def cn2 : BitVec 32 := count (st2 a b) c
def cn3 : BitVec 32 := count (st3 a b c) d
def be1 : BitVec 32 := Scalar.addi 0#32 (cn0 a)
def be2 : BitVec 32 := Scalar.addi (be1 a) (cn1 a b)
def be3 : BitVec 32 := Scalar.addi (be2 a b) (cn2 a b c)
def be4 : BitVec 32 := Scalar.addi (be3 a b c) (cn3 a b c d)

/-- The item's tile. -/
def tile : BitVec 32 :=
  Scalar.select (here i (be3 a b c) (cn3 a b c d)) (pick i (be3 a b c) (cn3 a b c d) (st3 a b c))
    (Scalar.select (here i (be2 a b) (cn2 a b c)) (pick i (be2 a b) (cn2 a b c) (st2 a b))
      (Scalar.select (here i (be1 a) (cn1 a b)) (pick i (be1 a) (cn1 a b) (st1 a))
        (Scalar.select (here i 0#32 (cn0 a)) (pick i 0#32 (cn0 a) 0#32) 0#32)))

/-- The item's group. -/
def group : BitVec 32 :=
  Scalar.select (here i (be3 a b c) (cn3 a b c d)) 3#32
    (Scalar.select (here i (be2 a b) (cn2 a b c)) 2#32
      (Scalar.select (here i (be1 a) (cn1 a b)) 1#32
        (Scalar.select (here i 0#32 (cn0 a)) 0#32 0#32)))

/-- Whether the point is a work item. -/
def real : BitVec 1 :=
  Scalar.cmpi .ne (Scalar.extui (Scalar.cmpi .slt i (be4 a b c d)) : BitVec 32) 0#32

/-- The first row of group `g`, as the body sums it. -/
def first (g : BitVec 32) : BitVec 32 :=
  Scalar.addi (Scalar.addi (Scalar.addi (Scalar.addi 0#32 (Scalar.select (Scalar.cmpi .sgt g 0#32) a 0#32))
    (Scalar.select (Scalar.cmpi .sgt g 1#32) b 0#32)) (Scalar.select (Scalar.cmpi .sgt g 2#32) c 0#32))
    (Scalar.select (Scalar.cmpi .sgt g 3#32) d 0#32)

end

end Cert.Words
-- ==== Proof.KernelIdeal.Index.lean ====
/- The printed index words of the kernel are those of Words.lean: its index maps, its work-item test, and the cell it loads the
   group's size from. -/
module

public import proofs.«01_k».proof.Proof.Words
public import proofs.«01_k».proof.Proof.KernelIdeal.Runs

@[expose] public section

set_option maxRecDepth 65536

noncomputable section

namespace Cert.KernelIdeal.Hand

open Idealize.ShloMosaic Cert.KernelIdeal.Gen

variable {F : FTy → Type} [FloatOps F]

/-- A grid point as a word. -/
abbrev itemW (i : grid0.Coords) : BitVec 32 := BitVec.ofNat 32 (i 0).val

/-- The table's word for group `k`, as the index maps read it. -/
abbrev sz0 (pf : pre0.Contents (Elt F)) : BitVec 32 := pf.at 0 (Rect.unit (s := S4) ![0] S1.size inb_S4_S1_0) numel1_S1
abbrev sz1 (pf : pre0.Contents (Elt F)) : BitVec 32 := pf.at 0 (Rect.unit (s := S4) ![1] S1.size inb_S4_S1_1) numel1_S1
abbrev sz2 (pf : pre0.Contents (Elt F)) : BitVec 32 := pf.at 0 (Rect.unit (s := S4) ![2] S1.size inb_S4_S1_2) numel1_S1
abbrev sz3 (pf : pre0.Contents (Elt F)) : BitVec 32 := pf.at 0 (Rect.unit (s := S4) ![3] S1.size inb_S4_S1_3) numel1_S1

theorem cond_eq (i : grid0.Coords) (a b c d : BitVec 32) : k0_cond1 i a b c d = Words.real (itemW i) a b c d := rfl
theorem off_eq (i : grid0.Coords) (a b c d : BitVec 32) : k0_off1 i a b c d = ![(Words.group (itemW i) a b c d).toNat] := rfl

theorem transform_0_eq (pf : pre0.Contents (Elt F)) (i : grid0.Coords) :
    cc0_transform_0 inb_S4_S1_0 numel1_S1 inb_S4_S1_1 inb_S4_S1_2 inb_S4_S1_3 pf i = ![(Words.tile (itemW i) (sz0 pf) (sz1 pf) (sz2 pf) (sz3 pf)).toNat, 0] := rfl
theorem transform_1_eq (pf : pre0.Contents (Elt F)) (i : grid0.Coords) :
    cc0_transform_1 inb_S4_S1_0 numel1_S1 inb_S4_S1_1 inb_S4_S1_2 inb_S4_S1_3 pf i = ![(Words.tile (itemW i) (sz0 pf) (sz1 pf) (sz2 pf) (sz3 pf)).toNat, 0] := rfl
theorem transform_2_eq (pf : pre0.Contents (Elt F)) (i : grid0.Coords) :
    cc0_transform_2 inb_S4_S1_0 numel1_S1 inb_S4_S1_1 inb_S4_S1_2 inb_S4_S1_3 pf i = ![(Words.group (itemW i) (sz0 pf) (sz1 pf) (sz2 pf) (sz3 pf)).toNat, 0, 0] := rfl
theorem transform_3_eq (pf : pre0.Contents (Elt F)) (i : grid0.Coords) :
    cc0_transform_3 inb_S4_S1_0 numel1_S1 inb_S4_S1_1 inb_S4_S1_2 inb_S4_S1_3 pf i = ![(Words.group (itemW i) (sz0 pf) (sz1 pf) (sz2 pf) (sz3 pf)).toNat, 0, 0] := rfl
theorem transform_4_eq (pf : pre0.Contents (Elt F)) (i : grid0.Coords) :
    cc0_transform_4 inb_S4_S1_0 numel1_S1 inb_S4_S1_1 inb_S4_S1_2 inb_S4_S1_3 pf i = ![(Words.tile (itemW i) (sz0 pf) (sz1 pf) (sz2 pf) (sz3 pf)).toNat, 0] := rfl

end Cert.KernelIdeal.Hand

end
-- ==== Proof.KernelIdeal.Body.lean ====
/- What the body leaves in the output's buffer at a work item, as one function of the buffers it reads: column chunk by
   column chunk the product of the block, scaled, on the rows of the item's group, and the buffer's old contents (or zero,
   on the tile's first visit) on the others. -/
module

public import proofs.«01_k».proof.Proof.KernelIdeal.Real
public import proofs.«01_k».proof.Proof.KernelIdeal.Idle
public import proofs.«01_k».proof.Proof.KernelIdeal.Index
public import Idealize.ShloMosaic.Lib.WholeRead
public import Idealize.ShloMosaic.Lib.Ring
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The column chunks of the buffers -/

/-- Chunk `j` of the weights' block: its columns `512 j` to `512 j + 511`. -/
def colW (j : Fin 11) (w : Vec F S1x2816x5632 .fp8e4m3) : Vec F S1x2816x512 .fp8e4m3 := fun z =>
  w (fun | 0 => z 0 | 1 => z 1 | 2 => (⟨512 * j.val + (z 2).val, by have h := (z 2).isLt; have : (z 2).val < 512 := h; have := j.isLt; show _ < 5632; omega⟩ : Fin 5632)
         | ⟨_ + 3, h⟩ => absurd h (Nat.not_lt.2 (Nat.le_add_left _ _)))
/-- Chunk `j` of the weights' scales. -/
def colS (j : Fin 11) (w : Vec F S1x1x5632 .f32) : Vec F S1x1x512 .f32 := fun z =>
  w (fun | 0 => z 0 | 1 => z 1 | 2 => (⟨512 * j.val + (z 2).val, by have h := (z 2).isLt; have : (z 2).val < 512 := h; have := j.isLt; show _ < 5632; omega⟩ : Fin 5632)
         | ⟨_ + 3, h⟩ => absurd h (Nat.not_lt.2 (Nat.le_add_left _ _)))
/-- Chunk `j` of the output's old contents. -/
def colO (j : Fin 11) (w : Vec F S512x5632 .bf16) : Vec F S512x512 .bf16 := fun z =>
  w (fun | 0 => z 0 | 1 => (⟨512 * j.val + (z 1).val, by have h := (z 1).isLt; have : (z 1).val < 512 := h; have := j.isLt; show _ < 5632; omega⟩ : Fin 5632)
         | ⟨_ + 2, h⟩ => absurd h (Nat.not_lt.2 (Nat.le_add_left _ _)))

/-- One chunk of the result. -/
def chunkOf (mine : IVec S512x1 1) (fst : BitVec 1) (x : Vec F S512x2816 .fp8e4m3) (xs : Vec F S512x1 .f32)
    (w : Vec F S1x2816x512 .fp8e4m3) (ws : Vec F S1x1x512 .f32) (old : Vec F S512x512 .bf16) : Vec F S512x512 .bf16 :=
  k0_pay1 mine fst x xs w ws old

/-- The column chunk of a column, and the column within it. -/
def chIx (y : S512x5632.Idx) : Fin 11 := ⟨(y 1).val / 512, by have h := (y 1).isLt; have : (y 1).val < 5632 := h; omega⟩
def inIx (y : S512x5632.Idx) : S512x512.Idx := fun
  | 0 => y 0 | 1 => (⟨(y 1).val % 512, Nat.mod_lt _ (by decide)⟩ : Fin 512)
  | ⟨_ + 2, h⟩ => absurd h (Nat.not_lt.2 (Nat.le_add_left _ _))

/-- The whole result of the body on the block. -/
def bodyOut (mine : IVec S512x1 1) (fst : BitVec 1) (x : Vec F S512x2816 .fp8e4m3) (xs : Vec F S512x1 .f32)
    (w : Vec F S1x2816x5632 .fp8e4m3) (ws : Vec F S1x1x5632 .f32) (old : Vec F S512x5632 .bf16) : Vec F S512x5632 .bf16 := fun y =>
  chunkOf mine fst x xs (colW (chIx y) w) (colS (chIx y) ws) (colO (chIx y) old) (inIx y)

theorem bodyOut_emb (j : Fin 11) (inb) (mine : IVec S512x1 1) (fst : BitVec 1) (x : Vec F S512x2816 .fp8e4m3) (xs : Vec F S512x1 .f32)
    (w : Vec F S1x2816x5632 .fp8e4m3) (ws : Vec F S1x1x5632 .f32) (old : Vec F S512x5632 .bf16) (z : S512x512.Idx) :
    bodyOut mine fst x xs w ws old ((Rect.unit (s := S512x5632) ![0, 512 * j.val] S512x512.size inb).emb z)
      = chunkOf mine fst x xs (colW j w) (colS j ws) (colO j old) z := by
  have h1 : (z 1).val < 512 := (z 1).isLt
  have e1 : (((Rect.unit (s := S512x5632) ![0, 512 * j.val] S512x512.size inb).emb z) 1).val = 512 * j.val + (z 1).val :=
    ValueKit.rect_emb_unit_val _ _ _ _ _
  have e0 : (((Rect.unit (s := S512x5632) ![0, 512 * j.val] S512x512.size inb).emb z) 0).val = (z 0).val :=
    (ValueKit.rect_emb_unit_val _ _ _ _ _).trans (Nat.zero_add _)
  have hj : chIx ((Rect.unit (s := S512x5632) ![0, 512 * j.val] S512x512.size inb).emb z) = j := by
    apply Fin.ext; show _ / 512 = _; rw [e1]; omega
  have hz : inIx ((Rect.unit (s := S512x5632) ![0, 512 * j.val] S512x512.size inb).emb z) = z := by
    funext a; apply Fin.ext
    match a with
    | 0 => exact e0
    | 1 => show _ % 512 = _; rw [e1]; omega
  unfold bodyOut; rw [hj, hz]

/-! ## The words of the item -/

section
variable (i : grid0.Coords) (a b c d sz : BitVec 32)

/-- The first row of the item's group. -/
def startW : BitVec 32 := Words.first a b c d (Words.group (itemW i) a b c d)
/-- The rows of the tile that lie in the item's group. -/
def mineOf : IVec S512x1 1 :=
  andi
    (cmpi .sge (addi (broadcast S512x1 (Scalar.muli (Words.tile (itemW i) a b c d) 512#32)) (iota .tc S512x1 32 [0] iota_S512x1_d0_w32))
      (broadcast S512x1 (startW i a b c d)))
    (cmpi .slt (addi (broadcast S512x1 (Scalar.muli (Words.tile (itemW i) a b c d) 512#32)) (iota .tc S512x1 32 [0] iota_S512x1_d0_w32))
      (broadcast S512x1 (Scalar.addi (startW i a b c d) sz)))
/-- Whether the item is the tile's first. -/
def fstOf : BitVec 1 := Scalar.cmpi .sle (startW i a b c d) (Scalar.muli (Words.tile (itemW i) a b c d) 512#32)
end

/-- The size of the item's group, as the body loads it. -/
def rdg (c : Dev nD) (xt : TbBuf0 (F := F) c tbM0_0) (i : grid0.Coords)
    (hw : k0_chk1 i (rd0 c xt) (rd1 c xt) (rd2 c xt) (rd3 c xt)) (hc : k0_cond1 i (rd0 c xt) (rd1 c xt) (rd2 c xt) (rd3 c xt) = 1#1) : BitVec 32 :=
  tbM0_0.view.readAt (Elt F) (Rect.unit (s := S4) (k0_off1 i (rd0 c xt) (rd1 c xt) (rd2 c xt) (rd3 c xt)) S1.size
    (k0_off1_inb i (rd0 c xt) (rd1 c xt) (rd2 c xt) (rd3 c xt) hw hc)).toLoadRect xt (Shape.Idx.first (numel1_S1.symm ▸ Nat.one_pos))

/-! ## The run's pieces -/

theorem chunk_congr {mine mine' : IVec S512x1 1} {fst fst' : BitVec 1} {x x' : Vec F S512x2816 .fp8e4m3} {xs xs' : Vec F S512x1 .f32}
    {w w' : Vec F S1x2816x512 .fp8e4m3} {ws ws' : Vec F S1x1x512 .f32} {old old' : Vec F S512x512 .bf16}
    (hm : mine = mine') (hf : fst = fst') (hx : x = x') (hxs : xs = xs') (hw : w = w') (hws : ws = ws') (ho : old = old') :
    chunkOf mine fst x xs w ws old = chunkOf mine' fst' x' xs' w' ws' old' := by
  subst hm hf hx hxs hw hws ho; rfl

theorem read_whole {s : Shape} {e : EltTy} {sp : Space} {m : Memref sig .tc sp s e} (hm : m.IsWhole) (X : Vec F s e) {off : Fin s.rank → ℕ} (hoff : ∀ a, off a = 0)
    (inb : ∀ a, off a + s.size a ≤ s.size a) :
    m.view.readAt (Elt F) (Rect.unit off s.size inb).toLoadRect (hm.unread X) = X := by
  funext y
  rw [hm.readAt_unread]
  congr 1; funext a; apply Fin.ext
  show off a + 1 * (y a).val = _
  rw [hoff]; omega

theorem read_colW {m : Memref sig .tc .vmem S1x2816x5632 .fp8e4m3} (hm : m.IsWhole) (X : Vec F S1x2816x5632 .fp8e4m3) (j : Fin 11) (inb) :
    m.view.readAt (Elt F) (Rect.unit (s := S1x2816x5632) ![0, 0, 512 * j.val] S1x2816x512.size inb).toLoadRect (hm.unread X) = colW j X := by
  funext y
  rw [hm.readAt_unread]
  unfold colW
  congr 1; funext a; apply Fin.ext
  match a with
  | 0 => show 0 + 1 * (y 0).val = (y 0).val; omega
  | 1 => show 0 + 1 * (y 1).val = (y 1).val; omega
  | 2 => show 512 * j.val + 1 * (y 2).val = 512 * j.val + (y 2).val; omega

theorem read_colS {m : Memref sig .tc .vmem S1x1x5632 .f32} (hm : m.IsWhole) (X : Vec F S1x1x5632 .f32) (j : Fin 11) (inb) :
    m.view.readAt (Elt F) (Rect.unit (s := S1x1x5632) ![0, 0, 512 * j.val] S1x1x512.size inb).toLoadRect (hm.unread X) = colS j X := by
  funext y
  rw [hm.readAt_unread]
  unfold colS
  congr 1; funext a; apply Fin.ext
  match a with
  | 0 => show 0 + 1 * (y 0).val = (y 0).val; omega
  | 1 => show 0 + 1 * (y 1).val = (y 1).val; omega
  | 2 => show 512 * j.val + 1 * (y 2).val = 512 * j.val + (y 2).val; omega

theorem read_colO {m : Memref sig .tc .vmem S512x5632 .bf16} (hm : m.IsWhole) (X : Vec F S512x5632 .bf16) (j : Fin 11) (inb) :
    m.view.readAt (Elt F) (Rect.unit (s := S512x5632) ![0, 512 * j.val] S512x512.size inb).toLoadRect (hm.unread X) = colO j X := by
  funext y
  rw [hm.readAt_unread]
  unfold colO
  congr 1; funext a; apply Fin.ext
  match a with
  | 0 => show 0 + 1 * (y 0).val = (y 0).val; omega
  | 1 => show 512 * j.val + 1 * (y 1).val = 512 * j.val + (y 1).val; omega

section
variable (c : Dev nD) (i : grid0.Coords) (arg2 : Memref sig .tc .vmem S512x2816 .fp8e4m3) (harg2 : arg2.IsWhole) (arg3 : Memref sig .tc .vmem S512x1 .f32) (harg3 : arg3.IsWhole) (arg4 : Memref sig .tc .vmem S1x2816x5632 .fp8e4m3) (harg4 : arg4.IsWhole) (arg5 : Memref sig .tc .vmem S1x1x5632 .f32) (harg5 : arg5.IsWhole) (arg6 : Memref sig .tc .vmem S512x5632 .bf16) (harg6 : arg6.IsWhole)
    (x0 : Vec F S512x2816 .fp8e4m3) (x1 : Vec F S512x1 .f32) (x2 : Vec F S1x2816x5632 .fp8e4m3) (x3 : Vec F S1x1x5632 .f32) (x4 : Vec F S512x5632 .bf16) (xt : TbBuf0 (F := F) c tbM0_0)
    (hw : k0_chk1 i (rd0 c xt) (rd1 c xt) (rd2 c xt) (rd3 c xt)) (hc : k0_cond1 i (rd0 c xt) (rd1 c xt) (rd2 c xt) (rd3 c xt) = 1#1)

/-- The buffers' chunks the body leaves, at the item's words. -/
def itemOut : Vec F S512x5632 .bf16 :=
  bodyOut (mineOf i (rd0 c xt) (rd1 c xt) (rd2 c xt) (rd3 c xt) (rdg c xt i hw hc)) (fstOf i (rd0 c xt) (rd1 c xt) (rd2 c xt) (rd3 c xt)) x0 x1 x2 x3 x4

set_option maxRecDepth 65536 in
set_option maxHeartbeats 8000000 in
/-- Every piece of the run is the result's function on the piece's columns. -/
theorem pieces_eq : ∀ p ∈ (kernelRun_real c i arg2 harg2 arg3 harg3 arg4 harg4 arg5 harg5 arg6 harg6 x0 x1 x2 x3 x4 xt hw hc).1,
    ∀ z : p.1.shape.Idx, p.2 z = itemOut c i x0 x1 x2 x3 x4 xt hw hc (p.1.emb z) := by
  have hmine : k0_pay2 (F := F)
            (Scalar.select (kernelRun_real.sl.v199 c i xt hw)
              (Scalar.addi (kernelRun_real.sl.v173 c i xt hw) (kernelRun_real.sl.v202 c i xt hw))
              (kernelRun_real.sl.v152 c i xt))
            (Scalar.select (kernelRun_real.sl.v199 c i xt hw) (3#32) (kernelRun_real.sl.v153 c i xt))
            (kernelRun_real.sl.r c xt) (kernelRun_real.sl.r_1 c xt) (kernelRun_real.sl.r_2 c xt)
            (kernelRun_real.sl.r_3 c xt) (kernelRun_real.sl.r_4 c i xt hw hc) = mineOf i (rd0 c xt) (rd1 c xt) (rd2 c xt) (rd3 c xt) (rdg c xt i hw hc) := rfl
  have hfst : kernelRun_real.sl.v239 c i xt hw = fstOf i (rd0 c xt) (rd1 c xt) (rd2 c xt) (rd3 c xt) := rfl
  unfold kernelRun_real itemOut
  dsimp only
  intro p hp
  simp only [List.mem_cons, List.not_mem_nil, or_false] at hp
  rcases hp with rfl | rfl | rfl | rfl | rfl | rfl | rfl | rfl | rfl | rfl | rfl
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨10, by decide⟩ inb_S1x2816x5632_S1x2816x512_0_0_5120) (read_colS harg5 x3 ⟨10, by decide⟩ inb_S1x1x5632_S1x1x512_0_0_5120) (read_colO harg6 x4 ⟨10, by decide⟩ inb_S512x5632_S512x512_0_5120)) z).trans (bodyOut_emb ⟨10, by decide⟩ inb_S512x5632_S512x512_0_5120 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨9, by decide⟩ inb_S1x2816x5632_S1x2816x512_0_0_4608) (read_colS harg5 x3 ⟨9, by decide⟩ inb_S1x1x5632_S1x1x512_0_0_4608) (read_colO harg6 x4 ⟨9, by decide⟩ inb_S512x5632_S512x512_0_4608)) z).trans (bodyOut_emb ⟨9, by decide⟩ inb_S512x5632_S512x512_0_4608 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨8, by decide⟩ inb_S1x2816x5632_S1x2816x512_0_0_4096) (read_colS harg5 x3 ⟨8, by decide⟩ inb_S1x1x5632_S1x1x512_0_0_4096) (read_colO harg6 x4 ⟨8, by decide⟩ inb_S512x5632_S512x512_0_4096)) z).trans (bodyOut_emb ⟨8, by decide⟩ inb_S512x5632_S512x512_0_4096 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨7, by decide⟩ inb_S1x2816x5632_S1x2816x512_0_0_3584) (read_colS harg5 x3 ⟨7, by decide⟩ inb_S1x1x5632_S1x1x512_0_0_3584) (read_colO harg6 x4 ⟨7, by decide⟩ inb_S512x5632_S512x512_0_3584)) z).trans (bodyOut_emb ⟨7, by decide⟩ inb_S512x5632_S512x512_0_3584 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨6, by decide⟩ inb_S1x2816x5632_S1x2816x512_0_0_3072) (read_colS harg5 x3 ⟨6, by decide⟩ inb_S1x1x5632_S1x1x512_0_0_3072) (read_colO harg6 x4 ⟨6, by decide⟩ inb_S512x5632_S512x512_0_3072)) z).trans (bodyOut_emb ⟨6, by decide⟩ inb_S512x5632_S512x512_0_3072 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨5, by decide⟩ inb_S1x2816x5632_S1x2816x512_0_0_2560) (read_colS harg5 x3 ⟨5, by decide⟩ inb_S1x1x5632_S1x1x512_0_0_2560) (read_colO harg6 x4 ⟨5, by decide⟩ inb_S512x5632_S512x512_0_2560)) z).trans (bodyOut_emb ⟨5, by decide⟩ inb_S512x5632_S512x512_0_2560 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨4, by decide⟩ inb_S1x2816x5632_S1x2816x512_0_0_2048) (read_colS harg5 x3 ⟨4, by decide⟩ inb_S1x1x5632_S1x1x512_0_0_2048) (read_colO harg6 x4 ⟨4, by decide⟩ inb_S512x5632_S512x512_0_2048)) z).trans (bodyOut_emb ⟨4, by decide⟩ inb_S512x5632_S512x512_0_2048 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨3, by decide⟩ inb_S1x2816x5632_S1x2816x512_0_0_1536) (read_colS harg5 x3 ⟨3, by decide⟩ inb_S1x1x5632_S1x1x512_0_0_1536) (read_colO harg6 x4 ⟨3, by decide⟩ inb_S512x5632_S512x512_0_1536)) z).trans (bodyOut_emb ⟨3, by decide⟩ inb_S512x5632_S512x512_0_1536 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨2, by decide⟩ inb_S1x2816x5632_S1x2816x512_0_0_1024) (read_colS harg5 x3 ⟨2, by decide⟩ inb_S1x1x5632_S1x1x512_0_0_1024) (read_colO harg6 x4 ⟨2, by decide⟩ inb_S512x5632_S512x512_0_1024)) z).trans (bodyOut_emb ⟨2, by decide⟩ inb_S512x5632_S512x512_0_1024 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨1, by decide⟩ inb_S1x2816x5632_S1x2816x512_0_0_512) (read_colS harg5 x3 ⟨1, by decide⟩ inb_S1x1x5632_S1x1x512_0_0_512) (read_colO harg6 x4 ⟨1, by decide⟩ inb_S512x5632_S512x512_0_512)) z).trans (bodyOut_emb ⟨1, by decide⟩ inb_S512x5632_S512x512_0_512 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨0, by decide⟩ inb_S1x2816x5632_S1x2816x512_0_0_0) (read_colS harg5 x3 ⟨0, by decide⟩ inb_S1x1x5632_S1x1x512_0_0_0) (read_colO harg6 x4 ⟨0, by decide⟩ inb_S512x5632_S512x512_0_0)) z).trans (bodyOut_emb ⟨0, by decide⟩ inb_S512x5632_S512x512_0_0 _ _ x0 x1 x2 x3 x4 z).symm

/-- The run's pieces cover the block. -/
theorem pieces_cover : ∀ y : S512x5632.Idx, ∃ p ∈ (kernelRun_real c i arg2 harg2 arg3 harg3 arg4 harg4 arg5 harg5 arg6 harg6 x0 x1 x2 x3 x4 xt hw hc).1, y ∈ p.1.set :=
  View.cover_of_tiledL _ ![512, 512] (by sl_kernel_rfl)

/-- The body at a work item: the output's buffer ends at `itemOut`. -/
theorem kernelRun_item (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (itemOut c i x0 x1 x2 x3 x4 xt hw hc) ∗ tbPt0 c tbM0_0 xt) -∗ K ⟨⟩))
      ⊢ wp frame (wpE (defs₀ (F := F)) Variants.none c none) E (cc0_grouped_fp8_matmul i tbM0_0 htbM0_0 arg2 harg2 arg3 harg3 arg4 harg4 arg5 harg5 arg6 harg6) K := by
  iintro ⟨H0, H1, H2, H3, H4, HT0, Hk⟩
  iapply ((kernelRun_real c i arg2 harg2 arg3 harg3 arg4 harg4 arg5 harg5 arg6 harg6 x0 x1 x2 x3 x4 xt hw hc).2 E K)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, ⟨%f, H4⟩, HT0⟩
  iapply Hk
  isplitl [H0]; · iexact H0
  isplitl [H1]; · iexact H1
  isplitl [H2]; · iexact H2
  isplitl [H3]; · iexact H3
  isplitl [H4]
  · unfold owns
    iexists _; isplitr; swap; · iexact H4
    ipureintro
    exact funext fun y => View.read_writes_apply_of_pieces _ _ (itemOut c i x0 x1 x2 x3 x4 xt hw hc) _
      (pieces_eq c i arg2 harg2 arg3 harg3 arg4 harg4 arg5 harg5 arg6 harg6 x0 x1 x2 x3 x4 xt hw hc) y
      (pieces_cover c i arg2 harg2 arg3 harg3 arg4 harg4 arg5 harg5 arg6 harg6 x0 x1 x2 x3 x4 xt hw hc y)
  iexact HT0
end

end Cert.KernelIdeal.Hand

end
-- ==== Proof.Sizes.lean ====
/- The precondition read off: the four words of the group sizes are natural numbers that sum to 12288. -/
module

public import proofs.«01_k».proof.Proof.Gen.Pre_sizes_partition
public import Idealize.ShloMosaic.Lib.WordCmp

@[expose] public section

namespace Cert.Sizes

open Idealize.ShloMosaic Idealize.ShloMosaic.WordCmp

/-- The index of group `k`. -/
def gIx (k : Fin 4) : Pre_sizes_partition.S4.Idx := fun | 0 => k | ⟨_ + 1, h⟩ => absurd h (Nat.not_lt.2 (Nat.le_add_left _ _))

theorem eq_gIx {y : Pre_sizes_partition.S4.Idx} {k : Fin 4} (h : (y 0).val = k.val) : y = gIx k := by
  funext a
  match a with
  | 0 => exact Fin.ext h

/-- The sum over the four groups. -/
theorem sum_eq (x : Pre_sizes_partition.S4.Idx → BitVec 32) (h : Pre_sizes_partition.S4.ReducesTo [0] Pre_sizes_partition.S_)
    (h0 : 0 < Pre_sizes_partition.S_.numel) (j : Pre_sizes_partition.S_.Idx) :
    Host.reduce IntOp.addi x (constantI Pre_sizes_partition.S_ 32 0#32) h h0 j
      = IntOp.addi (IntOp.addi (IntOp.addi (IntOp.addi 0#32 (x (gIx 0))) (x (gIx 1))) (x (gIx 2))) (x (gIx 3)) := by
  unfold Host.reduce
  have hf : ((List.finRange Pre_sizes_partition.S4.numel).filter fun n => h.drop (Pre_sizes_partition.S4.rowMajor.symm n) = j)
      = List.finRange Pre_sizes_partition.S4.numel :=
    List.filter_eq_self.2 fun n _ => decide_eq_true (funext fun a => a.elim0)
  rw [hf]
  have hn : (List.finRange Pre_sizes_partition.S4.numel).map (fun n => Pre_sizes_partition.S4.rowMajor.symm n) = [gIx 0, gIx 1, gIx 2, gIx 3] := by
    decide +kernel
  rw [← List.foldl_map (f := fun n => Pre_sizes_partition.S4.rowMajor.symm n) (g := fun r y => IntOp.addi r (x y)), hn]
  rfl

/-- The precondition gives the sizes. -/
theorem of_pre {F : FTy → Type} [FloatOps F] (x0 : FVec F Pre_sizes_partition.S12288x2816 .fp8e4m3) (x1 : FVec F Pre_sizes_partition.S12288x1 .f32)
    (x2 : IVec Pre_sizes_partition.S4 32) (x3 : FVec F Pre_sizes_partition.S4x2816x5632 .fp8e4m3) (x4 : FVec F Pre_sizes_partition.S4x5632 .f32)
    (h : Pre_sizes_partition.fn (F := F) x0 x1 x2 x3 x4 = fun _ => 1#1) :
    ∃ a b c d : ℕ, a + b + c + d = 12288 ∧ x2 (gIx 0) = BitVec.ofNat 32 a ∧ x2 (gIx 1) = BitVec.ofNat 32 b
      ∧ x2 (gIx 2) = BitVec.ofNat 32 c ∧ x2 (gIx 3) = BitVec.ofNat 32 d := by
  have e (y : Pre_sizes_partition.S4.Idx) : (x2 y).toNat ≤ 12288
      ∧ IntOp.addi (IntOp.addi (IntOp.addi (IntOp.addi 0#32 (x2 (gIx 0))) (x2 (gIx 1))) (x2 (gIx 2))) (x2 (gIx 3)) = 12288#32 := by
    have e := congrFun h y
    simp only [Pre_sizes_partition.fn, andi, cmpi, broadcastInDim, sum_eq] at e
    simp only [constantI, IntOp.cmpi, andi_ofBool, ofBool_eq_one_iff, Bool.and_eq_true, beq_iff_eq] at e
    obtain ⟨⟨h1, h2⟩, h3⟩ := e
    refine ⟨?_, h3⟩
    simp only [BitVec.sle, BitVec.toInt, decide_eq_true_eq, BitVec.toNat_ofNat] at h1 h2
    omega
  have e0 := (e (gIx 0)).1
  have e1 := (e (gIx 1)).1
  have e2 := (e (gIx 2)).1
  have e3 := (e (gIx 3)).1
  have hsum := congrArg BitVec.toNat (e (gIx 0)).2
  refine ⟨(x2 (gIx 0)).toNat, (x2 (gIx 1)).toNat, (x2 (gIx 2)).toNat, (x2 (gIx 3)).toNat, ?_, ?_, ?_, ?_, ?_⟩
  · simp only [IntOp.addi, BitVec.toNat_add, BitVec.toNat_ofNat] at hsum
    omega
  all_goals rw [BitVec.ofNat_toNat, BitVec.setWidth_eq]

end Cert.Sizes
-- ==== Proof.Sched.lean ====
/- The schedule of the grid's items in natural numbers: four group sizes that sum to 12288 rows, tiles of 512 rows; the items of
   a group are the tiles its rows meet, the groups one after the other. -/
module

public import Idealize.ShloMosaic.Lib.WordCmp

@[expose] public section

namespace Cert.Sched

/-- How many tiles a group of `z` rows from row `s` meets. -/
def cnt (s z : ℕ) : ℕ := if 0 < z then (s + z - 1) / 512 - s / 512 + 1 else 0

section
variable (i a b c d : ℕ)

def be1 : ℕ := cnt 0 a
def be2 : ℕ := be1 a + cnt a b
def be3 : ℕ := be2 a b + cnt (a + b) c
def be4 : ℕ := be3 a b c + cnt (a + b + c) d

/-- The tile of item `i`. -/
def tile : ℕ :=
  if be3 a b c ≤ i ∧ 0 < cnt (a + b + c) d then (a + b + c) / 512 + min (i - be3 a b c) (cnt (a + b + c) d - 1)
  else if be2 a b ≤ i ∧ 0 < cnt (a + b) c then (a + b) / 512 + min (i - be2 a b) (cnt (a + b) c - 1)
  else if be1 a ≤ i ∧ 0 < cnt a b then a / 512 + min (i - be1 a) (cnt a b - 1)
  else if 0 ≤ i ∧ 0 < cnt 0 a then 0 / 512 + min (i - 0) (cnt 0 a - 1)
  else 0

/-- The group of item `i`. -/
def group : ℕ :=
  if be3 a b c ≤ i ∧ 0 < cnt (a + b + c) d then 3
  else if be2 a b ≤ i ∧ 0 < cnt (a + b) c then 2
  else if be1 a ≤ i ∧ 0 < cnt a b then 1
  else if 0 ≤ i ∧ 0 < cnt 0 a then 0 else 0

/-- Whether grid point `i` is a work item. -/
def real : Prop := i < be4 a b c d

/-- The first row of group `g`, and its size. -/
def start (g : ℕ) : ℕ := (if 0 < g then a else 0) + (if 1 < g then b else 0) + (if 2 < g then c else 0) + (if 3 < g then d else 0)
def size (g : ℕ) : ℕ := if g = 0 then a else if g = 1 then b else if g = 2 then c else d
end

section
variable (a b c d : ℕ)
theorem start_0 : start a b c d 0 = 0 := by simp [start]
theorem start_1 : start a b c d 1 = a := by simp [start]
theorem start_2 : start a b c d 2 = a + b := by simp [start]
theorem start_3 : start a b c d 3 = a + b + c := by simp [start]
theorem size_0 : size a b c d 0 = a := rfl
theorem size_1 : size a b c d 1 = b := rfl
theorem size_2 : size a b c d 2 = c := rfl
theorem size_3 : size a b c d 3 = d := rfl
end

/-- One row less: the same tile, or the row begins a tile. -/
theorem pred_div (x : ℕ) (h : 0 < x) : (x / 512 = (x - 1) / 512) ∨ (x / 512 = (x - 1) / 512 + 1 ∧ 512 * (x / 512) = x) := by
  omega

theorem cnt_cases (s z : ℕ) : (z = 0 ∧ cnt s z = 0) ∨ (0 < z ∧ cnt s z = (s + z - 1) / 512 - s / 512 + 1) := by
  unfold cnt; split_ifs with h
  · exact Or.inr ⟨h, rfl⟩
  · exact Or.inl ⟨by omega, rfl⟩

/-- Item `i` is tile `t` of the group at row `s`, of size `z`, whose items are `p` to `p + n - 1`. -/
structure At (i t s z p n : ℕ) : Prop where
  pos : 0 < z
  num : n = (s + z - 1) / 512 - s / 512 + 1
  lo : p ≤ i
  hi : i < p + n
  tile : t = s / 512 + (i - p)

/-- The next item in the same group. -/
theorem At.next_same {i t t' s z p n : ℕ} (h : At i t s z p n) (h' : At (i + 1) t' s z p n) :
    (t' = t ∧ s = s + z ∧ 512 * t < s) ∨ (t' = t + 1 ∧ 512 * (t + 1) ≤ s + z ∧ s ≤ 512 * t') := by
  have := h.pos; have := h.num; have := h.lo; have := h.hi; have := h.tile; have := h'.hi; have := h'.tile
  omega

/-- The next item in the next group. -/
theorem At.next_group {i t t' s z p n s' z' p' n' : ℕ} (h : At i t s z p n) (h' : At (i + 1) t' s' z' p' n')
    (hs : s' = s + z) (hp : p' = p + n) :
    (t' = t ∧ s' = s + z ∧ 512 * t < s') ∨ (t' = t + 1 ∧ 512 * (t + 1) ≤ s + z ∧ s' ≤ 512 * t') := by
  have := h.pos; have := h.num; have := h.lo; have := h.hi; have := h.tile
  have := h'.lo; have := h'.tile
  have := pred_div (s + z) (by omega)
  subst hs hp
  have e : i = p + n - 1 := by omega
  have ht : t = (s + z - 1) / 512 := by omega
  have ht' : t' = (s + z) / 512 := by omega
  omega

variable {i a b c d : ℕ}

/-- A work item is a tile of one of the four groups. -/
theorem real_cases (hr : real i a b c d) :
    (group i a b c d = 0 ∧ At i (tile i a b c d) 0 a 0 (cnt 0 a))
    ∨ (group i a b c d = 1 ∧ At i (tile i a b c d) a b (be1 a) (cnt a b))
    ∨ (group i a b c d = 2 ∧ At i (tile i a b c d) (a + b) c (be2 a b) (cnt (a + b) c))
    ∨ (group i a b c d = 3 ∧ At i (tile i a b c d) (a + b + c) d (be3 a b c) (cnt (a + b + c) d)) := by
  have h0 := cnt_cases 0 a
  have h1 := cnt_cases a b
  have h2 := cnt_cases (a + b) c
  have h3 := cnt_cases (a + b + c) d
  unfold real be4 at hr
  have e1 : be1 a = cnt 0 a := rfl
  have e2 : be2 a b = be1 a + cnt a b := rfl
  have e3 : be3 a b c = be2 a b + cnt (a + b) c := rfl
  by_cases c3 : be3 a b c ≤ i
  · have : 0 < cnt (a + b + c) d := by omega
    have hc : be3 a b c ≤ i ∧ 0 < cnt (a + b + c) d := ⟨c3, this⟩
    refine Or.inr (Or.inr (Or.inr ⟨by unfold group; rw [if_pos hc], ?_⟩))
    refine ⟨by omega, by omega, c3, by omega, ?_⟩
    unfold tile; rw [if_pos hc, min_eq_left (by omega)]
  have n3 : ¬ (be3 a b c ≤ i ∧ 0 < cnt (a + b + c) d) := fun h => c3 h.1
  by_cases c2 : be2 a b ≤ i
  · have : 0 < cnt (a + b) c := by omega
    have hc : be2 a b ≤ i ∧ 0 < cnt (a + b) c := ⟨c2, this⟩
    refine Or.inr (Or.inr (Or.inl ⟨by unfold group; rw [if_neg n3, if_pos hc], ?_⟩))
    refine ⟨by omega, by omega, c2, by omega, ?_⟩
    unfold tile; rw [if_neg n3, if_pos hc, min_eq_left (by omega)]
  have n2 : ¬ (be2 a b ≤ i ∧ 0 < cnt (a + b) c) := fun h => c2 h.1
  by_cases c1 : be1 a ≤ i
  · have : 0 < cnt a b := by omega
    have hc : be1 a ≤ i ∧ 0 < cnt a b := ⟨c1, this⟩
    refine Or.inr (Or.inl ⟨by unfold group; rw [if_neg n3, if_neg n2, if_pos hc], ?_⟩)
    refine ⟨by omega, by omega, c1, by omega, ?_⟩
    unfold tile; rw [if_neg n3, if_neg n2, if_pos hc, min_eq_left (by omega)]
  have n1 : ¬ (be1 a ≤ i ∧ 0 < cnt a b) := fun h => c1 h.1
  have hc : 0 ≤ i ∧ 0 < cnt 0 a := ⟨Nat.zero_le _, by omega⟩
  refine Or.inl ⟨by unfold group; rw [if_neg n3, if_neg n2, if_neg n1, if_pos hc], ?_⟩
  refine ⟨by omega, by omega, Nat.zero_le _, by omega, ?_⟩
  unfold tile; rw [if_neg n3, if_neg n2, if_neg n1, if_pos hc, min_eq_left (by omega)]

/-- The first row and the end of a work item's group. -/
abbrev st (i a b c d : ℕ) : ℕ := start a b c d (group i a b c d)
abbrev en (i a b c d : ℕ) : ℕ := start a b c d (group i a b c d) + size a b c d (group i a b c d)

theorem real_at (hr : real i a b c d) :
    ∃ p n, At i (tile i a b c d) (st i a b c d) (size a b c d (group i a b c d)) p n := by
  rcases real_cases hr with ⟨hg, h⟩ | ⟨hg, h⟩ | ⟨hg, h⟩ | ⟨hg, h⟩ <;>
    (unfold st; rw [hg]
     simp only [start_0, start_1, start_2, start_3, size_0, size_1, size_2, size_3]
     exact ⟨_, _, h⟩)

theorem group_le : group i a b c d ≤ 3 := by unfold group; split_ifs <;> omega

/-- The rows of a work item's tile meet the rows of its group. -/
theorem real_meets (hr : real i a b c d) :
    st i a b c d ≤ 512 * tile i a b c d + 511 ∧ 512 * tile i a b c d < en i a b c d ∧ st i a b c d < en i a b c d := by
  obtain ⟨p, n, h⟩ := real_at hr
  have := h.pos; have := h.num; have := h.lo; have := h.hi; have := h.tile
  unfold en; unfold st at *
  generalize tile i a b c d = T at *
  generalize start a b c d (group i a b c d) = S at *
  generalize size a b c d (group i a b c d) = Z at *
  omega

section
variable (hs : a + b + c + d = 12288)
include hs

theorem en_le : en i a b c d ≤ 12288 := by
  have := @group_le i a b c d
  unfold en start size
  generalize group i a b c d = g at *
  split_ifs <;> omega

theorem tile_le_real (hr : real i a b c d) : tile i a b c d ≤ 23 := by
  have h := (real_meets hr).2.1
  have := en_le (i := i) hs
  omega

/-- Past the last work item the tile stays the last. -/
theorem tile_not_real (hr : ¬ real i a b c d) : tile i a b c d = 23 := by
  have h0 := cnt_cases 0 a
  have h1 := cnt_cases a b
  have h2 := cnt_cases (a + b) c
  have h3 := cnt_cases (a + b + c) d
  unfold real be4 at hr
  unfold tile
  have e1 : be1 a = cnt 0 a := rfl
  have e2 : be2 a b = be1 a + cnt a b := rfl
  have e3 : be3 a b c = be2 a b + cnt (a + b) c := rfl
  rcases h3 with ⟨z3, k3⟩ | ⟨z3, k3⟩
  · rw [if_neg (by omega)]
    rcases h2 with ⟨z2, k2⟩ | ⟨z2, k2⟩
    · rw [if_neg (by omega)]
      rcases h1 with ⟨z1, k1⟩ | ⟨z1, k1⟩
      · rw [if_neg (by omega)]
        rcases h0 with ⟨z0, k0⟩ | ⟨z0, k0⟩
        · omega
        · rw [if_pos (by omega), min_eq_right (by omega)]; omega
      · rw [if_pos (by omega), min_eq_right (by omega)]; omega
    · rw [if_pos (by omega), min_eq_right (by omega)]; omega
  · rw [if_pos (by omega), min_eq_right (by omega)]; omega

theorem tile_le : tile i a b c d ≤ 23 := by
  by_cases hr : real i a b c d
  · exact tile_le_real hs hr
  · exact (tile_not_real hs hr).le

/-- Point 0 is a work item, tile 0 of the first group that has rows. -/
theorem real_zero : real 0 a b c d := by
  have h0 := cnt_cases 0 a
  have h1 := cnt_cases a b
  have h2 := cnt_cases (a + b) c
  have h3 := cnt_cases (a + b + c) d
  unfold real be4 be3 be2 be1
  omega

theorem tile_zero : tile 0 a b c d = 0 ∧ st 0 a b c d = 0 := by
  have h0 := cnt_cases 0 a
  have h1 := cnt_cases a b
  have h2 := cnt_cases (a + b) c
  have h3 := cnt_cases (a + b + c) d
  have e1 : be1 a = cnt 0 a := rfl
  have e2 : be2 a b = be1 a + cnt a b := rfl
  have e3 : be3 a b c = be2 a b + cnt (a + b) c := rfl
  rcases real_cases (real_zero hs) with ⟨hg, h⟩ | ⟨hg, h⟩ | ⟨hg, h⟩ | ⟨hg, h⟩ <;>
    (have := h.pos; have := h.num; have := h.lo; have := h.hi; have := h.tile; unfold st; rw [hg]
     have := start_0 a b c d; have := start_1 a b c d; have := start_2 a b c d; have := start_3 a b c d
     omega)

/-- The last work item is the last tile, its group ends at the last row. -/
theorem real_last (hr : real i a b c d) (hn : ¬ real (i + 1) a b c d) : tile i a b c d = 23 ∧ en i a b c d = 12288 := by
  have h0 := cnt_cases 0 a
  have h1 := cnt_cases a b
  have h2 := cnt_cases (a + b) c
  have h3 := cnt_cases (a + b + c) d
  have e1 : be1 a = cnt 0 a := rfl
  have e2 : be2 a b = be1 a + cnt a b := rfl
  have e3 : be3 a b c = be2 a b + cnt (a + b) c := rfl
  have e4 : be4 a b c d = be3 a b c + cnt (a + b + c) d := rfl
  unfold real at hn
  rcases real_cases hr with ⟨hg, h⟩ | ⟨hg, h⟩ | ⟨hg, h⟩ | ⟨hg, h⟩ <;>
    (have := h.pos; have := h.num; have := h.lo; have := h.hi; have := h.tile; unfold en; rw [hg]; simp only [start_0, start_1, start_2, start_3, size_0, size_1, size_2, size_3]
     omega)

/-- There are at most 27 work items. -/
theorem be4_le : be4 a b c d ≤ 27 := by
  have h0 := cnt_cases 0 a
  have h1 := cnt_cases a b
  have h2 := cnt_cases (a + b) c
  have h3 := cnt_cases (a + b + c) d
  unfold be4 be3 be2 be1
  omega

/-- From one work item to the next: the same tile, the next group begun inside it where the group before ended; or the next tile, the
    group before having reached the end of the tile and the next one beginning at or before the tile's first row. -/
theorem real_step (hr : real (i + 1) a b c d) :
    (tile (i + 1) a b c d = tile i a b c d ∧ st (i + 1) a b c d = en i a b c d ∧ 512 * tile i a b c d < st (i + 1) a b c d)
    ∨ (tile (i + 1) a b c d = tile i a b c d + 1 ∧ 512 * (tile i a b c d + 1) ≤ en i a b c d ∧ st (i + 1) a b c d ≤ 512 * tile (i + 1) a b c d) := by
  have h0 := cnt_cases 0 a
  have h1 := cnt_cases a b
  have h2 := cnt_cases (a + b) c
  have h3 := cnt_cases (a + b + c) d
  have e1 : be1 a = cnt 0 a := rfl
  have e2 : be2 a b = be1 a + cnt a b := rfl
  have e3 : be3 a b c = be2 a b + cnt (a + b) c := rfl
  have hr' : real i a b c d := by unfold real at *; omega
  rcases real_cases hr' with ⟨hg, h⟩ | ⟨hg, h⟩ | ⟨hg, h⟩ | ⟨hg, h⟩ <;>
    rcases real_cases hr with ⟨hg', h'⟩ | ⟨hg', h'⟩ | ⟨hg', h'⟩ | ⟨hg', h'⟩ <;>
    (unfold en st; rw [hg, hg']
     simp only [start_0, start_1, start_2, start_3, size_0, size_1, size_2, size_3]
     have := h.pos; have := h.num; have := h.lo; have := h.hi
     have := h'.pos; have := h'.num; have := h'.lo; have := h'.hi
     first
       | exact At.next_same h h'
       | exact At.next_group h h' (by omega) (by omega)
       | simpa only [true_and] using At.next_group h h' (by omega) (by omega)
       | (exfalso; omega))

/-- The tiles are visited in order, one after the other. -/
theorem tile_step : tile (i + 1) a b c d = tile i a b c d ∨ tile (i + 1) a b c d = tile i a b c d + 1 := by
  by_cases hr : real (i + 1) a b c d
  · rcases real_step hs hr with h | h
    · exact Or.inl h.1
    · exact Or.inr h.1
  · refine Or.inl ((tile_not_real hs hr).trans ?_)
    by_cases hr' : real i a b c d
    · exact (real_last hs hr' hr).1.symm
    · exact (tile_not_real hs hr').symm

theorem tile_end : tile 26 a b c d = 23 := by
  by_cases hr : real 26 a b c d
  · exact (real_last hs hr (by unfold real; have := be4_le hs; omega)).1
  · exact tile_not_real hs hr

/-- Every tile has a last point. -/
theorem tile_last (T : ℕ) (hT : T ≤ 23) : ∃ i, i ≤ 26 ∧ tile i a b c d = T ∧ (i = 26 ∨ tile (i + 1) a b c d ≠ T) := by
  by_contra hcon
  push Not at hcon
  have key : ∀ i, i ≤ 26 → tile i a b c d ≤ T := by
    intro i
    induction i with
    | zero => intro _; rw [(tile_zero hs).1]; omega
    | succ n ih =>
      intro hn
      have h := ih (by omega)
      rcases tile_step (i := n) hs with h' | h'
      · omega
      · by_cases he : tile n a b c d = T
        · have := (hcon n (by omega) he).2; omega
        · omega
  have h26 := key 26 le_rfl
  rw [tile_end hs] at h26
  exact (hcon 26 le_rfl (by rw [tile_end hs]; omega)).1 rfl

end

end Cert.Sched
-- ==== Proof.WordNat.lean ====
/- The kernel's index words as natural numbers: for four group sizes that sum to 12288 the words of Words.lean are the numbers of
   Sched.lean, nothing wrapping round. -/
module

public import proofs.«01_k».proof.Proof.Words
public import proofs.«01_k».proof.Proof.Sched
public import Idealize.ShloMosaic.Lib.Routing.Words
public import Idealize.ShloMosaic.Lib.PlanTiles.Rows

@[expose] public section

namespace Cert.WordNat

open Idealize.ShloMosaic Idealize.ShloMosaic.WordCmp

/-- A natural number as a word. -/
abbrev W (n : ℕ) : BitVec 32 := BitVec.ofNat 32 n

theorem addi_W (x y : ℕ) : Scalar.addi (W x) (W y) = W (x + y) := WordCmp.addi_ofNat x y

theorem subi_W {x y : ℕ} (h : y ≤ x) : Scalar.subi (W x) (W y) = W (x - y) := by
  show W x - W y = W (x - y)
  have e : W x = W (x - y) + W y := by rw [← BitVec.ofNat_add, Nat.sub_add_cancel h]
  rw [e, BitVec.add_sub_cancel]

theorem sgt_W {x y : ℕ} (hx : x < 2 ^ 31) (hy : y < 2 ^ 31) : Scalar.cmpi .sgt (W x) (W y) = BitVec.ofBool (decide (y < x)) :=
  cmpi_sgt_ofNat hx hy

theorem slt_W {x y : ℕ} (hx : x < 2 ^ 31) (hy : y < 2 ^ 31) : Scalar.cmpi .slt (W x) (W y) = BitVec.ofBool (decide (x < y)) :=
  cmpi_slt_ofNat hx hy

theorem sge_W {x y : ℕ} (hx : x < 2 ^ 31) (hy : y < 2 ^ 31) : Scalar.cmpi .sge (W x) (W y) = BitVec.ofBool (decide (y ≤ x)) :=
  cmpi_sge_ofNat hx hy

theorem ne_W {x y : ℕ} (hx : x < 2 ^ 32) (hy : y < 2 ^ 32) : Scalar.cmpi .ne (W x) (W y) = BitVec.ofBool (decide (x ≠ y)) :=
  cmpi_ne_ofNat hx hy

theorem select_W (p : Prop) [Decidable p] (x y : ℕ) :
    Scalar.select (BitVec.ofBool (decide p)) (W x) (W y) = W (if p then x else y) := by
  rw [select_decide]; split_ifs <;> rfl

theorem extui_W (p : Prop) [Decidable p] : (Scalar.extui (BitVec.ofBool (decide p)) : BitVec 32) = W (if p then 1 else 0) := by
  rw [scalar_extui_ofBool]; by_cases h : p <;> simp [h]

theorem andi_B (p q : Prop) [Decidable p] [Decidable q] :
    Scalar.andi (BitVec.ofBool (decide p)) (BitVec.ofBool (decide q)) = BitVec.ofBool (decide (p ∧ q)) := by
  show IntOp.andi _ _ = _
  rw [andi_ofBool, Bool.decide_and]

theorem fdiv_W {n : ℕ} (h : n < 2 ^ 31) : Words.fdiv (W n) = W (n / 512) := by
  have hd : Scalar.divsi (W n) 512#32 = W (n / 512) := Routing.divsi_word _ h (by norm_num) (by norm_num)
  have hr : Scalar.remsi (W n) 512#32 = W (n % 512) := Routing.remsi_word _ h (by norm_num) (by norm_num)
  unfold Words.fdiv
  rw [hd, hr]
  have e0 : (0#32 : BitVec 32) = W 0 := rfl
  have e1 : (512#32 : BitVec 32) = W 512 := rfl
  have e2 : (1#32 : BitVec 32) = W 1 := rfl
  rw [e0, e1, sgt_W h (by norm_num), slt_W h (by norm_num), sgt_W (by norm_num) (by norm_num), slt_W (by norm_num) (by norm_num),
    extui_W, extui_W, extui_W, extui_W, if_neg (Nat.not_lt_zero _), if_neg (Nat.not_lt_zero _), if_pos (by norm_num : 0 < 512),
    subi_W (Nat.zero_le _), subi_W (Nat.zero_le _)]
  by_cases h0 : 0 < n
  · rw [if_pos h0, ne_W (by norm_num) (by norm_num), ne_W (by omega) (by norm_num), andi_B, select_decide, if_neg (by simp)]
  · have : n = 0 := by omega
    subst this
    rw [if_neg h0, ne_W (by norm_num) (by norm_num), ne_W (by norm_num) (by norm_num), andi_B, select_decide, if_neg (by simp)]

theorem count_W {s z : ℕ} (h : s + z < 2 ^ 31) : Words.count (W s) (W z) = W (Sched.cnt s z) := by
  unfold Words.count Sched.cnt
  have e0 : (0#32 : BitVec 32) = W 0 := rfl
  have e2 : (1#32 : BitVec 32) = W 1 := rfl
  rw [e0, e2, sgt_W (by omega) (by norm_num), select_decide]
  split_ifs with hz
  · rw [addi_W, subi_W (by omega), fdiv_W (by omega), fdiv_W (by omega), subi_W (by omega), addi_W]
  · rfl

theorem here_W {i p n : ℕ} (hi : i < 2 ^ 31) (hp : p < 2 ^ 31) (hn : n < 2 ^ 31) :
    Words.here (W i) (W p) (W n) = BitVec.ofBool (decide (p ≤ i ∧ 0 < n)) := by
  unfold Words.here
  have e0 : (0#32 : BitVec 32) = W 0 := rfl
  rw [e0, sge_W hi hp, sgt_W hn (by norm_num), andi_B]

theorem pick_W {i p n s : ℕ} (hi : i < 2 ^ 31) (hn : n < 2 ^ 31) (hs : s < 2 ^ 31) (h : p ≤ i ∧ 0 < n) :
    Words.pick (W i) (W p) (W n) (W s) = W (s / 512 + min (i - p) (n - 1)) := by
  unfold Words.pick
  have e2 : (1#32 : BitVec 32) = W 1 := rfl
  have hm : Scalar.minsi (W (i - p)) (W (n - 1)) = W (min (n - 1) (i - p)) := PlanTiles.minsi_word (by omega) (by omega)
  rw [e2, fdiv_W hs, subi_W h.1, subi_W h.2, hm, addi_W, min_comm]

section
variable {i a b c d : ℕ} (hs : a + b + c + d = 12288)

theorem st1_W : Words.st1 (W a) = W a := by
  unfold Words.st1; rw [show (0#32 : BitVec 32) = W 0 from rfl, addi_W, Nat.zero_add]
theorem st2_W : Words.st2 (W a) (W b) = W (a + b) := by unfold Words.st2; rw [st1_W, addi_W]
theorem st3_W : Words.st3 (W a) (W b) (W c) = W (a + b + c) := by unfold Words.st3; rw [st2_W, addi_W]

include hs

theorem cn0_W : Words.cn0 (W a) = W (Sched.cnt 0 a) := by unfold Words.cn0; exact count_W (by omega)
theorem cn1_W : Words.cn1 (W a) (W b) = W (Sched.cnt a b) := by unfold Words.cn1; rw [st1_W]; exact count_W (by omega)
theorem cn2_W : Words.cn2 (W a) (W b) (W c) = W (Sched.cnt (a + b) c) := by unfold Words.cn2; rw [st2_W]; exact count_W (by omega)
theorem cn3_W : Words.cn3 (W a) (W b) (W c) (W d) = W (Sched.cnt (a + b + c) d) := by
  unfold Words.cn3; rw [st3_W]; exact count_W (by omega)
theorem be1_W : Words.be1 (W a) = W (Sched.be1 a) := by
  unfold Words.be1; rw [cn0_W hs, show (0#32 : BitVec 32) = W 0 from rfl, addi_W, Nat.zero_add]; rfl
theorem be2_W : Words.be2 (W a) (W b) = W (Sched.be2 a b) := by unfold Words.be2; rw [be1_W hs, cn1_W hs, addi_W]; rfl
theorem be3_W : Words.be3 (W a) (W b) (W c) = W (Sched.be3 a b c) := by unfold Words.be3; rw [be2_W hs, cn2_W hs, addi_W]; rfl
theorem be4_W : Words.be4 (W a) (W b) (W c) (W d) = W (Sched.be4 a b c d) := by
  unfold Words.be4; rw [be3_W hs, cn3_W hs, addi_W]; rfl

theorem bounds : Sched.be1 a ≤ 27 ∧ Sched.be2 a b ≤ 27 ∧ Sched.be3 a b c ≤ 27 ∧ Sched.cnt 0 a ≤ 27 ∧ Sched.cnt a b ≤ 27
    ∧ Sched.cnt (a + b) c ≤ 27 ∧ Sched.cnt (a + b + c) d ≤ 27 ∧ Sched.be4 a b c d ≤ 27 := by
  have h := Sched.be4_le hs
  have e1 : Sched.be1 a = Sched.cnt 0 a := rfl
  have e2 : Sched.be2 a b = Sched.be1 a + Sched.cnt a b := rfl
  have e3 : Sched.be3 a b c = Sched.be2 a b + Sched.cnt (a + b) c := rfl
  have e4 : Sched.be4 a b c d = Sched.be3 a b c + Sched.cnt (a + b + c) d := rfl
  omega

theorem tile_W (hi : i < 27) : Words.tile (W i) (W a) (W b) (W c) (W d) = W (Sched.tile i a b c d) := by
  obtain ⟨h1, h2, h3, h4, h5, h6, h7, -⟩ := bounds hs
  unfold Words.tile Sched.tile
  rw [be3_W hs, be2_W hs, be1_W hs, cn0_W hs, cn1_W hs, cn2_W hs, cn3_W hs, st3_W, st2_W, st1_W, show (0#32 : BitVec 32) = W 0 from rfl,
    here_W (by omega) (by omega) (by omega), here_W (by omega) (by omega) (by omega), here_W (by omega) (by omega) (by omega),
    here_W (by omega) (by omega) (by omega), select_decide, select_decide, select_decide, select_decide]
  split_ifs with g3 g2 g1 g0
  · exact pick_W (by omega) (by omega) (by omega) g3
  · exact pick_W (by omega) (by omega) (by omega) g2
  · exact pick_W (by omega) (by omega) (by omega) g1
  · exact pick_W (by omega) (by omega) (by omega) g0
  · rfl

theorem group_W (hi : i < 27) : Words.group (W i) (W a) (W b) (W c) (W d) = W (Sched.group i a b c d) := by
  obtain ⟨h1, h2, h3, h4, h5, h6, h7, -⟩ := bounds hs
  unfold Words.group Sched.group
  rw [be3_W hs, be2_W hs, be1_W hs, cn0_W hs, cn1_W hs, cn2_W hs, cn3_W hs, show (0#32 : BitVec 32) = W 0 from rfl,
    here_W (by omega) (by omega) (by omega), here_W (by omega) (by omega) (by omega), here_W (by omega) (by omega) (by omega),
    here_W (by omega) (by omega) (by omega), select_decide, select_decide, select_decide, select_decide]
  split_ifs <;> rfl

theorem real_W (hi : i < 27) : Words.real (W i) (W a) (W b) (W c) (W d) = 1#1 ↔ Sched.real i a b c d := by
  obtain ⟨h1, h2, h3, h4, h5, h6, h7, h8⟩ := bounds hs
  unfold Words.real Sched.real
  rw [be4_W hs, slt_W (by omega) (by omega), extui_W, show (0#32 : BitVec 32) = W 0 from rfl,
    ne_W (by split_ifs <;> norm_num) (by norm_num), ofBool_decide_eq_one_iff]
  split_ifs with h <;> simp [h]

omit hs in
theorem first_W {g : ℕ} (hg : g ≤ 3) : Words.first (W a) (W b) (W c) (W d) (W g) = W (Sched.start a b c d g) := by
  unfold Words.first Sched.start
  rw [show (0#32 : BitVec 32) = W 0 from rfl, show (1#32 : BitVec 32) = W 1 from rfl, show (2#32 : BitVec 32) = W 2 from rfl,
    show (3#32 : BitVec 32) = W 3 from rfl, sgt_W (by omega) (by norm_num), sgt_W (by omega) (by norm_num),
    sgt_W (by omega) (by norm_num), sgt_W (by omega) (by norm_num), select_W, select_W, select_W, select_W,
    addi_W, addi_W, addi_W, addi_W, Nat.zero_add]

theorem start_le {g : ℕ} (hg : g ≤ 3) : Sched.start a b c d g + Sched.size a b c d g ≤ 12288 := by
  unfold Sched.start Sched.size
  split_ifs <;> omega

end

end Cert.WordNat
-- ==== Proof.KernelIdeal.Table.lean ====
/- The prefetched table of sizes in numbers: under the precondition the words the kernel computes with are the numbers of
   Sched.lean, every block lies inside its array, and the body's size load is inside the table. -/
module

public import proofs.«01_k».proof.Proof.KernelIdeal.Index
public import proofs.«01_k».proof.Proof.Sizes
public import proofs.«01_k».proof.Proof.WordNat
public import Idealize.ShloMosaic.Lib.Affine

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.Sizes Cert.WordNat

variable (m : (ℓ : Loc nD τ sig) → Buf (Elt F) ℓ)

/-- The table holds the sizes `a b c d`, and they sum to the rows. -/
structure Parts (a b c d : ℕ) : Prop where
  sum : a + b + c + d = 12288
  at0 : (tbl m 0 : S4.Idx → BitVec 32) (gIx 0) = W a
  at1 : (tbl m 0 : S4.Idx → BitVec 32) (gIx 1) = W b
  at2 : (tbl m 0 : S4.Idx → BitVec 32) (gIx 2) = W c
  at3 : (tbl m 0 : S4.Idx → BitVec 32) (gIx 3) = W d

variable {m} {a b c d : ℕ}

theorem Parts.at_group (hp : Parts m a b c d) (k : Fin 4) : (tbl m 0 : S4.Idx → BitVec 32) (gIx k) = W (Sched.size a b c d k.val) := by
  match k with
  | 0 => exact hp.at0
  | 1 => exact hp.at1
  | 2 => exact hp.at2
  | 3 => exact hp.at3

/-! The words as the index maps read them, -/

theorem Parts.sz0 (hp : Parts m a b c d) : sz0 (tbl m) = W a := (congrArg (tbl m 0) (eq_gIx rfl)).trans hp.at0
theorem Parts.sz1 (hp : Parts m a b c d) : sz1 (tbl m) = W b := (congrArg (tbl m 0) (eq_gIx rfl)).trans hp.at1
theorem Parts.sz2 (hp : Parts m a b c d) : sz2 (tbl m) = W c := (congrArg (tbl m 0) (eq_gIx rfl)).trans hp.at2
theorem Parts.sz3 (hp : Parts m a b c d) : sz3 (tbl m) = W d := (congrArg (tbl m 0) (eq_gIx rfl)).trans hp.at3

/-! as the body reads them, -/

theorem Parts.rd0 (hp : Parts m a b c d) (x : Dev nD) : rd0 x (tbl m 0) = W a := (congrArg (tbl m 0) (eq_gIx rfl)).trans hp.at0
theorem Parts.rd1 (hp : Parts m a b c d) (x : Dev nD) : rd1 x (tbl m 0) = W b := (congrArg (tbl m 0) (eq_gIx rfl)).trans hp.at1
theorem Parts.rd2 (hp : Parts m a b c d) (x : Dev nD) : rd2 x (tbl m 0) = W c := (congrArg (tbl m 0) (eq_gIx rfl)).trans hp.at2
theorem Parts.rd3 (hp : Parts m a b c d) (x : Dev nD) : rd3 x (tbl m 0) = W d := (congrArg (tbl m 0) (eq_gIx rfl)).trans hp.at3

/-! and as the idle points are stated. -/

theorem Parts.atD0 (hp : Parts m a b c d) : (tbl m).atD 0 ![0] = W a := by
  unfold Pipeline.Prefetch.Contents.atD
  rw [dif_pos (by decide)]
  exact (congrArg (tbl m 0) (eq_gIx rfl)).trans hp.at0
theorem Parts.atD1 (hp : Parts m a b c d) : (tbl m).atD 0 ![1] = W b := by
  unfold Pipeline.Prefetch.Contents.atD
  rw [dif_pos (by decide)]
  exact (congrArg (tbl m 0) (eq_gIx rfl)).trans hp.at1
theorem Parts.atD2 (hp : Parts m a b c d) : (tbl m).atD 0 ![2] = W c := by
  unfold Pipeline.Prefetch.Contents.atD
  rw [dif_pos (by decide)]
  exact (congrArg (tbl m 0) (eq_gIx rfl)).trans hp.at2
theorem Parts.atD3 (hp : Parts m a b c d) : (tbl m).atD 0 ![3] = W d := by
  unfold Pipeline.Prefetch.Contents.atD
  rw [dif_pos (by decide)]
  exact (congrArg (tbl m 0) (eq_gIx rfl)).trans hp.at3

theorem item_lt (i : grid0.Coords) : (i 0).val < 27 := (i 0).isLt

theorem W_toNat {n : ℕ} (h : n < 2 ^ 32) : (W n).toNat = n := WordCmp.toNat_ofNat_of_lt h

/-- The number of grid point `i`'s tile, and of its group. -/
abbrev tileN (a b c d : ℕ) (i : grid0.Coords) : ℕ := Sched.tile (i 0).val a b c d
abbrev groupN (a b c d : ℕ) (i : grid0.Coords) : ℕ := Sched.group (i 0).val a b c d

theorem Parts.tile_lt (hp : Parts m a b c d) (i : grid0.Coords) : tileN a b c d i < 24 := Nat.lt_succ_of_le (Sched.tile_le hp.sum)
theorem group_lt (i : grid0.Coords) : groupN a b c d i < 4 := Nat.lt_succ_of_le Sched.group_le

theorem Parts.tileW (hp : Parts m a b c d) (i : grid0.Coords) :
    (Words.tile (itemW i) (Hand.sz0 (tbl m)) (Hand.sz1 (tbl m)) (Hand.sz2 (tbl m)) (Hand.sz3 (tbl m))).toNat = tileN a b c d i := by
  rw [hp.sz0, hp.sz1, hp.sz2, hp.sz3]
  have := hp.tile_lt i
  exact (congrArg BitVec.toNat (tile_W hp.sum (item_lt i))).trans (W_toNat (this.trans (by norm_num)))

theorem Parts.groupW (hp : Parts m a b c d) (i : grid0.Coords) :
    (Words.group (itemW i) (Hand.sz0 (tbl m)) (Hand.sz1 (tbl m)) (Hand.sz2 (tbl m)) (Hand.sz3 (tbl m))).toNat = groupN a b c d i := by
  rw [hp.sz0, hp.sz1, hp.sz2, hp.sz3]
  have := group_lt (a := a) (b := b) (c := c) (d := d) i
  exact (congrArg BitVec.toNat (group_W hp.sum (item_lt i))).trans (W_toNat (this.trans (by norm_num)))

/-- The index maps in numbers. -/
theorem Parts.ix_0 (hp : Parts m a b c d) (i : grid0.Coords) : ix0 (tbl m) 0 i = ![tileN a b c d i, 0] :=
  (transform_0_eq (tbl m) i).trans (by rw [hp.tileW])
theorem Parts.ix_1 (hp : Parts m a b c d) (i : grid0.Coords) : ix0 (tbl m) 1 i = ![tileN a b c d i, 0] :=
  (transform_1_eq (tbl m) i).trans (by rw [hp.tileW])
theorem Parts.ix_2 (hp : Parts m a b c d) (i : grid0.Coords) : ix0 (tbl m) 2 i = ![groupN a b c d i, 0, 0] :=
  (transform_2_eq (tbl m) i).trans (by rw [hp.groupW])
theorem Parts.ix_3 (hp : Parts m a b c d) (i : grid0.Coords) : ix0 (tbl m) 3 i = ![groupN a b c d i, 0, 0] :=
  (transform_3_eq (tbl m) i).trans (by rw [hp.groupW])
theorem Parts.ix_4 (hp : Parts m a b c d) (i : grid0.Coords) : ix0 (tbl m) 4 i = ![tileN a b c d i, 0] :=
  (transform_4_eq (tbl m) i).trans (by rw [hp.tileW])

/-- A block of 512 rows of an array of 12288, from a tile's number: inside, and starting at a whole word. -/
theorem rows_ok {n p : ℕ} {f : Fin 2 → ℕ} {T : ℕ} (hf : f = ![T, 0]) (hT : T < 24) (hp : p ∣ 512) :
    ∃ h : (∀ k, (f k + 1) * (⟨2, ![512, n]⟩ : Shape).size k ≤ (⟨2, ![12288, n]⟩ : Shape).size k),
      (Rect.block (s := ⟨2, ![12288, n]⟩) (⟨2, ![512, n]⟩ : Shape).size f h).WholeWords p := by
  subst hf
  have h : ∀ k : Fin 2, ((![T, 0] : Fin 2 → ℕ) k + 1) * (⟨2, ![512, n]⟩ : Shape).size k ≤ (⟨2, ![12288, n]⟩ : Shape).size k := by
    intro k
    match k with
    | 0 => show (T + 1) * 512 ≤ 12288; omega
    | 1 => show (0 + 1) * n ≤ n; omega
  refine ⟨h, .inl (.inr ⟨le_rfl, rfl, .inl ⟨?_, ?_⟩⟩)⟩
  · show p ∣ T * 512; exact Dvd.dvd.mul_left hp T
  · show p ∣ 512; exact hp

/-- A group's block of an array over the groups. -/
theorem groups_ok {r n p : ℕ} {f : Fin 3 → ℕ} {g : ℕ} (hf : f = ![g, 0, 0]) (hg : g < 4) :
    ∃ h : (∀ k, (f k + 1) * (⟨3, ![1, r, n]⟩ : Shape).size k ≤ (⟨3, ![4, r, n]⟩ : Shape).size k),
      (Rect.block (s := ⟨3, ![4, r, n]⟩) (⟨3, ![1, r, n]⟩ : Shape).size f h).WholeWords p := by
  subst hf
  have h : ∀ k : Fin 3, ((![g, 0, 0] : Fin 3 → ℕ) k + 1) * (⟨3, ![1, r, n]⟩ : Shape).size k ≤ (⟨3, ![4, r, n]⟩ : Shape).size k := by
    intro k
    match k with
    | 0 => show (g + 1) * 1 ≤ 4; omega
    | 1 => show (0 + 1) * r ≤ r; omega
    | 2 => show (0 + 1) * n ≤ n; omega
  refine ⟨h, .inr ⟨(by decide : 2 ≤ 3), rfl, ?_, rfl⟩⟩
  show 0 * r = 0; omega

/-- Every window's block lies inside its array. -/
theorem Parts.ok (hp : Parts m a b c d) : Ok m := by
  refine ⟨fun i => ?_, fun i => ?_, fun i => ?_, fun i => ?_, fun i => ?_⟩
  · obtain ⟨h, hw⟩ := rows_ok (n := 2816) (p := 4) (hp.ix_0 i) (hp.tile_lt i) (by decide)
    exact ⟨h, .inr hw⟩
  · obtain ⟨h, hw⟩ := rows_ok (n := 1) (p := 1) (hp.ix_1 i) (hp.tile_lt i) (by decide)
    exact ⟨h, .inl rfl⟩
  · obtain ⟨h, hw⟩ := groups_ok (r := 2816) (n := 5632) (p := 4) (hp.ix_2 i) (group_lt i)
    exact ⟨h, .inr hw⟩
  · obtain ⟨h, hw⟩ := groups_ok (r := 1) (n := 5632) (p := 1) (hp.ix_3 i) (group_lt i)
    exact ⟨h, .inl rfl⟩
  · obtain ⟨h, hw⟩ := rows_ok (n := 5632) (p := 2) (hp.ix_4 i) (hp.tile_lt i) (by decide)
    exact ⟨h, .inr hw⟩

/-- Which grid points are work items, as the body tests it and as the idle points are stated. -/
theorem Parts.cond_iff (hp : Parts m a b c d) (x : Dev nD) (i : grid0.Coords) :
    k0_cond1 i (Hand.rd0 x (tbl m 0)) (Hand.rd1 x (tbl m 0)) (Hand.rd2 x (tbl m 0)) (Hand.rd3 x (tbl m 0)) = 1#1 ↔ Sched.real (i 0).val a b c d := by
  rw [hp.rd0, hp.rd1, hp.rd2, hp.rd3, cond_eq]
  exact real_W hp.sum (item_lt i)

theorem Parts.idle_iff (hp : Parts m a b c d) (i : grid0.Coords) : idle0 (tbl m) 4 i = true ↔ ¬ Sched.real (i 0).val a b c d := by
  show (!(k0_cond1 i ((tbl m).atD 0 ![0]) ((tbl m).atD 0 ![1]) ((tbl m).atD 0 ![2]) ((tbl m).atD 0 ![3]) == 1#1)) = true ↔ _
  rw [hp.atD0, hp.atD1, hp.atD2, hp.atD3, cond_eq, Bool.not_eq_true', beq_eq_false_iff_ne]
  exact not_congr (real_W hp.sum (item_lt i))

/-- The offset of the body's size load is the item's group. -/
theorem Parts.off (hp : Parts m a b c d) (x : Dev nD) (i : grid0.Coords) :
    k0_off1 i (Hand.rd0 x (tbl m 0)) (Hand.rd1 x (tbl m 0)) (Hand.rd2 x (tbl m 0)) (Hand.rd3 x (tbl m 0)) = ![groupN a b c d i] := by
  rw [hp.rd0, hp.rd1, hp.rd2, hp.rd3, off_eq]
  have := group_lt (a := a) (b := b) (c := c) (d := d) i
  exact congrArg (fun n => ![n]) ((congrArg BitVec.toNat (group_W hp.sum (item_lt i))).trans (W_toNat (this.trans (by norm_num))))

/-- The body's size load is inside the table. -/
theorem Parts.chk (hp : Parts m a b c d) (x : Dev nD) (i : grid0.Coords) :
    k0_chk1 i (Hand.rd0 x (tbl m 0)) (Hand.rd1 x (tbl m 0)) (Hand.rd2 x (tbl m 0)) (Hand.rd3 x (tbl m 0)) := by
  intro _ k
  rw [hp.off]
  obtain rfl : k = 0 := Subsingleton.elim _ _
  have := group_lt (a := a) (b := b) (c := c) (d := d) i
  show groupN a b c d i + 1 ≤ 4
  omega

end Cert.KernelIdeal.Hand

end
-- ==== Proof.KernelIdeal.Out.lean ====
/- What the output's buffer holds after each grid point, and the numbers of the item: the body's words in naturals. -/
module

public import proofs.«01_k».proof.Proof.KernelIdeal.Body
public import proofs.«01_k».proof.Proof.KernelIdeal.Table

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.Sizes Cert.WordNat

variable {m : (ℓ : Loc nD τ sig) → Buf (Elt F) ℓ} {a b c d : ℕ}

instance (i a b c d : ℕ) : Decidable (Sched.real i a b c d) := inferInstanceAs (Decidable (_ < _))

/-- A point's coordinate is its number. -/
theorem coords_val (t : Fin grid0.N) : ((grid0.coords t) 0).val = t.val := by
  revert t; decide +kernel

/-- The first row of the item's group, as a word. -/
theorem Parts.startW (hp : Parts m a b c d) (x : Dev nD) (i : grid0.Coords) :
    startW i (Hand.rd0 x (tbl m 0)) (Hand.rd1 x (tbl m 0)) (Hand.rd2 x (tbl m 0)) (Hand.rd3 x (tbl m 0)) = W (Sched.st (i 0).val a b c d) := by
  unfold Hand.startW
  rw [hp.rd0, hp.rd1, hp.rd2, hp.rd3, show Words.group (itemW i) (W a) (W b) (W c) (W d) = W (Sched.group (i 0).val a b c d) from group_W hp.sum (item_lt i)]
  exact first_W Sched.group_le

/-- The item's tile's first row, as a word. -/
theorem Parts.rowW (hp : Parts m a b c d) (x : Dev nD) (i : grid0.Coords) :
    Scalar.muli (Words.tile (itemW i) (Hand.rd0 x (tbl m 0)) (Hand.rd1 x (tbl m 0)) (Hand.rd2 x (tbl m 0)) (Hand.rd3 x (tbl m 0))) 512#32 = W (tileN a b c d i * 512) := by
  rw [hp.rd0, hp.rd1, hp.rd2, hp.rd3, show Words.tile (itemW i) (W a) (W b) (W c) (W d) = W (Sched.tile (i 0).val a b c d) from tile_W hp.sum (item_lt i)]
  exact WordCmp.muli_ofNat _ _

theorem Parts.st_le (hp : Parts m a b c d) (i : ℕ) : Sched.st i a b c d ≤ 12288 := by
  have := start_le hp.sum (g := Sched.group i a b c d) Sched.group_le
  exact (Nat.le_add_right _ _).trans this

/-- The item is the tile's first just if its group begins at or before the tile's first row. -/
theorem Parts.fst_iff (hp : Parts m a b c d) (x : Dev nD) (i : grid0.Coords) :
    fstOf i (Hand.rd0 x (tbl m 0)) (Hand.rd1 x (tbl m 0)) (Hand.rd2 x (tbl m 0)) (Hand.rd3 x (tbl m 0)) = 1#1 ↔ Sched.st (i 0).val a b c d ≤ 512 * tileN a b c d i := by
  have h1 := hp.st_le (i 0).val
  have h2 := hp.tile_lt i
  generalize hT : tileN a b c d i = T at *
  unfold fstOf
  rw [hp.startW, hp.rowW, hT]
  have e : Scalar.cmpi .sle (W (Sched.st (i 0).val a b c d)) (W (T * 512)) = BitVec.ofBool (decide (Sched.st (i 0).val a b c d ≤ T * 512)) :=
    WordCmp.cmpi_sle_ofNat (h1.trans_lt (by norm_num)) ((by omega : T * 512 < 12288).trans (by norm_num))
  rw [e, WordCmp.ofBool_decide_eq_one_iff, Nat.mul_comm]

/-- The size of the item's group, as the body loads it. -/
theorem Parts.rdg (hp : Parts m a b c d) (x : Dev nD) (i : grid0.Coords) (hw hc) :
    rdg x (tbl m 0) i hw hc = W (Sched.size a b c d (groupN a b c d i)) := by
  have hg := group_lt (a := a) (b := b) (c := c) (d := d) i
  refine Eq.trans ?_ (hp.at_group ⟨groupN a b c d i, hg⟩)
  refine congrArg (tbl m 0) (eq_gIx ?_)
  show k0_off1 i _ _ _ _ 0 + 1 * 0 = _
  rw [hp.off]
  rfl

/-- A row of the tile lies in the item's group. -/
theorem Parts.mine_iff (hp : Parts m a b c d) (x : Dev nD) (i : grid0.Coords) (hw hc) (z : S512x1.Idx) :
    mineOf i (Hand.rd0 x (tbl m 0)) (Hand.rd1 x (tbl m 0)) (Hand.rd2 x (tbl m 0)) (Hand.rd3 x (tbl m 0)) (Hand.rdg x (tbl m 0) i hw hc) z = 1#1
      ↔ Sched.st (i 0).val a b c d ≤ 512 * tileN a b c d i + (z 0).val ∧ 512 * tileN a b c d i + (z 0).val < Sched.en (i 0).val a b c d := by
  have h1 := hp.st_le (i 0).val
  have h2 := hp.tile_lt i
  have h3 : (z 0).val < 512 := (z 0).isLt
  have h4 : Sched.en (i 0).val a b c d ≤ 12288 := start_le hp.sum (g := Sched.group (i 0).val a b c d) Sched.group_le
  unfold mineOf
  rw [hp.startW, hp.rowW, hp.rdg, addi_W]
  show IntOp.andi (IntOp.cmpi .sge (IntOp.addi (W (tileN a b c d i * 512)) (iota .tc S512x1 32 [0] iota_S512x1_d0_w32 z)) (W (Sched.st (i 0).val a b c d)))
    (IntOp.cmpi .slt (IntOp.addi (W (tileN a b c d i * 512)) (iota .tc S512x1 32 [0] iota_S512x1_d0_w32 z)) (W (Sched.en (i 0).val a b c d))) = 1#1 ↔ _
  have ei : iota .tc S512x1 32 [0] iota_S512x1_d0_w32 z = W (z 0).val := by
    rw [WordCmp.iota_at]
    show W (0 * 512 + (z 0).val) = _
    rw [Nat.zero_mul, Nat.zero_add]
  rw [ei, WordCmp.addi_ofNat]
  generalize tileN a b c d i = T at *
  generalize Sched.st (i 0).val a b c d = S at *
  generalize Sched.en (i 0).val a b c d = E at *
  generalize (z 0).val = r at *
  have hr : T * 512 + r < 2 ^ 31 := (by omega : T * 512 + r < 12288).trans (by norm_num)
  have e1 : IntOp.cmpi .sge (W (T * 512 + r)) (W S) = BitVec.ofBool (decide (S ≤ T * 512 + r)) :=
    WordCmp.cmpi_sge_ofNat hr (h1.trans_lt (by norm_num))
  have e2 : IntOp.cmpi .slt (W (T * 512 + r)) (W E) = BitVec.ofBool (decide (T * 512 + r < E)) :=
    WordCmp.cmpi_slt_ofNat hr (h4.trans_lt (by norm_num))
  rw [e1, e2, WordCmp.andi_ofBool, ← Bool.decide_and, WordCmp.ofBool_decide_eq_one_iff, Nat.mul_comm]

/-- At a tile's first item the buffer's old contents do not matter. -/
theorem bodyOut_fst (mine : IVec S512x1 1) {fst : BitVec 1} (hf : fst = 1#1) (x : Vec F S512x2816 .fp8e4m3) (xs : Vec F S512x1 .f32)
    (w : Vec F S1x2816x5632 .fp8e4m3) (ws : Vec F S1x1x5632 .f32) (old old' : Vec F S512x5632 .bf16) :
    bodyOut mine fst x xs w ws old = bodyOut mine fst x xs w ws old' := by
  subst hf; rfl

/-! ## After each point -/

/-- What the body leaves in the output's buffer at point `t` that finds `old` in it. -/
def stepOut (hp : Parts m a b c d) (x : Dev nD) (t : Fin grid0.N) (old : Vec F S512x5632 .bf16) : Vec F S512x5632 .bf16 :=
  if h : Sched.real ((grid0.coords t) 0).val a b c d then
    itemOut x (grid0.coords t) (iblk m hp.ok x 0 t) (iblk m hp.ok x 1 t) (iblk m hp.ok x 2 t) (iblk m hp.ok x 3 t) old (tbl m 0)
      (hp.chk x _) ((hp.cond_iff x _).2 h)
  else old

/-- What the output's buffer holds after point `n`. -/
def outAt (hp : Parts m a b c d) (x : Dev nD) : (n : ℕ) → n < grid0.N → Vec F S512x5632 .bf16
  | 0, h => stepOut hp x ⟨0, h⟩ (fun _ => Scalar.ofBits .bf16 0#16)
  | n + 1, h => stepOut hp x ⟨n + 1, h⟩ (outAt hp x n (Nat.lt_of_succ_lt h))

theorem stepOut_real (hp : Parts m a b c d) (x : Dev nD) (t : Fin grid0.N) (old : Vec F S512x5632 .bf16)
    (h : Sched.real ((grid0.coords t) 0).val a b c d) :
    stepOut hp x t old = itemOut x (grid0.coords t) (iblk m hp.ok x 0 t) (iblk m hp.ok x 1 t) (iblk m hp.ok x 2 t) (iblk m hp.ok x 3 t) old (tbl m 0)
      (hp.chk x _) ((hp.cond_iff x _).2 h) := dif_pos h

theorem stepOut_idle (hp : Parts m a b c d) (x : Dev nD) (t : Fin grid0.N) (old : Vec F S512x5632 .bf16)
    (h : ¬ Sched.real ((grid0.coords t) 0).val a b c d) : stepOut hp x t old = old := dif_neg h

/-- The old contents do not matter at a tile's first item. -/
theorem stepOut_fst (hp : Parts m a b c d) (x : Dev nD) (t : Fin grid0.N) (old old' : Vec F S512x5632 .bf16)
    (h : Sched.real ((grid0.coords t) 0).val a b c d) (hf : Sched.st ((grid0.coords t) 0).val a b c d ≤ 512 * tileN a b c d (grid0.coords t)) :
    stepOut hp x t old = stepOut hp x t old' := by
  rw [stepOut_real hp x t old h, stepOut_real hp x t old' h]
  exact bodyOut_fst _ ((hp.fst_iff x _).2 hf) _ _ _ _ _ _

end Cert.KernelIdeal.Hand

end
-- ==== Proof.KernelIdeal.Run.lean ====
/- The run of the kernel: the body's obligation at every grid point, and the frame. -/
module

public import proofs.«01_k».proof.Proof.KernelIdeal.Out

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.Sizes Cert.WordNat

-- the condition is read through `idle_4` alone
attribute [local irreducible] k0_cond1

variable {m : (ℓ : Loc nD τ sig) → Buf (Elt F) ℓ} {a b c d : ℕ}

/-! ## The pipeline's proof data -/

/-- The arrays as the region finds them; after the body at point `t` each input's buffer at its block, the output's at `outAt`. -/
def dats (hp : Parts m a b c d) (_ : Fin 1) (x : Dev nD) : Dat τ (Elt F) Unit ℕ (UR sig nD τ) ℕ (cfgM m hp.ok) x where
  A w := V m x (Pipeline.arrRef spec0 w)
  after w t := match w with
    | ⟨0, _⟩ => iblk m hp.ok x 0 t
    | ⟨1, _⟩ => iblk m hp.ok x 1 t
    | ⟨2, _⟩ => iblk m hp.ok x 2 t
    | ⟨3, _⟩ => iblk m hp.ok x 3 t
    | ⟨4, _⟩ => outAt hp x t.val t.isLt
  Φ _ := iprop(Pipeline.ΦA spec0 x ∗ Pipeline.ΦT pre0 (tbl m) x)
  q _ := fullShare
  owed _ := 0

theorem A_eq (hp : Parts m a b c d) (x : Dev nD) (w : Fin (cfgM m hp.ok).W) : (dats hp 0 x).A w = V m x (Pipeline.arrRef spec0 w) := by
  dsimp only [dats]

theorem after0_0 (hp : Parts m a b c d) (x : Dev nD) (t : Fin (cfgM m hp.ok).N) : (dats hp 0 x).after 0 t = iblk m hp.ok x 0 t := by dsimp only [dats]; try rfl
theorem after0_1 (hp : Parts m a b c d) (x : Dev nD) (t : Fin (cfgM m hp.ok).N) : (dats hp 0 x).after 1 t = iblk m hp.ok x 1 t := by dsimp only [dats]; try rfl
theorem after0_2 (hp : Parts m a b c d) (x : Dev nD) (t : Fin (cfgM m hp.ok).N) : (dats hp 0 x).after 2 t = iblk m hp.ok x 2 t := by dsimp only [dats]; try rfl
theorem after0_3 (hp : Parts m a b c d) (x : Dev nD) (t : Fin (cfgM m hp.ok).N) : (dats hp 0 x).after 3 t = iblk m hp.ok x 3 t := by dsimp only [dats]; try rfl
theorem after0_4 (hp : Parts m a b c d) (x : Dev nD) (t : Fin (cfgM m hp.ok).N) : (dats hp 0 x).after 4 t = outAt hp x t.val t.isLt := by dsimp only [dats]; try rfl

theorem before0_0 (hp : Parts m a b c d) (x : Dev nD) (t : Fin (cfgM m hp.ok).N) (z) : (dats hp 0 x).before 0 t z = iblk m hp.ok x 0 t :=
  before0_0_of m hp.ok (dats hp 0 x) (A_eq hp x 0) (after0_0 hp x) t z
theorem before0_1 (hp : Parts m a b c d) (x : Dev nD) (t : Fin (cfgM m hp.ok).N) (z) : (dats hp 0 x).before 1 t z = iblk m hp.ok x 1 t :=
  before0_1_of m hp.ok (dats hp 0 x) (A_eq hp x 1) (after0_1 hp x) t z
theorem before0_2 (hp : Parts m a b c d) (x : Dev nD) (t : Fin (cfgM m hp.ok).N) (z) : (dats hp 0 x).before 2 t z = iblk m hp.ok x 2 t :=
  before0_2_of m hp.ok (dats hp 0 x) (A_eq hp x 2) (after0_2 hp x) t z
theorem before0_3 (hp : Parts m a b c d) (x : Dev nD) (t : Fin (cfgM m hp.ok).N) (z) : (dats hp 0 x).before 3 t z = iblk m hp.ok x 3 t :=
  before0_3_of m hp.ok (dats hp 0 x) (A_eq hp x 3) (after0_3 hp x) t z

/-! ## The output's window along the grid -/

theorem index_4 (hp : Parts m a b c d) (t : Fin (cfgM m hp.ok).N) : ((cfgM m hp.ok).win 4).index t = ![Sched.tile t.val a b c d, 0] :=
  (hp.ix_4 (grid0.coords t)).trans (by unfold tileN; rw [coords_val t])

theorem idle_4 (hp : Parts m a b c d) (t : Fin (cfgM m hp.ok).N) : (cfgM m hp.ok).idle 4 ((cfgM m hp.ok).grid.coords t) = true ↔ ¬ Sched.real t.val a b c d :=
  (hp.idle_iff (grid0.coords t)).trans (by rw [coords_val t])

/-- When an output's block is written back. -/
theorem flush_iff {G : Pipeline.Grid} (w : Pipeline.Window sig G) (h : w.isOut = true) (t : Fin G.N) :
    w.flush t = true ↔ (t.val + 1 = G.N ∨ ∃ h : t.val + 1 < G.N, w.index ⟨t.val + 1, h⟩ ≠ w.index t) := by
  unfold Pipeline.Window.flush
  rw [h, Bool.true_and, Bool.or_eq_true, decide_eq_true_iff, decide_eq_true_iff]

/-- The block is written back where the next point has another tile, and at the last point. -/
theorem flush_4 (hp : Parts m a b c d) (t : Fin (cfgM m hp.ok).N) :
    ((cfgM m hp.ok).win 4).flush t = true ↔ (t.val + 1 = 27 ∨ Sched.tile (t.val + 1) a b c d ≠ Sched.tile t.val a b c d) := by
  have hN : (cfgM m hp.ok).grid.N = 27 := N_0
  have ht : t.val < 27 := lt_of_lt_of_eq t.isLt hN
  refine (flush_iff ((cfgM m hp.ok).win 4) rfl t).trans ?_
  constructor
  · rintro (h | ⟨h, h'⟩)
    · exact .inl (h.trans hN)
    · refine .inr fun e => h' ?_
      exact (index_4 hp ⟨t.val + 1, h⟩).trans ((congrArg (fun n => ![n, 0]) e).trans (index_4 hp t).symm)
  · rintro (h | h)
    · exact .inl (h.trans hN.symm)
    · by_cases hl : t.val + 1 = 27
      · exact .inl (hl.trans hN.symm)
      · have hlt : t.val + 1 < (cfgM m hp.ok).grid.N := lt_of_lt_of_eq (by omega : t.val + 1 < 27) hN.symm
        refine .inr ⟨hlt, fun e => h ?_⟩
        exact congrFun ((index_4 hp ⟨t.val + 1, hlt⟩).symm.trans (e.trans (index_4 hp t))) 0

/-- A point whose tile is the point before's finds what that point left. -/
theorem before_same (hp : Parts m a b c d) (x : Dev nD) (z) : ∀ (n : ℕ) (hn : n + 1 < (cfgM m hp.ok).N),
    Sched.tile (n + 1) a b c d = Sched.tile n a b c d → (dats hp 0 x).before 4 ⟨n + 1, hn⟩ z = outAt hp x n (Nat.lt_of_succ_lt hn) := by
  intro n
  induction n with
  | zero =>
    intro hn hT
    rw [Dat.before_of_pos _ _ _ (Nat.succ_ne_zero _) rfl]
    have hf : ((cfgM m hp.ok).win 4).flush ⟨0, Nat.lt_of_succ_lt hn⟩ = false := by
      rw [Bool.eq_false_iff, Ne, flush_4 hp]; push Not; exact ⟨by simp, hT⟩
    have hi : (cfgM m hp.ok).idle 4 ((cfgM m hp.ok).grid.coords ⟨0, Nat.lt_of_succ_lt hn⟩) = false := by
      rw [Bool.eq_false_iff, Ne, idle_4 hp, not_not]; exact Sched.real_zero hp.sum
    refine (if_neg (by rw [show (⟨0 + 1 - 1, _⟩ : Fin (cfgM m hp.ok).N) = ⟨0, Nat.lt_of_succ_lt hn⟩ from rfl, hf]; exact Bool.false_ne_true)).trans ?_
    show Dat.left (dats hp 0 x) 4 ⟨0, Nat.lt_of_succ_lt hn⟩ z = _
    unfold Dat.left
    rw [hi]
    exact after0_4 hp x ⟨0, _⟩
  | succ n ih =>
    intro hn hT
    rw [Dat.before_of_pos _ _ _ (Nat.succ_ne_zero _) rfl]
    have hN : (cfgM m hp.ok).N = 27 := N_0
    have hf : ((cfgM m hp.ok).win 4).flush ⟨n + 1, Nat.lt_of_succ_lt hn⟩ = false := by
      rw [Bool.eq_false_iff, Ne, flush_4 hp]; push Not; exact ⟨by show n + 1 + 1 ≠ 27; omega, hT⟩
    refine (if_neg (by rw [show (⟨n + 1 + 1 - 1, _⟩ : Fin (cfgM m hp.ok).N) = ⟨n + 1, Nat.lt_of_succ_lt hn⟩ from rfl, hf]; exact Bool.false_ne_true)).trans ?_
    show Dat.left (dats hp 0 x) 4 ⟨n + 1, Nat.lt_of_succ_lt hn⟩ z = _
    unfold Dat.left
    by_cases hr : Sched.real (n + 1) a b c d
    · have hi : (cfgM m hp.ok).idle 4 ((cfgM m hp.ok).grid.coords ⟨n + 1, Nat.lt_of_succ_lt hn⟩) = false := by
        rw [Bool.eq_false_iff, Ne, idle_4 hp, not_not]; exact hr
      rw [hi]
      exact after0_4 hp x ⟨n + 1, _⟩
    · have hi : (cfgM m hp.ok).idle 4 ((cfgM m hp.ok).grid.coords ⟨n + 1, Nat.lt_of_succ_lt hn⟩) = true := (idle_4 hp _).2 hr
      rw [hi]
      refine (ih (Nat.lt_of_succ_lt hn) ?_).trans (stepOut_idle hp x ⟨n + 1, _⟩ _ (by rw [coords_val]; exact hr)).symm
      rw [Sched.tile_not_real hp.sum hr]
      by_cases hr' : Sched.real n a b c d
      · exact (Sched.real_last hp.sum hr' hr).1.symm
      · exact (Sched.tile_not_real hp.sum hr').symm

/-- At a work item the body's step from what it finds is `outAt`. -/
theorem step_before (hp : Parts m a b c d) (x : Dev nD) (t : Fin (cfgM m hp.ok).N) (z) (hr : Sched.real t.val a b c d) :
    stepOut hp x t ((dats hp 0 x).before 4 t z) = outAt hp x t.val t.isLt := by
  obtain ⟨n, hn⟩ := t
  cases n with
  | zero => exact stepOut_fst hp x _ _ _ (by rw [coords_val]; exact hr) (by
      unfold tileN; rw [coords_val]; show Sched.st 0 a b c d ≤ _; rw [(Sched.tile_zero hp.sum).2]; exact Nat.zero_le _)
  | succ n =>
    rcases Sched.real_step hp.sum hr with h | h
    · exact congrArg (stepOut hp x ⟨n + 1, hn⟩) (before_same hp x z n hn h.1)
    · exact stepOut_fst hp x _ _ _ (by rw [coords_val]; exact hr) (by unfold tileN; rw [coords_val]; exact h.2.2)

/-- Past the work items the buffer still holds `outAt`. -/
theorem idle_before (hp : Parts m a b c d) (x : Dev nD) (t : Fin (cfgM m hp.ok).N) (z) (hr : ¬ Sched.real t.val a b c d) :
    (dats hp 0 x).before 4 t z = outAt hp x t.val t.isLt := by
  obtain ⟨n, hn⟩ := t
  cases n with
  | zero => exact absurd (Sched.real_zero hp.sum) hr
  | succ n =>
    refine (before_same hp x z n hn ?_).trans (stepOut_idle hp x ⟨n + 1, _⟩ _ (by rw [coords_val]; exact hr)).symm
    rw [Sched.tile_not_real hp.sum hr]
    by_cases hr' : Sched.real n a b c d
    · exact (Sched.real_last hp.sum hr' hr).1.symm
    · exact (Sched.tile_not_real hp.sum hr').symm

/-! ## What the body hands back -/

theorem leaves_0 (hp : Parts m a b c d) (x : Dev nD) (t : Fin (cfgM m hp.ok).N) :
    (dats hp 0 x).leavesExact 0 t = owns (x : Thread nD τ) (ms0_0 m hp.ok t) fullShare (iblk m hp.ok x 0 t) := by
  unfold Dat.leavesExact; rw [show (cfgM m hp.ok).idle 0 ((cfgM m hp.ok).grid.coords t) = false from rfl, after0_0]; rfl

theorem leaves_1 (hp : Parts m a b c d) (x : Dev nD) (t : Fin (cfgM m hp.ok).N) :
    (dats hp 0 x).leavesExact 1 t = owns (x : Thread nD τ) (ms0_1 m hp.ok t) fullShare (iblk m hp.ok x 1 t) := by
  unfold Dat.leavesExact; rw [show (cfgM m hp.ok).idle 1 ((cfgM m hp.ok).grid.coords t) = false from rfl, after0_1]; rfl

theorem leaves_2 (hp : Parts m a b c d) (x : Dev nD) (t : Fin (cfgM m hp.ok).N) :
    (dats hp 0 x).leavesExact 2 t = owns (x : Thread nD τ) (ms0_2 m hp.ok t) fullShare (iblk m hp.ok x 2 t) := by
  unfold Dat.leavesExact; rw [show (cfgM m hp.ok).idle 2 ((cfgM m hp.ok).grid.coords t) = false from rfl, after0_2]; rfl

theorem leaves_3 (hp : Parts m a b c d) (x : Dev nD) (t : Fin (cfgM m hp.ok).N) :
    (dats hp 0 x).leavesExact 3 t = owns (x : Thread nD τ) (ms0_3 m hp.ok t) fullShare (iblk m hp.ok x 3 t) := by
  unfold Dat.leavesExact; rw [show (cfgM m hp.ok).idle 3 ((cfgM m hp.ok).grid.coords t) = false from rfl, after0_3]; rfl

theorem leaves_4_real (hp : Parts m a b c d) (x : Dev nD) (t : Fin (cfgM m hp.ok).N) (hr : Sched.real t.val a b c d) :
    (dats hp 0 x).leavesExact 4 t = owns (x : Thread nD τ) (ms0_4 m hp.ok t) fullShare (outAt hp x t.val t.isLt) := by
  have hi : (cfgM m hp.ok).idle 4 ((cfgM m hp.ok).grid.coords t) = false := by
    rw [Bool.eq_false_iff, Ne, idle_4 hp, not_not]; exact hr
  unfold Dat.leavesExact; rw [hi, after0_4]; rfl

theorem leaves_4_flush (hp : Parts m a b c d) (x : Dev nD) (t : Fin (cfgM m hp.ok).N) (hr : ¬ Sched.real t.val a b c d)
    (hf : ((cfgM m hp.ok).win 4).flush t = true) :
    (dats hp 0 x).leavesExact 4 t = owns (x : Thread nD τ) (ms0_4 m hp.ok t) fullShare (outAt hp x t.val t.isLt) := by
  unfold Dat.leavesExact; rw [(idle_4 hp t).2 hr, hf, after0_4]; rfl

theorem leaves_4_keep (hp : Parts m a b c d) (x : Dev nD) (t : Fin (cfgM m hp.ok).N) (hr : ¬ Sched.real t.val a b c d)
    (hf : ((cfgM m hp.ok).win 4).flush t = false) :
    (dats hp 0 x).leavesExact 4 t = iprop(∃ z, owns (x : Thread nD τ) (ms0_4 m hp.ok t) fullShare ((dats hp 0 x).before 4 t z)) :=
  Dat.leavesExact_idle (dats hp 0 x) 4 t ((idle_4 hp t).2 hr) hf

/-- The body's step from what it finds, at a work item, is what `outAt` says. -/
theorem item_before (hp : Parts m a b c d) (x : Dev nD) (t : Fin (cfgM m hp.ok).N) (z) (hr : Sched.real ((grid0.coords t) 0).val a b c d) :
    outAt hp x t.val t.isLt = itemOut x (grid0.coords t) (iblk m hp.ok x 0 t) (iblk m hp.ok x 1 t) (iblk m hp.ok x 2 t) (iblk m hp.ok x 3 t)
      ((dats hp 0 x).before 4 t z) (tbl m 0) (hp.chk x _) ((hp.cond_iff x _).2 hr) :=
  (step_before hp x t z (by rw [coords_val] at hr; exact hr)).symm.trans (stepOut_real hp x t _ hr)

/-! ## The body's obligation -/

def bodyPre (hp : Parts m a b c d) (x : Dev nD) (t : Fin (cfgM m hp.ok).N) : sProp 𝕄 :=
  iprop((dats hp 0 x).Φ t.castSucc ∗ (dats hp 0 x).owesAt () t.castSucc
    ∗ (∃ z, owns (x : Thread nD τ) (ms0_0 m hp.ok t) fullShare ((dats hp 0 x).before 0 t z))
    ∗ (∃ z, owns (x : Thread nD τ) (ms0_1 m hp.ok t) fullShare ((dats hp 0 x).before 1 t z))
    ∗ (∃ z, owns (x : Thread nD τ) (ms0_2 m hp.ok t) fullShare ((dats hp 0 x).before 2 t z))
    ∗ (∃ z, owns (x : Thread nD τ) (ms0_3 m hp.ok t) fullShare ((dats hp 0 x).before 3 t z))
    ∗ (∃ z, owns (x : Thread nD τ) (ms0_4 m hp.ok t) fullShare ((dats hp 0 x).before 4 t z)))

def bodyPost (hp : Parts m a b c d) (x : Dev nD) (t : Fin (cfgM m hp.ok).N) : sProp 𝕄 :=
  iprop((dats hp 0 x).Φ t.succ ∗ (dats hp 0 x).owesAt () t.succ
    ∗ (dats hp 0 x).leavesExact 0 t
    ∗ (dats hp 0 x).leavesExact 1 t
    ∗ (dats hp 0 x).leavesExact 2 t
    ∗ (dats hp 0 x).leavesExact 3 t
    ∗ (dats hp 0 x).leavesExact 4 t)

set_option maxHeartbeats 1600000 in
/-- The body at a work item. -/
theorem sound_real (hp : Parts m a b c d) (x : Dev nD) (t : Fin (cfgM m hp.ok).N) (hr : Sched.real t.val a b c d) :
    bodyPre hp x t ⊢ wp frame (wpE (defs₀ (F := F)) Variants.none x none) Set.univ (bodyAt0 m hp.ok t) (fun _ => bodyPost hp x t) := by
  have hr' : Sched.real ((grid0.coords t) 0).val a b c d := by rw [coords_val]; exact hr
  unfold bodyPre bodyPost bodyAt0
  simp only [before0_0, before0_1, before0_2, before0_3]
  rw [show (dats hp 0 x).Φ t.succ = (dats hp 0 x).Φ t.castSucc from rfl,
    show (dats hp 0 x).owesAt () t.succ = (dats hp 0 x).owesAt () t.castSucc from rfl,
    leaves_0, leaves_1, leaves_2, leaves_3, leaves_4_real hp x t hr]
  rw [show (dats hp 0 x).Φ t.castSucc = iprop(Pipeline.ΦA spec0 x ∗ Pipeline.ΦT pre0 (tbl m) x) from rfl, PhiT0_eq]
  iintro ⟨⟨HΦ, HT0⟩, Ho, ⟨%d0, H0⟩, ⟨%d1, H1⟩, ⟨%d2, H2⟩, ⟨%d3, H3⟩, ⟨%d4, H4⟩⟩
  rw [item_before hp x t d4 hr']
  iapply (kernelRun_item x (grid0.coords t) _ _ _ _ _ _ _ _ _ _ (iblk m hp.ok x 0 t) (iblk m hp.ok x 1 t) (iblk m hp.ok x 2 t) (iblk m hp.ok x 3 t)
    ((dats hp 0 x).before 4 t d4) (tbl m 0) (hp.chk x _) ((hp.cond_iff x _).2 hr') Set.univ _)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexact H4

set_option maxHeartbeats 1600000 in
/-- The body past the work items, at the last point: the block held is written back. -/
theorem sound_flush (hp : Parts m a b c d) (x : Dev nD) (t : Fin (cfgM m hp.ok).N) (hr : ¬ Sched.real t.val a b c d)
    (hf : ((cfgM m hp.ok).win 4).flush t = true) :
    bodyPre hp x t ⊢ wp frame (wpE (defs₀ (F := F)) Variants.none x none) Set.univ (bodyAt0 m hp.ok t) (fun _ => bodyPost hp x t) := by
  have hr' : ¬ k0_cond1 (grid0.coords t) (rd0 x (tbl m 0)) (rd1 x (tbl m 0)) (rd2 x (tbl m 0)) (rd3 x (tbl m 0)) = 1#1 := by
    rw [hp.cond_iff, coords_val]; exact hr
  unfold bodyPre bodyPost bodyAt0
  simp only [before0_0, before0_1, before0_2, before0_3]
  rw [show (dats hp 0 x).Φ t.succ = (dats hp 0 x).Φ t.castSucc from rfl,
    show (dats hp 0 x).owesAt () t.succ = (dats hp 0 x).owesAt () t.castSucc from rfl,
    leaves_0, leaves_1, leaves_2, leaves_3, leaves_4_flush hp x t hr hf]
  rw [show (dats hp 0 x).Φ t.castSucc = iprop(Pipeline.ΦA spec0 x ∗ Pipeline.ΦT pre0 (tbl m) x) from rfl, PhiT0_eq]
  iintro ⟨⟨HΦ, HT0⟩, Ho, ⟨%d0, H0⟩, ⟨%d1, H1⟩, ⟨%d2, H2⟩, ⟨%d3, H3⟩, ⟨%d4, H4⟩⟩
  rw [← idle_before hp x t d4 hr]
  iapply (kernelRun_idle x (grid0.coords t) _ _ _ _ _ _ _ _ _ _ (iblk m hp.ok x 0 t) (iblk m hp.ok x 1 t) (iblk m hp.ok x 2 t) (iblk m hp.ok x 3 t)
    ((dats hp 0 x).before 4 t d4) (tbl m 0) (hp.chk x _) hr' Set.univ _)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexact H4

set_option maxHeartbeats 1600000 in
/-- The body past the work items, before the last point: the block is kept. -/
theorem sound_keep (hp : Parts m a b c d) (x : Dev nD) (t : Fin (cfgM m hp.ok).N) (hr : ¬ Sched.real t.val a b c d)
    (hf : ((cfgM m hp.ok).win 4).flush t = false) :
    bodyPre hp x t ⊢ wp frame (wpE (defs₀ (F := F)) Variants.none x none) Set.univ (bodyAt0 m hp.ok t) (fun _ => bodyPost hp x t) := by
  have hr' : ¬ k0_cond1 (grid0.coords t) (rd0 x (tbl m 0)) (rd1 x (tbl m 0)) (rd2 x (tbl m 0)) (rd3 x (tbl m 0)) = 1#1 := by
    rw [hp.cond_iff, coords_val]; exact hr
  unfold bodyPre bodyPost bodyAt0
  simp only [before0_0, before0_1, before0_2, before0_3]
  rw [show (dats hp 0 x).Φ t.succ = (dats hp 0 x).Φ t.castSucc from rfl,
    show (dats hp 0 x).owesAt () t.succ = (dats hp 0 x).owesAt () t.castSucc from rfl,
    leaves_0, leaves_1, leaves_2, leaves_3, leaves_4_keep hp x t hr hf]
  rw [show (dats hp 0 x).Φ t.castSucc = iprop(Pipeline.ΦA spec0 x ∗ Pipeline.ΦT pre0 (tbl m) x) from rfl, PhiT0_eq]
  iintro ⟨⟨HΦ, HT0⟩, Ho, ⟨%d0, H0⟩, ⟨%d1, H1⟩, ⟨%d2, H2⟩, ⟨%d3, H3⟩, ⟨%d4, H4⟩⟩
  iapply (kernelRun_idle x (grid0.coords t) _ _ _ _ _ _ _ _ _ _ (iblk m hp.ok x 0 t) (iblk m hp.ok x 1 t) (iblk m hp.ok x 2 t) (iblk m hp.ok x 3 t)
    ((dats hp 0 x).before 4 t d4) (tbl m 0) (hp.chk x _) hr' Set.univ _)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexists d4; iexact H4

theorem sound_body (hp : Parts m a b c d) (x : Dev nD) (t : Fin (cfgM m hp.ok).N) :
    bodyPre hp x t ⊢ wp frame (wpE (defs₀ (F := F)) Variants.none x none) Set.univ (bodyAt0 m hp.ok t) (fun _ => bodyPost hp x t) := by
  by_cases hr : Sched.real t.val a b c d
  · exact sound_real hp x t hr
  · rcases hf : ((cfgM m hp.ok).win 4).flush t with _ | _
    · exact sound_keep hp x t hr hf
    · exact sound_flush hp x t hr hf

theorem defs₀_row (hp : Parts m a b c d) (t : Fin (cfgM m hp.ok).N) :
    defs₀ (F := F) .tc (cfgM m hp.ok).body ((cfgM m hp.ok).bodyArgs t ((cfgM m hp.ok).slots t)) = bodyAt0 m hp.ok t := by
  unfold defs₀; rw [Defs.onTc_tc]; rfl

set_option maxHeartbeats 1600000 in
theorem body_obligation (hp : Parts m a b c d) (x : Dev nD) : BodyObligation (dats (F := F) hp 0 x) (defs₀ (F := F)) Variants.none () Set.univ := fun t => by
  rw [bigSep_W0, bigSep_W0, defs₀_row hp]
  refine triple_restated (sound_body hp x t) rfl .rfl fun _ => ?_
  unfold bodyPost Dat.leavesExact
  exact .rfl

/-! ## The run -/

variable (ρ : Dev nD → PrngReg)

set_option backward.isDefEq.respectTransparency.types false in
/-- Every run ends, with every array of the pipeline at what its windows' write-backs made it, every other buffer as the region found it, and
    every semaphore at zero. -/
theorem run_main (hp : Parts m a b c d) : θ_run defs (onTc (τ := τ) (main (F := F))) (s₀ m ρ)
    (fun r => Pipeline.FramePost (Pipeline.pin pcfgs fun _ => adm m hp.ok) (dats hp) 0 (V m) r ∧ r.2.sem = fun _ => 0) :=
  Pipeline.θ_run_frameP (Q' := _) pcfgs (fun _ => adm m hp.ok) (dats hp) (0 : Fin 1) launch0 defs₀ Variants.none m ρ main
    (hbody := fun x => (body_obligation hp x).loose) (hshare := fun x => (dats hp 0 x).share_full fun _ => rfl)
    (howed := fun _ _ => rfl) (V := V m) (hmain := hmain m Variants.none) (hA := A_eq hp) (hpf := V_pre m) (hΦ := fun _ _ => rfl)

/-- What a run leaves: the result's array, the arguments unchanged, the semaphores at zero. -/
theorem run_result (hp : Parts m a b c d) : θ_run defs (onTc (τ := τ) (main (F := F))) (s₀ m ρ) (fun r =>
      (∀ x : Dev nD, r.2.mem ((x.tc : Thread nD τ).loc main_v1) = (dats hp 0 x).arrAt 4 (cfgM m hp.ok).N
        ∧ r.2.mem ((x.tc : Thread nD τ).loc main_arg0) = m ((x.tc : Thread nD τ).loc main_arg0)
        ∧ r.2.mem ((x.tc : Thread nD τ).loc main_arg1) = m ((x.tc : Thread nD τ).loc main_arg1)
        ∧ r.2.mem ((x.tc : Thread nD τ).loc main_arg2) = m ((x.tc : Thread nD τ).loc main_arg2)
        ∧ r.2.mem ((x.tc : Thread nD τ).loc main_arg3) = m ((x.tc : Thread nD τ).loc main_arg3)
        ∧ r.2.mem ((x.tc : Thread nD τ).loc main_arg4) = m ((x.tc : Thread nD τ).loc main_arg4))
      ∧ r.2.sem = fun _ => 0) := by
  refine (θ_run defs _ _).mono (fun r h => ⟨fun x => ⟨?_, ?_, ?_, ?_, ?_, ?_⟩, h.2⟩) (run_main ρ hp)
  · exact (h.1 x).1 4
  · exact ((h.1 x).1 0).trans (((dats hp 0 x).arrAt_in 0 rfl _).trans ((A_eq hp x 0).trans (V_main_arg0 m x)))
  · exact ((h.1 x).1 1).trans (((dats hp 0 x).arrAt_in 1 rfl _).trans ((A_eq hp x 1).trans (V_main_arg1 m x)))
  · exact ((h.1 x).2 main_arg2 (by decide : main_arg2 ∈ Pipeline.restRefs sig spec0)).trans (V_main_arg2 m x)
  · exact ((h.1 x).1 2).trans (((dats hp 0 x).arrAt_in 2 rfl _).trans ((A_eq hp x 2).trans (V_main_arg3 m x)))
  · exact ((h.1 x).2 main_arg4 (by decide : main_arg4 ∈ Pipeline.restRefs sig spec0)).trans (V_main_arg4 m x)

end Cert.KernelIdeal.Hand

end
-- ==== Proof.Kernel.Runs.lean ====
/- What the region of the kernel finds: the buffers after the host's reshape, the prefetched table of group sizes
   (and the pipeline at it), and each window's block at a grid point. -/
module

public import proofs.«01_k».proof.Proof.Gen.Kernel.Skeleton
public import proofs.«01_k».proof.Proof.Gen.Kernel.Launch
public import Idealize.ShloMosaic.Lib.Claim
public import Idealize.ShloMosaic.Lib.Exec
public import Idealize.ShloMosaic.Lib.Pipeline.Frame
public import Idealize.ShloMosaic.Lib.Pipeline.FrameBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main runs the host operation and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operation writes `main_v0` alone: every other buffer is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)
theorem V_main_arg4 (c : Dev nD) : V m c main_arg4 = m ((c : Thread nD τ).loc main_arg4) := V_of_ne m c _ (by decide)

/-! ## The prefetched table -/

/-- The table's contents when the region is entered (the program runs on one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The pipeline's side condition of the table: every window's block is inside its array at every point. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM0_0 : Memref sig .tc .smem S4 .i32 := Memref.whole main_arg2
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The word the body loads from the table at group `k` (a literal). -/
abbrev rd0 (c : Dev nD) (xt : TbBuf0 (F := F) c tbM0_0) : BitVec 32 :=
  tbM0_0.view.readAt (Elt F) (Rect.unit (s := S4) ![0] S1.size inb_S4_S1_0).toLoadRect xt (Shape.Idx.first (numel1_S1.symm ▸ Nat.one_pos))
abbrev rd1 (c : Dev nD) (xt : TbBuf0 (F := F) c tbM0_0) : BitVec 32 :=
  tbM0_0.view.readAt (Elt F) (Rect.unit (s := S4) ![1] S1.size inb_S4_S1_1).toLoadRect xt (Shape.Idx.first (numel1_S1.symm ▸ Nat.one_pos))
abbrev rd2 (c : Dev nD) (xt : TbBuf0 (F := F) c tbM0_0) : BitVec 32 :=
  tbM0_0.view.readAt (Elt F) (Rect.unit (s := S4) ![2] S1.size inb_S4_S1_2).toLoadRect xt (Shape.Idx.first (numel1_S1.symm ▸ Nat.one_pos))
abbrev rd3 (c : Dev nD) (xt : TbBuf0 (F := F) c tbM0_0) : BitVec 32 :=
  tbM0_0.view.readAt (Elt F) (Rect.unit (s := S4) ![3] S1.size inb_S4_S1_3).toLoadRect xt (Shape.Idx.first (numel1_S1.symm ▸ Nat.one_pos))

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms0_0 (hO : Ok m) (t : Fin (cfgM m hO).N) : Memref sig .tc .vmem S512x2816 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2816x5632 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x5632 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x5632 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The body as the pipeline calls it at point `t`. -/
def bodyAt0 (hO : Ok m) (t : Fin (cfgM m hO).N) : Prog (TpuEff nD τ sig (Elt F) Λ₀ .tc) PUnit :=
  cc0_grouped_fp8_matmul (grid0.coords t) tbM0_0 htbM0_0 (ms0_0 m hO t) (hs0_0 m hO t) (ms0_1 m hO t) (hs0_1 m hO t) (ms0_2 m hO t) (hs0_2 m hO t) (ms0_3 m hO t) (hs0_3 m hO t) (ms0_4 m hO t) (hs0_4 m hO t)

end Cert.Kernel.Hand

end
-- ==== Proof.Kernel.Real.lean ====
/- The kernel body, run on whole staging buffers at a work item: it leaves in the output's buffer eleven 512-column pieces. -/
module

public import proofs.«01_k».proof.Proof.Kernel.Runs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 8000000 in
/-- At a work item: what the body's stores leave in the output's buffer, as pieces (last first), with the proof that the body
    runs there and hands every other buffer back as it was. -/
noncomputable def kernelRun_real (c : Dev nD) (i : grid0.Coords) (arg2 : Memref sig .tc .vmem S512x2816 .fp8e4m3) (harg2 : arg2.IsWhole) (arg3 : Memref sig .tc .vmem S512x1 .f32) (harg3 : arg3.IsWhole) (arg4 : Memref sig .tc .vmem S1x2816x5632 .fp8e4m3) (harg4 : arg4.IsWhole) (arg5 : Memref sig .tc .vmem S1x1x5632 .f32) (harg5 : arg5.IsWhole) (arg6 : Memref sig .tc .vmem S512x5632 .bf16) (harg6 : arg6.IsWhole)
    (x0 : Vec F S512x2816 .fp8e4m3) (x1 : Vec F S512x1 .f32) (x2 : Vec F S1x2816x5632 .fp8e4m3) (x3 : Vec F S1x1x5632 .f32) (x4 : Vec F S512x5632 .bf16) (xt : TbBuf0 (F := F) c tbM0_0)
    (hw : k0_chk1 i (rd0 c xt) (rd1 c xt) (rd2 c xt) (rd3 c xt)) (hc : k0_cond1 i (rd0 c xt) (rd1 c xt) (rd2 c xt) (rd3 c xt) = 1#1) :
    { L4 : List (View.Piece (Elt F) S512x5632 .bf16) //
      ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ tbPt0 c tbM0_0 xt) -∗ K ⟨⟩))
      ⊢ wp frame (wpE (defs₀ (F := F)) Variants.none c none) E (cc0_grouped_fp8_matmul i tbM0_0 htbM0_0 arg2 harg2 arg3 harg3 arg4 harg4 arg5 harg5 arg6 harg6) K } := by
  refine ⟨?_, fun E K => ?run⟩
  case run =>
    simp only [cc0_grouped_fp8_matmul_eq_skeleton]; unfold cc0_grouped_fp8_matmul_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold k0_part1_skel k0_part2_skel k0_part3_skel k0_part4_skel k0_part5_skel k0_part6_skel k0_part7_skel k0_part8_skel k0_part9_skel k0_part10_skel k0_part11_skel
    unfold owns
    iintro ⟨⟨%f0, %hf0, H0⟩, ⟨%f1, %hf1, H1⟩, ⟨%f2, %hf2, H2⟩, ⟨%f3, %hf3, H3⟩, ⟨%f4, %hf4, H4⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hw | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact HT0

end Cert.Kernel.Hand

end
-- ==== Proof.Kernel.Idle.lean ====
/- The kernel body, run on whole staging buffers: at a grid point past the last work item it stores nothing; at a work
   item it leaves in the output's buffer eleven 512-column pieces. -/
module

public import proofs.«01_k».proof.Proof.Kernel.Runs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- Past the last work item the body stores nothing: every buffer is handed back as it was. -/
theorem kernelRun_idle (c : Dev nD) (i : grid0.Coords) (arg2 : Memref sig .tc .vmem S512x2816 .fp8e4m3) (harg2 : arg2.IsWhole) (arg3 : Memref sig .tc .vmem S512x1 .f32) (harg3 : arg3.IsWhole) (arg4 : Memref sig .tc .vmem S1x2816x5632 .fp8e4m3) (harg4 : arg4.IsWhole) (arg5 : Memref sig .tc .vmem S1x1x5632 .f32) (harg5 : arg5.IsWhole) (arg6 : Memref sig .tc .vmem S512x5632 .bf16) (harg6 : arg6.IsWhole)
    (x0 : Vec F S512x2816 .fp8e4m3) (x1 : Vec F S512x1 .f32) (x2 : Vec F S1x2816x5632 .fp8e4m3) (x3 : Vec F S1x1x5632 .f32) (x4 : Vec F S512x5632 .bf16) (xt : TbBuf0 (F := F) c tbM0_0)
    (hw : k0_chk1 i (rd0 c xt) (rd1 c xt) (rd2 c xt) (rd3 c xt)) (hc : ¬ k0_cond1 i (rd0 c xt) (rd1 c xt) (rd2 c xt) (rd3 c xt) = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 xt) -∗ K ⟨⟩))
      ⊢ wp frame (wpE (defs₀ (F := F)) Variants.none c none) E (cc0_grouped_fp8_matmul i tbM0_0 htbM0_0 arg2 harg2 arg3 harg3 arg4 harg4 arg5 harg5 arg6 harg6) K := by
  simp only [cc0_grouped_fp8_matmul_eq_skeleton]; unfold cc0_grouped_fp8_matmul_skel
  simp only [k0_part7_eq_skeleton, k0_part8_eq_skeleton, k0_part9_eq_skeleton, k0_part10_eq_skeleton, k0_part11_eq_skeleton]
  unfold k0_part7_skel k0_part8_skel k0_part9_skel k0_part10_skel k0_part11_skel
  unfold owns
  iintro ⟨H0, H1, H2, H3, H4, HT0, Hk⟩
  sl_exec (disch := first | sl_exact hw | sl_exact hc)
  sl_step
  iapply Hk
  isplitl [H0]; · iexact H0
  isplitl [H1]; · iexact H1
  isplitl [H2]; · iexact H2
  isplitl [H3]; · iexact H3
  isplitl [H4]; · iexact H4
  iexact HT0

end Cert.Kernel.Hand

end
-- ==== Proof.Kernel.Index.lean ====
/- The printed index words of the kernel are those of Words.lean: its index maps, its work-item test, and the cell it loads the
   group's size from. -/
module

public import proofs.«01_k».proof.Proof.Words
public import proofs.«01_k».proof.Proof.Kernel.Runs

@[expose] public section

set_option maxRecDepth 65536

noncomputable section

namespace Cert.Kernel.Hand

open Idealize.ShloMosaic Cert.Kernel.Gen

variable {F : FTy → Type} [FloatOps F]

/-- A grid point as a word. -/
abbrev itemW (i : grid0.Coords) : BitVec 32 := BitVec.ofNat 32 (i 0).val

/-- The table's word for group `k`, as the index maps read it. -/
abbrev sz0 (pf : pre0.Contents (Elt F)) : BitVec 32 := pf.at 0 (Rect.unit (s := S4) ![0] S1.size inb_S4_S1_0) numel1_S1
abbrev sz1 (pf : pre0.Contents (Elt F)) : BitVec 32 := pf.at 0 (Rect.unit (s := S4) ![1] S1.size inb_S4_S1_1) numel1_S1
abbrev sz2 (pf : pre0.Contents (Elt F)) : BitVec 32 := pf.at 0 (Rect.unit (s := S4) ![2] S1.size inb_S4_S1_2) numel1_S1
abbrev sz3 (pf : pre0.Contents (Elt F)) : BitVec 32 := pf.at 0 (Rect.unit (s := S4) ![3] S1.size inb_S4_S1_3) numel1_S1

theorem cond_eq (i : grid0.Coords) (a b c d : BitVec 32) : k0_cond1 i a b c d = Words.real (itemW i) a b c d := rfl
theorem off_eq (i : grid0.Coords) (a b c d : BitVec 32) : k0_off1 i a b c d = ![(Words.group (itemW i) a b c d).toNat] := rfl

theorem transform_0_eq (pf : pre0.Contents (Elt F)) (i : grid0.Coords) :
    cc0_transform_0 inb_S4_S1_0 numel1_S1 inb_S4_S1_1 inb_S4_S1_2 inb_S4_S1_3 pf i = ![(Words.tile (itemW i) (sz0 pf) (sz1 pf) (sz2 pf) (sz3 pf)).toNat, 0] := rfl
theorem transform_1_eq (pf : pre0.Contents (Elt F)) (i : grid0.Coords) :
    cc0_transform_1 inb_S4_S1_0 numel1_S1 inb_S4_S1_1 inb_S4_S1_2 inb_S4_S1_3 pf i = ![(Words.tile (itemW i) (sz0 pf) (sz1 pf) (sz2 pf) (sz3 pf)).toNat, 0] := rfl
theorem transform_2_eq (pf : pre0.Contents (Elt F)) (i : grid0.Coords) :
    cc0_transform_2 inb_S4_S1_0 numel1_S1 inb_S4_S1_1 inb_S4_S1_2 inb_S4_S1_3 pf i = ![(Words.group (itemW i) (sz0 pf) (sz1 pf) (sz2 pf) (sz3 pf)).toNat, 0, 0] := rfl
theorem transform_3_eq (pf : pre0.Contents (Elt F)) (i : grid0.Coords) :
    cc0_transform_3 inb_S4_S1_0 numel1_S1 inb_S4_S1_1 inb_S4_S1_2 inb_S4_S1_3 pf i = ![(Words.group (itemW i) (sz0 pf) (sz1 pf) (sz2 pf) (sz3 pf)).toNat, 0, 0] := rfl
theorem transform_4_eq (pf : pre0.Contents (Elt F)) (i : grid0.Coords) :
    cc0_transform_4 inb_S4_S1_0 numel1_S1 inb_S4_S1_1 inb_S4_S1_2 inb_S4_S1_3 pf i = ![(Words.tile (itemW i) (sz0 pf) (sz1 pf) (sz2 pf) (sz3 pf)).toNat, 0] := rfl

end Cert.Kernel.Hand

end
-- ==== Proof.Kernel.Body.lean ====
/- What the body leaves in the output's buffer at a work item, as one function of the buffers it reads: column chunk by
   column chunk the product of the block, scaled, on the rows of the item's group, and the buffer's old contents (or zero,
   on the tile's first visit) on the others. -/
module

public import proofs.«01_k».proof.Proof.Kernel.Real
public import proofs.«01_k».proof.Proof.Kernel.Idle
public import proofs.«01_k».proof.Proof.Kernel.Index
public import Idealize.ShloMosaic.Lib.WholeRead
public import Idealize.ShloMosaic.Lib.Ring
public import Idealize.ShloMosaic.Lib.Pipeline.ValueKit.Geometry

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The column chunks of the buffers -/

/-- Chunk `j` of the weights' block: its columns `512 j` to `512 j + 511`. -/
def colW (j : Fin 11) (w : Vec F S1x2816x5632 .fp8e4m3) : Vec F S1x2816x512 .fp8e4m3 := fun z =>
  w (fun | 0 => z 0 | 1 => z 1 | 2 => (⟨512 * j.val + (z 2).val, by have h := (z 2).isLt; have : (z 2).val < 512 := h; have := j.isLt; show _ < 5632; omega⟩ : Fin 5632)
         | ⟨_ + 3, h⟩ => absurd h (Nat.not_lt.2 (Nat.le_add_left _ _)))
/-- Chunk `j` of the weights' scales. -/
def colS (j : Fin 11) (w : Vec F S1x1x5632 .f32) : Vec F S1x1x512 .f32 := fun z =>
  w (fun | 0 => z 0 | 1 => z 1 | 2 => (⟨512 * j.val + (z 2).val, by have h := (z 2).isLt; have : (z 2).val < 512 := h; have := j.isLt; show _ < 5632; omega⟩ : Fin 5632)
         | ⟨_ + 3, h⟩ => absurd h (Nat.not_lt.2 (Nat.le_add_left _ _)))
/-- Chunk `j` of the output's old contents. -/
def colO (j : Fin 11) (w : Vec F S512x5632 .bf16) : Vec F S512x512 .bf16 := fun z =>
  w (fun | 0 => z 0 | 1 => (⟨512 * j.val + (z 1).val, by have h := (z 1).isLt; have : (z 1).val < 512 := h; have := j.isLt; show _ < 5632; omega⟩ : Fin 5632)
         | ⟨_ + 2, h⟩ => absurd h (Nat.not_lt.2 (Nat.le_add_left _ _)))

/-- One chunk of the result. -/
def chunkOf (mine : IVec S512x1 1) (fst : BitVec 1) (x : Vec F S512x2816 .fp8e4m3) (xs : Vec F S512x1 .f32)
    (w : Vec F S1x2816x512 .fp8e4m3) (ws : Vec F S1x1x512 .f32) (old : Vec F S512x512 .bf16) : Vec F S512x512 .bf16 :=
  k0_pay1 mine fst x xs w ws old

/-- The column chunk of a column, and the column within it. -/
def chIx (y : S512x5632.Idx) : Fin 11 := ⟨(y 1).val / 512, by have h := (y 1).isLt; have : (y 1).val < 5632 := h; omega⟩
def inIx (y : S512x5632.Idx) : S512x512.Idx := fun
  | 0 => y 0 | 1 => (⟨(y 1).val % 512, Nat.mod_lt _ (by decide)⟩ : Fin 512)
  | ⟨_ + 2, h⟩ => absurd h (Nat.not_lt.2 (Nat.le_add_left _ _))

/-- The whole result of the body on the block. -/
def bodyOut (mine : IVec S512x1 1) (fst : BitVec 1) (x : Vec F S512x2816 .fp8e4m3) (xs : Vec F S512x1 .f32)
    (w : Vec F S1x2816x5632 .fp8e4m3) (ws : Vec F S1x1x5632 .f32) (old : Vec F S512x5632 .bf16) : Vec F S512x5632 .bf16 := fun y =>
  chunkOf mine fst x xs (colW (chIx y) w) (colS (chIx y) ws) (colO (chIx y) old) (inIx y)

theorem bodyOut_emb (j : Fin 11) (inb) (mine : IVec S512x1 1) (fst : BitVec 1) (x : Vec F S512x2816 .fp8e4m3) (xs : Vec F S512x1 .f32)
    (w : Vec F S1x2816x5632 .fp8e4m3) (ws : Vec F S1x1x5632 .f32) (old : Vec F S512x5632 .bf16) (z : S512x512.Idx) :
    bodyOut mine fst x xs w ws old ((Rect.unit (s := S512x5632) ![0, 512 * j.val] S512x512.size inb).emb z)
      = chunkOf mine fst x xs (colW j w) (colS j ws) (colO j old) z := by
  have h1 : (z 1).val < 512 := (z 1).isLt
  have e1 : (((Rect.unit (s := S512x5632) ![0, 512 * j.val] S512x512.size inb).emb z) 1).val = 512 * j.val + (z 1).val :=
    ValueKit.rect_emb_unit_val _ _ _ _ _
  have e0 : (((Rect.unit (s := S512x5632) ![0, 512 * j.val] S512x512.size inb).emb z) 0).val = (z 0).val :=
    (ValueKit.rect_emb_unit_val _ _ _ _ _).trans (Nat.zero_add _)
  have hj : chIx ((Rect.unit (s := S512x5632) ![0, 512 * j.val] S512x512.size inb).emb z) = j := by
    apply Fin.ext; show _ / 512 = _; rw [e1]; omega
  have hz : inIx ((Rect.unit (s := S512x5632) ![0, 512 * j.val] S512x512.size inb).emb z) = z := by
    funext a; apply Fin.ext
    match a with
    | 0 => exact e0
    | 1 => show _ % 512 = _; rw [e1]; omega
  unfold bodyOut; rw [hj, hz]

/-! ## The words of the item -/

section
variable (i : grid0.Coords) (a b c d sz : BitVec 32)

/-- The first row of the item's group. -/
def startW : BitVec 32 := Words.first a b c d (Words.group (itemW i) a b c d)
/-- The rows of the tile that lie in the item's group. -/
def mineOf : IVec S512x1 1 :=
  andi
    (cmpi .sge (addi (broadcast S512x1 (Scalar.muli (Words.tile (itemW i) a b c d) 512#32)) (iota .tc S512x1 32 [0] iota_S512x1_d0_w32))
      (broadcast S512x1 (startW i a b c d)))
    (cmpi .slt (addi (broadcast S512x1 (Scalar.muli (Words.tile (itemW i) a b c d) 512#32)) (iota .tc S512x1 32 [0] iota_S512x1_d0_w32))
      (broadcast S512x1 (Scalar.addi (startW i a b c d) sz)))
/-- Whether the item is the tile's first. -/
def fstOf : BitVec 1 := Scalar.cmpi .sle (startW i a b c d) (Scalar.muli (Words.tile (itemW i) a b c d) 512#32)
end

/-- The size of the item's group, as the body loads it. -/
def rdg (c : Dev nD) (xt : TbBuf0 (F := F) c tbM0_0) (i : grid0.Coords)
    (hw : k0_chk1 i (rd0 c xt) (rd1 c xt) (rd2 c xt) (rd3 c xt)) (hc : k0_cond1 i (rd0 c xt) (rd1 c xt) (rd2 c xt) (rd3 c xt) = 1#1) : BitVec 32 :=
  tbM0_0.view.readAt (Elt F) (Rect.unit (s := S4) (k0_off1 i (rd0 c xt) (rd1 c xt) (rd2 c xt) (rd3 c xt)) S1.size
    (k0_off1_inb i (rd0 c xt) (rd1 c xt) (rd2 c xt) (rd3 c xt) hw hc)).toLoadRect xt (Shape.Idx.first (numel1_S1.symm ▸ Nat.one_pos))

/-! ## The run's pieces -/

theorem chunk_congr {mine mine' : IVec S512x1 1} {fst fst' : BitVec 1} {x x' : Vec F S512x2816 .fp8e4m3} {xs xs' : Vec F S512x1 .f32}
    {w w' : Vec F S1x2816x512 .fp8e4m3} {ws ws' : Vec F S1x1x512 .f32} {old old' : Vec F S512x512 .bf16}
    (hm : mine = mine') (hf : fst = fst') (hx : x = x') (hxs : xs = xs') (hw : w = w') (hws : ws = ws') (ho : old = old') :
    chunkOf mine fst x xs w ws old = chunkOf mine' fst' x' xs' w' ws' old' := by
  subst hm hf hx hxs hw hws ho; rfl

theorem read_whole {s : Shape} {e : EltTy} {sp : Space} {m : Memref sig .tc sp s e} (hm : m.IsWhole) (X : Vec F s e) {off : Fin s.rank → ℕ} (hoff : ∀ a, off a = 0)
    (inb : ∀ a, off a + s.size a ≤ s.size a) :
    m.view.readAt (Elt F) (Rect.unit off s.size inb).toLoadRect (hm.unread X) = X := by
  funext y
  rw [hm.readAt_unread]
  congr 1; funext a; apply Fin.ext
  show off a + 1 * (y a).val = _
  rw [hoff]; omega

theorem read_colW {m : Memref sig .tc .vmem S1x2816x5632 .fp8e4m3} (hm : m.IsWhole) (X : Vec F S1x2816x5632 .fp8e4m3) (j : Fin 11) (inb) :
    m.view.readAt (Elt F) (Rect.unit (s := S1x2816x5632) ![0, 0, 512 * j.val] S1x2816x512.size inb).toLoadRect (hm.unread X) = colW j X := by
  funext y
  rw [hm.readAt_unread]
  unfold colW
  congr 1; funext a; apply Fin.ext
  match a with
  | 0 => show 0 + 1 * (y 0).val = (y 0).val; omega
  | 1 => show 0 + 1 * (y 1).val = (y 1).val; omega
  | 2 => show 512 * j.val + 1 * (y 2).val = 512 * j.val + (y 2).val; omega

theorem read_colS {m : Memref sig .tc .vmem S1x1x5632 .f32} (hm : m.IsWhole) (X : Vec F S1x1x5632 .f32) (j : Fin 11) (inb) :
    m.view.readAt (Elt F) (Rect.unit (s := S1x1x5632) ![0, 0, 512 * j.val] S1x1x512.size inb).toLoadRect (hm.unread X) = colS j X := by
  funext y
  rw [hm.readAt_unread]
  unfold colS
  congr 1; funext a; apply Fin.ext
  match a with
  | 0 => show 0 + 1 * (y 0).val = (y 0).val; omega
  | 1 => show 0 + 1 * (y 1).val = (y 1).val; omega
  | 2 => show 512 * j.val + 1 * (y 2).val = 512 * j.val + (y 2).val; omega

theorem read_colO {m : Memref sig .tc .vmem S512x5632 .bf16} (hm : m.IsWhole) (X : Vec F S512x5632 .bf16) (j : Fin 11) (inb) :
    m.view.readAt (Elt F) (Rect.unit (s := S512x5632) ![0, 512 * j.val] S512x512.size inb).toLoadRect (hm.unread X) = colO j X := by
  funext y
  rw [hm.readAt_unread]
  unfold colO
  congr 1; funext a; apply Fin.ext
  match a with
  | 0 => show 0 + 1 * (y 0).val = (y 0).val; omega
  | 1 => show 512 * j.val + 1 * (y 1).val = 512 * j.val + (y 1).val; omega

section
variable (c : Dev nD) (i : grid0.Coords) (arg2 : Memref sig .tc .vmem S512x2816 .fp8e4m3) (harg2 : arg2.IsWhole) (arg3 : Memref sig .tc .vmem S512x1 .f32) (harg3 : arg3.IsWhole) (arg4 : Memref sig .tc .vmem S1x2816x5632 .fp8e4m3) (harg4 : arg4.IsWhole) (arg5 : Memref sig .tc .vmem S1x1x5632 .f32) (harg5 : arg5.IsWhole) (arg6 : Memref sig .tc .vmem S512x5632 .bf16) (harg6 : arg6.IsWhole)
    (x0 : Vec F S512x2816 .fp8e4m3) (x1 : Vec F S512x1 .f32) (x2 : Vec F S1x2816x5632 .fp8e4m3) (x3 : Vec F S1x1x5632 .f32) (x4 : Vec F S512x5632 .bf16) (xt : TbBuf0 (F := F) c tbM0_0)
    (hw : k0_chk1 i (rd0 c xt) (rd1 c xt) (rd2 c xt) (rd3 c xt)) (hc : k0_cond1 i (rd0 c xt) (rd1 c xt) (rd2 c xt) (rd3 c xt) = 1#1)

/-- The buffers' chunks the body leaves, at the item's words. -/
def itemOut : Vec F S512x5632 .bf16 :=
  bodyOut (mineOf i (rd0 c xt) (rd1 c xt) (rd2 c xt) (rd3 c xt) (rdg c xt i hw hc)) (fstOf i (rd0 c xt) (rd1 c xt) (rd2 c xt) (rd3 c xt)) x0 x1 x2 x3 x4

set_option maxRecDepth 65536 in
set_option maxHeartbeats 8000000 in
/-- Every piece of the run is the result's function on the piece's columns. -/
theorem pieces_eq : ∀ p ∈ (kernelRun_real c i arg2 harg2 arg3 harg3 arg4 harg4 arg5 harg5 arg6 harg6 x0 x1 x2 x3 x4 xt hw hc).1,
    ∀ z : p.1.shape.Idx, p.2 z = itemOut c i x0 x1 x2 x3 x4 xt hw hc (p.1.emb z) := by
  have hmine : k0_pay2 (F := F)
            (Scalar.select (kernelRun_real.sl.v199 c i xt hw)
              (Scalar.addi (kernelRun_real.sl.v173 c i xt hw) (kernelRun_real.sl.v202 c i xt hw))
              (kernelRun_real.sl.v152 c i xt))
            (Scalar.select (kernelRun_real.sl.v199 c i xt hw) (3#32) (kernelRun_real.sl.v153 c i xt))
            (kernelRun_real.sl.r c xt) (kernelRun_real.sl.r_1 c xt) (kernelRun_real.sl.r_2 c xt)
            (kernelRun_real.sl.r_3 c xt) (kernelRun_real.sl.r_4 c i xt hw hc) = mineOf i (rd0 c xt) (rd1 c xt) (rd2 c xt) (rd3 c xt) (rdg c xt i hw hc) := rfl
  have hfst : kernelRun_real.sl.v239 c i xt hw = fstOf i (rd0 c xt) (rd1 c xt) (rd2 c xt) (rd3 c xt) := rfl
  unfold kernelRun_real itemOut
  dsimp only
  intro p hp
  simp only [List.mem_cons, List.not_mem_nil, or_false] at hp
  rcases hp with rfl | rfl | rfl | rfl | rfl | rfl | rfl | rfl | rfl | rfl | rfl
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨10, by decide⟩ inb_S1x2816x5632_S1x2816x512_0_0_5120) (read_colS harg5 x3 ⟨10, by decide⟩ inb_S1x1x5632_S1x1x512_0_0_5120) (read_colO harg6 x4 ⟨10, by decide⟩ inb_S512x5632_S512x512_0_5120)) z).trans (bodyOut_emb ⟨10, by decide⟩ inb_S512x5632_S512x512_0_5120 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨9, by decide⟩ inb_S1x2816x5632_S1x2816x512_0_0_4608) (read_colS harg5 x3 ⟨9, by decide⟩ inb_S1x1x5632_S1x1x512_0_0_4608) (read_colO harg6 x4 ⟨9, by decide⟩ inb_S512x5632_S512x512_0_4608)) z).trans (bodyOut_emb ⟨9, by decide⟩ inb_S512x5632_S512x512_0_4608 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨8, by decide⟩ inb_S1x2816x5632_S1x2816x512_0_0_4096) (read_colS harg5 x3 ⟨8, by decide⟩ inb_S1x1x5632_S1x1x512_0_0_4096) (read_colO harg6 x4 ⟨8, by decide⟩ inb_S512x5632_S512x512_0_4096)) z).trans (bodyOut_emb ⟨8, by decide⟩ inb_S512x5632_S512x512_0_4096 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨7, by decide⟩ inb_S1x2816x5632_S1x2816x512_0_0_3584) (read_colS harg5 x3 ⟨7, by decide⟩ inb_S1x1x5632_S1x1x512_0_0_3584) (read_colO harg6 x4 ⟨7, by decide⟩ inb_S512x5632_S512x512_0_3584)) z).trans (bodyOut_emb ⟨7, by decide⟩ inb_S512x5632_S512x512_0_3584 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨6, by decide⟩ inb_S1x2816x5632_S1x2816x512_0_0_3072) (read_colS harg5 x3 ⟨6, by decide⟩ inb_S1x1x5632_S1x1x512_0_0_3072) (read_colO harg6 x4 ⟨6, by decide⟩ inb_S512x5632_S512x512_0_3072)) z).trans (bodyOut_emb ⟨6, by decide⟩ inb_S512x5632_S512x512_0_3072 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨5, by decide⟩ inb_S1x2816x5632_S1x2816x512_0_0_2560) (read_colS harg5 x3 ⟨5, by decide⟩ inb_S1x1x5632_S1x1x512_0_0_2560) (read_colO harg6 x4 ⟨5, by decide⟩ inb_S512x5632_S512x512_0_2560)) z).trans (bodyOut_emb ⟨5, by decide⟩ inb_S512x5632_S512x512_0_2560 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨4, by decide⟩ inb_S1x2816x5632_S1x2816x512_0_0_2048) (read_colS harg5 x3 ⟨4, by decide⟩ inb_S1x1x5632_S1x1x512_0_0_2048) (read_colO harg6 x4 ⟨4, by decide⟩ inb_S512x5632_S512x512_0_2048)) z).trans (bodyOut_emb ⟨4, by decide⟩ inb_S512x5632_S512x512_0_2048 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨3, by decide⟩ inb_S1x2816x5632_S1x2816x512_0_0_1536) (read_colS harg5 x3 ⟨3, by decide⟩ inb_S1x1x5632_S1x1x512_0_0_1536) (read_colO harg6 x4 ⟨3, by decide⟩ inb_S512x5632_S512x512_0_1536)) z).trans (bodyOut_emb ⟨3, by decide⟩ inb_S512x5632_S512x512_0_1536 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨2, by decide⟩ inb_S1x2816x5632_S1x2816x512_0_0_1024) (read_colS harg5 x3 ⟨2, by decide⟩ inb_S1x1x5632_S1x1x512_0_0_1024) (read_colO harg6 x4 ⟨2, by decide⟩ inb_S512x5632_S512x512_0_1024)) z).trans (bodyOut_emb ⟨2, by decide⟩ inb_S512x5632_S512x512_0_1024 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨1, by decide⟩ inb_S1x2816x5632_S1x2816x512_0_0_512) (read_colS harg5 x3 ⟨1, by decide⟩ inb_S1x1x5632_S1x1x512_0_0_512) (read_colO harg6 x4 ⟨1, by decide⟩ inb_S512x5632_S512x512_0_512)) z).trans (bodyOut_emb ⟨1, by decide⟩ inb_S512x5632_S512x512_0_512 _ _ x0 x1 x2 x3 x4 z).symm
  · exact fun z => (congrFun (chunk_congr hmine hfst (read_whole harg2 x0 (off := ![0, 0]) (by decide) inb_S512x2816_S512x2816_0_0) (read_whole harg3 x1 (off := ![0, 0]) (by decide) inb_S512x1_S512x1_0_0) (read_colW harg4 x2 ⟨0, by decide⟩ inb_S1x2816x5632_S1x2816x512_0_0_0) (read_colS harg5 x3 ⟨0, by decide⟩ inb_S1x1x5632_S1x1x512_0_0_0) (read_colO harg6 x4 ⟨0, by decide⟩ inb_S512x5632_S512x512_0_0)) z).trans (bodyOut_emb ⟨0, by decide⟩ inb_S512x5632_S512x512_0_0 _ _ x0 x1 x2 x3 x4 z).symm

/-- The run's pieces cover the block. -/
theorem pieces_cover : ∀ y : S512x5632.Idx, ∃ p ∈ (kernelRun_real c i arg2 harg2 arg3 harg3 arg4 harg4 arg5 harg5 arg6 harg6 x0 x1 x2 x3 x4 xt hw hc).1, y ∈ p.1.set :=
  View.cover_of_tiledL _ ![512, 512] (by sl_kernel_rfl)

/-- The body at a work item: the output's buffer ends at `itemOut`. -/
theorem kernelRun_item (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ tbPt0 c tbM0_0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (itemOut c i x0 x1 x2 x3 x4 xt hw hc) ∗ tbPt0 c tbM0_0 xt) -∗ K ⟨⟩))
      ⊢ wp frame (wpE (defs₀ (F := F)) Variants.none c none) E (cc0_grouped_fp8_matmul i tbM0_0 htbM0_0 arg2 harg2 arg3 harg3 arg4 harg4 arg5 harg5 arg6 harg6) K := by
  iintro ⟨H0, H1, H2, H3, H4, HT0, Hk⟩
  iapply ((kernelRun_real c i arg2 harg2 arg3 harg3 arg4 harg4 arg5 harg5 arg6 harg6 x0 x1 x2 x3 x4 xt hw hc).2 E K)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, ⟨%f, H4⟩, HT0⟩
  iapply Hk
  isplitl [H0]; · iexact H0
  isplitl [H1]; · iexact H1
  isplitl [H2]; · iexact H2
  isplitl [H3]; · iexact H3
  isplitl [H4]
  · unfold owns
    iexists _; isplitr; swap; · iexact H4
    ipureintro
    exact funext fun y => View.read_writes_apply_of_pieces _ _ (itemOut c i x0 x1 x2 x3 x4 xt hw hc) _
      (pieces_eq c i arg2 harg2 arg3 harg3 arg4 harg4 arg5 harg5 arg6 harg6 x0 x1 x2 x3 x4 xt hw hc) y
      (pieces_cover c i arg2 harg2 arg3 harg3 arg4 harg4 arg5 harg5 arg6 harg6 x0 x1 x2 x3 x4 xt hw hc y)
  iexact HT0
end

end Cert.Kernel.Hand

end
-- ==== Proof.Kernel.Table.lean ====
/- The prefetched table of sizes in numbers: under the precondition the words the kernel computes with are the numbers of
   Sched.lean, every block lies inside its array, and the body's size load is inside the table. -/
module

public import proofs.«01_k».proof.Proof.Kernel.Index
public import proofs.«01_k».proof.Proof.Sizes
public import proofs.«01_k».proof.Proof.WordNat
public import Idealize.ShloMosaic.Lib.Affine

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Sizes Cert.WordNat

variable (m : (ℓ : Loc nD τ sig) → Buf (Elt F) ℓ)

/-- The table holds the sizes `a b c d`, and they sum to the rows. -/
structure Parts (a b c d : ℕ) : Prop where
  sum : a + b + c + d = 12288
  at0 : (tbl m 0 : S4.Idx → BitVec 32) (gIx 0) = W a
  at1 : (tbl m 0 : S4.Idx → BitVec 32) (gIx 1) = W b
  at2 : (tbl m 0 : S4.Idx → BitVec 32) (gIx 2) = W c
  at3 : (tbl m 0 : S4.Idx → BitVec 32) (gIx 3) = W d

variable {m} {a b c d : ℕ}

theorem Parts.at_group (hp : Parts m a b c d) (k : Fin 4) : (tbl m 0 : S4.Idx → BitVec 32) (gIx k) = W (Sched.size a b c d k.val) := by
  match k with
  | 0 => exact hp.at0
  | 1 => exact hp.at1
  | 2 => exact hp.at2
  | 3 => exact hp.at3

/-! The words as the index maps read them, -/

theorem Parts.sz0 (hp : Parts m a b c d) : sz0 (tbl m) = W a := (congrArg (tbl m 0) (eq_gIx rfl)).trans hp.at0
theorem Parts.sz1 (hp : Parts m a b c d) : sz1 (tbl m) = W b := (congrArg (tbl m 0) (eq_gIx rfl)).trans hp.at1
theorem Parts.sz2 (hp : Parts m a b c d) : sz2 (tbl m) = W c := (congrArg (tbl m 0) (eq_gIx rfl)).trans hp.at2
theorem Parts.sz3 (hp : Parts m a b c d) : sz3 (tbl m) = W d := (congrArg (tbl m 0) (eq_gIx rfl)).trans hp.at3

/-! as the body reads them, -/

theorem Parts.rd0 (hp : Parts m a b c d) (x : Dev nD) : rd0 x (tbl m 0) = W a := (congrArg (tbl m 0) (eq_gIx rfl)).trans hp.at0
theorem Parts.rd1 (hp : Parts m a b c d) (x : Dev nD) : rd1 x (tbl m 0) = W b := (congrArg (tbl m 0) (eq_gIx rfl)).trans hp.at1
theorem Parts.rd2 (hp : Parts m a b c d) (x : Dev nD) : rd2 x (tbl m 0) = W c := (congrArg (tbl m 0) (eq_gIx rfl)).trans hp.at2
theorem Parts.rd3 (hp : Parts m a b c d) (x : Dev nD) : rd3 x (tbl m 0) = W d := (congrArg (tbl m 0) (eq_gIx rfl)).trans hp.at3

/-! and as the idle points are stated. -/

theorem Parts.atD0 (hp : Parts m a b c d) : (tbl m).atD 0 ![0] = W a := by
  unfold Pipeline.Prefetch.Contents.atD
  rw [dif_pos (by decide)]
  exact (congrArg (tbl m 0) (eq_gIx rfl)).trans hp.at0
theorem Parts.atD1 (hp : Parts m a b c d) : (tbl m).atD 0 ![1] = W b := by
  unfold Pipeline.Prefetch.Contents.atD
  rw [dif_pos (by decide)]
  exact (congrArg (tbl m 0) (eq_gIx rfl)).trans hp.at1
theorem Parts.atD2 (hp : Parts m a b c d) : (tbl m).atD 0 ![2] = W c := by
  unfold Pipeline.Prefetch.Contents.atD
  rw [dif_pos (by decide)]
  exact (congrArg (tbl m 0) (eq_gIx rfl)).trans hp.at2
theorem Parts.atD3 (hp : Parts m a b c d) : (tbl m).atD 0 ![3] = W d := by
  unfold Pipeline.Prefetch.Contents.atD
  rw [dif_pos (by decide)]
  exact (congrArg (tbl m 0) (eq_gIx rfl)).trans hp.at3

theorem item_lt (i : grid0.Coords) : (i 0).val < 27 := (i 0).isLt

theorem W_toNat {n : ℕ} (h : n < 2 ^ 32) : (W n).toNat = n := WordCmp.toNat_ofNat_of_lt h

/-- The number of grid point `i`'s tile, and of its group. -/
abbrev tileN (a b c d : ℕ) (i : grid0.Coords) : ℕ := Sched.tile (i 0).val a b c d
abbrev groupN (a b c d : ℕ) (i : grid0.Coords) : ℕ := Sched.group (i 0).val a b c d

theorem Parts.tile_lt (hp : Parts m a b c d) (i : grid0.Coords) : tileN a b c d i < 24 := Nat.lt_succ_of_le (Sched.tile_le hp.sum)
theorem group_lt (i : grid0.Coords) : groupN a b c d i < 4 := Nat.lt_succ_of_le Sched.group_le

theorem Parts.tileW (hp : Parts m a b c d) (i : grid0.Coords) :
    (Words.tile (itemW i) (Hand.sz0 (tbl m)) (Hand.sz1 (tbl m)) (Hand.sz2 (tbl m)) (Hand.sz3 (tbl m))).toNat = tileN a b c d i := by
  rw [hp.sz0, hp.sz1, hp.sz2, hp.sz3]
  have := hp.tile_lt i
  exact (congrArg BitVec.toNat (tile_W hp.sum (item_lt i))).trans (W_toNat (this.trans (by norm_num)))

theorem Parts.groupW (hp : Parts m a b c d) (i : grid0.Coords) :
    (Words.group (itemW i) (Hand.sz0 (tbl m)) (Hand.sz1 (tbl m)) (Hand.sz2 (tbl m)) (Hand.sz3 (tbl m))).toNat = groupN a b c d i := by
  rw [hp.sz0, hp.sz1, hp.sz2, hp.sz3]
  have := group_lt (a := a) (b := b) (c := c) (d := d) i
  exact (congrArg BitVec.toNat (group_W hp.sum (item_lt i))).trans (W_toNat (this.trans (by norm_num)))

/-- The index maps in numbers. -/
theorem Parts.ix_0 (hp : Parts m a b c d) (i : grid0.Coords) : ix0 (tbl m) 0 i = ![tileN a b c d i, 0] :=
  (transform_0_eq (tbl m) i).trans (by rw [hp.tileW])
theorem Parts.ix_1 (hp : Parts m a b c d) (i : grid0.Coords) : ix0 (tbl m) 1 i = ![tileN a b c d i, 0] :=
  (transform_1_eq (tbl m) i).trans (by rw [hp.tileW])
theorem Parts.ix_2 (hp : Parts m a b c d) (i : grid0.Coords) : ix0 (tbl m) 2 i = ![groupN a b c d i, 0, 0] :=
  (transform_2_eq (tbl m) i).trans (by rw [hp.groupW])
theorem Parts.ix_3 (hp : Parts m a b c d) (i : grid0.Coords) : ix0 (tbl m) 3 i = ![groupN a b c d i, 0, 0] :=
  (transform_3_eq (tbl m) i).trans (by rw [hp.groupW])
theorem Parts.ix_4 (hp : Parts m a b c d) (i : grid0.Coords) : ix0 (tbl m) 4 i = ![tileN a b c d i, 0] :=
  (transform_4_eq (tbl m) i).trans (by rw [hp.tileW])

/-- A block of 512 rows of an array of 12288, from a tile's number: inside, and starting at a whole word. -/
theorem rows_ok {n p : ℕ} {f : Fin 2 → ℕ} {T : ℕ} (hf : f = ![T, 0]) (hT : T < 24) (hp : p ∣ 512) :
    ∃ h : (∀ k, (f k + 1) * (⟨2, ![512, n]⟩ : Shape).size k ≤ (⟨2, ![12288, n]⟩ : Shape).size k),
      (Rect.block (s := ⟨2, ![12288, n]⟩) (⟨2, ![512, n]⟩ : Shape).size f h).WholeWords p := by
  subst hf
  have h : ∀ k : Fin 2, ((![T, 0] : Fin 2 → ℕ) k + 1) * (⟨2, ![512, n]⟩ : Shape).size k ≤ (⟨2, ![12288, n]⟩ : Shape).size k := by
    intro k
    match k with
    | 0 => show (T + 1) * 512 ≤ 12288; omega
    | 1 => show (0 + 1) * n ≤ n; omega
  refine ⟨h, .inl (.inr ⟨le_rfl, rfl, .inl ⟨?_, ?_⟩⟩)⟩
  · show p ∣ T * 512; exact Dvd.dvd.mul_left hp T
  · show p ∣ 512; exact hp

/-- A group's block of an array over the groups. -/
theorem groups_ok {r n p : ℕ} {f : Fin 3 → ℕ} {g : ℕ} (hf : f = ![g, 0, 0]) (hg : g < 4) :
    ∃ h : (∀ k, (f k + 1) * (⟨3, ![1, r, n]⟩ : Shape).size k ≤ (⟨3, ![4, r, n]⟩ : Shape).size k),
      (Rect.block (s := ⟨3, ![4, r, n]⟩) (⟨3, ![1, r, n]⟩ : Shape).size f h).WholeWords p := by
  subst hf
  have h : ∀ k : Fin 3, ((![g, 0, 0] : Fin 3 → ℕ) k + 1) * (⟨3, ![1, r, n]⟩ : Shape).size k ≤ (⟨3, ![4, r, n]⟩ : Shape).size k := by
    intro k
    match k with
    | 0 => show (g + 1) * 1 ≤ 4; omega
    | 1 => show (0 + 1) * r ≤ r; omega
    | 2 => show (0 + 1) * n ≤ n; omega
  refine ⟨h, .inr ⟨(by decide : 2 ≤ 3), rfl, ?_, rfl⟩⟩
  show 0 * r = 0; omega

/-- Every window's block lies inside its array. -/
theorem Parts.ok (hp : Parts m a b c d) : Ok m := by
  refine ⟨fun i => ?_, fun i => ?_, fun i => ?_, fun i => ?_, fun i => ?_⟩
  · obtain ⟨h, hw⟩ := rows_ok (n := 2816) (p := 4) (hp.ix_0 i) (hp.tile_lt i) (by decide)
    exact ⟨h, .inr hw⟩
  · obtain ⟨h, hw⟩ := rows_ok (n := 1) (p := 1) (hp.ix_1 i) (hp.tile_lt i) (by decide)
    exact ⟨h, .inl rfl⟩
  · obtain ⟨h, hw⟩ := groups_ok (r := 2816) (n := 5632) (p := 4) (hp.ix_2 i) (group_lt i)
    exact ⟨h, .inr hw⟩
  · obtain ⟨h, hw⟩ := groups_ok (r := 1) (n := 5632) (p := 1) (hp.ix_3 i) (group_lt i)
    exact ⟨h, .inl rfl⟩
  · obtain ⟨h, hw⟩ := rows_ok (n := 5632) (p := 2) (hp.ix_4 i) (hp.tile_lt i) (by decide)
    exact ⟨h, .inr hw⟩

/-- Which grid points are work items, as the body tests it and as the idle points are stated. -/
theorem Parts.cond_iff (hp : Parts m a b c d) (x : Dev nD) (i : grid0.Coords) :
    k0_cond1 i (Hand.rd0 x (tbl m 0)) (Hand.rd1 x (tbl m 0)) (Hand.rd2 x (tbl m 0)) (Hand.rd3 x (tbl m 0)) = 1#1 ↔ Sched.real (i 0).val a b c d := by
  rw [hp.rd0, hp.rd1, hp.rd2, hp.rd3, cond_eq]
  exact real_W hp.sum (item_lt i)

theorem Parts.idle_iff (hp : Parts m a b c d) (i : grid0.Coords) : idle0 (tbl m) 4 i = true ↔ ¬ Sched.real (i 0).val a b c d := by
  show (!(k0_cond1 i ((tbl m).atD 0 ![0]) ((tbl m).atD 0 ![1]) ((tbl m).atD 0 ![2]) ((tbl m).atD 0 ![3]) == 1#1)) = true ↔ _
  rw [hp.atD0, hp.atD1, hp.atD2, hp.atD3, cond_eq, Bool.not_eq_true', beq_eq_false_iff_ne]
  exact not_congr (real_W hp.sum (item_lt i))

/-- The offset of the body's size load is the item's group. -/
theorem Parts.off (hp : Parts m a b c d) (x : Dev nD) (i : grid0.Coords) :
    k0_off1 i (Hand.rd0 x (tbl m 0)) (Hand.rd1 x (tbl m 0)) (Hand.rd2 x (tbl m 0)) (Hand.rd3 x (tbl m 0)) = ![groupN a b c d i] := by
  rw [hp.rd0, hp.rd1, hp.rd2, hp.rd3, off_eq]
  have := group_lt (a := a) (b := b) (c := c) (d := d) i
  exact congrArg (fun n => ![n]) ((congrArg BitVec.toNat (group_W hp.sum (item_lt i))).trans (W_toNat (this.trans (by norm_num))))

/-- The body's size load is inside the table. -/
theorem Parts.chk (hp : Parts m a b c d) (x : Dev nD) (i : grid0.Coords) :
    k0_chk1 i (Hand.rd0 x (tbl m 0)) (Hand.rd1 x (tbl m 0)) (Hand.rd2 x (tbl m 0)) (Hand.rd3 x (tbl m 0)) := by
  intro _ k
  rw [hp.off]
  obtain rfl : k = 0 := Subsingleton.elim _ _
  have := group_lt (a := a) (b := b) (c := c) (d := d) i
  show groupN a b c d i + 1 ≤ 4
  omega

end Cert.Kernel.Hand

end
-- ==== Proof.Kernel.Out.lean ====
/- What the output's buffer holds after each grid point, and the numbers of the item: the body's words in naturals. -/
module

public import proofs.«01_k».proof.Proof.Kernel.Body
public import proofs.«01_k».proof.Proof.Kernel.Table

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Sizes Cert.WordNat

variable {m : (ℓ : Loc nD τ sig) → Buf (Elt F) ℓ} {a b c d : ℕ}

instance (i a b c d : ℕ) : Decidable (Sched.real i a b c d) := inferInstanceAs (Decidable (_ < _))

/-- A point's coordinate is its number. -/
theorem coords_val (t : Fin grid0.N) : ((grid0.coords t) 0).val = t.val := by
  revert t; decide +kernel

/-- The first row of the item's group, as a word. -/
theorem Parts.startW (hp : Parts m a b c d) (x : Dev nD) (i : grid0.Coords) :
    startW i (Hand.rd0 x (tbl m 0)) (Hand.rd1 x (tbl m 0)) (Hand.rd2 x (tbl m 0)) (Hand.rd3 x (tbl m 0)) = W (Sched.st (i 0).val a b c d) := by
  unfold Hand.startW
  rw [hp.rd0, hp.rd1, hp.rd2, hp.rd3, show Words.group (itemW i) (W a) (W b) (W c) (W d) = W (Sched.group (i 0).val a b c d) from group_W hp.sum (item_lt i)]
  exact first_W Sched.group_le

/-- The item's tile's first row, as a word. -/
theorem Parts.rowW (hp : Parts m a b c d) (x : Dev nD) (i : grid0.Coords) :
    Scalar.muli (Words.tile (itemW i) (Hand.rd0 x (tbl m 0)) (Hand.rd1 x (tbl m 0)) (Hand.rd2 x (tbl m 0)) (Hand.rd3 x (tbl m 0))) 512#32 = W (tileN a b c d i * 512) := by
  rw [hp.rd0, hp.rd1, hp.rd2, hp.rd3, show Words.tile (itemW i) (W a) (W b) (W c) (W d) = W (Sched.tile (i 0).val a b c d) from tile_W hp.sum (item_lt i)]
  exact WordCmp.muli_ofNat _ _

theorem Parts.st_le (hp : Parts m a b c d) (i : ℕ) : Sched.st i a b c d ≤ 12288 := by
  have := start_le hp.sum (g := Sched.group i a b c d) Sched.group_le
  exact (Nat.le_add_right _ _).trans this

/-- The item is the tile's first just if its group begins at or before the tile's first row. -/
theorem Parts.fst_iff (hp : Parts m a b c d) (x : Dev nD) (i : grid0.Coords) :
    fstOf i (Hand.rd0 x (tbl m 0)) (Hand.rd1 x (tbl m 0)) (Hand.rd2 x (tbl m 0)) (Hand.rd3 x (tbl m 0)) = 1#1 ↔ Sched.st (i 0).val a b c d ≤ 512 * tileN a b c d i := by
  have h1 := hp.st_le (i 0).val
  have h2 := hp.tile_lt i
  generalize hT : tileN a b c d i = T at *
  unfold fstOf
  rw [hp.startW, hp.rowW, hT]
  have e : Scalar.cmpi .sle (W (Sched.st (i 0).val a b c d)) (W (T * 512)) = BitVec.ofBool (decide (Sched.st (i 0).val a b c d ≤ T * 512)) :=
    WordCmp.cmpi_sle_ofNat (h1.trans_lt (by norm_num)) ((by omega : T * 512 < 12288).trans (by norm_num))
  rw [e, WordCmp.ofBool_decide_eq_one_iff, Nat.mul_comm]

/-- The size of the item's group, as the body loads it. -/
theorem Parts.rdg (hp : Parts m a b c d) (x : Dev nD) (i : grid0.Coords) (hw hc) :
    rdg x (tbl m 0) i hw hc = W (Sched.size a b c d (groupN a b c d i)) := by
  have hg := group_lt (a := a) (b := b) (c := c) (d := d) i
  refine Eq.trans ?_ (hp.at_group ⟨groupN a b c d i, hg⟩)
  refine congrArg (tbl m 0) (eq_gIx ?_)
  show k0_off1 i _ _ _ _ 0 + 1 * 0 = _
  rw [hp.off]
  rfl

/-- A row of the tile lies in the item's group. -/
theorem Parts.mine_iff (hp : Parts m a b c d) (x : Dev nD) (i : grid0.Coords) (hw hc) (z : S512x1.Idx) :
    mineOf i (Hand.rd0 x (tbl m 0)) (Hand.rd1 x (tbl m 0)) (Hand.rd2 x (tbl m 0)) (Hand.rd3 x (tbl m 0)) (Hand.rdg x (tbl m 0) i hw hc) z = 1#1
      ↔ Sched.st (i 0).val a b c d ≤ 512 * tileN a b c d i + (z 0).val ∧ 512 * tileN a b c d i + (z 0).val < Sched.en (i 0).val a b c d := by
  have h1 := hp.st_le (i 0).val
  have h2 := hp.tile_lt i
  have h3 : (z 0).val < 512 := (z 0).isLt
  have h4 : Sched.en (i 0).val a b c d ≤ 12288 := start_le hp.sum (g := Sched.group (i 0).val a b c d) Sched.group_le
  unfold mineOf
  rw [hp.startW, hp.rowW, hp.rdg, addi_W]
  show IntOp.andi (IntOp.cmpi .sge (IntOp.addi (W (tileN a b c d i * 512)) (iota .tc S512x1 32 [0] iota_S512x1_d0_w32 z)) (W (Sched.st (i 0).val a b c d)))
    (IntOp.cmpi .slt (IntOp.addi (W (tileN a b c d i * 512)) (iota .tc S512x1 32 [0] iota_S512x1_d0_w32 z)) (W (Sched.en (i 0).val a b c d))) = 1#1 ↔ _
  have ei : iota .tc S512x1 32 [0] iota_S512x1_d0_w32 z = W (z 0).val := by
    rw [WordCmp.iota_at]
    show W (0 * 512 + (z 0).val) = _
    rw [Nat.zero_mul, Nat.zero_add]
  rw [ei, WordCmp.addi_ofNat]
  generalize tileN a b c d i = T at *
  generalize Sched.st (i 0).val a b c d = S at *
  generalize Sched.en (i 0).val a b c d = E at *
  generalize (z 0).val = r at *
  have hr : T * 512 + r < 2 ^ 31 := (by omega : T * 512 + r < 12288).trans (by norm_num)
  have e1 : IntOp.cmpi .sge (W (T * 512 + r)) (W S) = BitVec.ofBool (decide (S ≤ T * 512 + r)) :=
    WordCmp.cmpi_sge_ofNat hr (h1.trans_lt (by norm_num))
  have e2 : IntOp.cmpi .slt (W (T * 512 + r)) (W E) = BitVec.ofBool (decide (T * 512 + r < E)) :=
    WordCmp.cmpi_slt_ofNat hr (h4.trans_lt (by norm_num))
  rw [e1, e2, WordCmp.andi_ofBool, ← Bool.decide_and, WordCmp.ofBool_decide_eq_one_iff, Nat.mul_comm]

/-- At a tile's first item the buffer's old contents do not matter. -/
theorem bodyOut_fst (mine : IVec S512x1 1) {fst : BitVec 1} (hf : fst = 1#1) (x : Vec F S512x2816 .fp8e4m3) (xs : Vec F S512x1 .f32)
    (w : Vec F S1x2816x5632 .fp8e4m3) (ws : Vec F S1x1x5632 .f32) (old old' : Vec F S512x5632 .bf16) :
    bodyOut mine fst x xs w ws old = bodyOut mine fst x xs w ws old' := by
  subst hf; rfl

/-! ## After each point -/

/-- What the body leaves in the output's buffer at point `t` that finds `old` in it. -/
def stepOut (hp : Parts m a b c d) (x : Dev nD) (t : Fin grid0.N) (old : Vec F S512x5632 .bf16) : Vec F S512x5632 .bf16 :=
  if h : Sched.real ((grid0.coords t) 0).val a b c d then
    itemOut x (grid0.coords t) (iblk m hp.ok x 0 t) (iblk m hp.ok x 1 t) (iblk m hp.ok x 2 t) (iblk m hp.ok x 3 t) old (tbl m 0)
      (hp.chk x _) ((hp.cond_iff x _).2 h)
  else old

/-- What the output's buffer holds after point `n`. -/
def outAt (hp : Parts m a b c d) (x : Dev nD) : (n : ℕ) → n < grid0.N → Vec F S512x5632 .bf16
  | 0, h => stepOut hp x ⟨0, h⟩ (fun _ => Scalar.ofBits .bf16 0#16)
  | n + 1, h => stepOut hp x ⟨n + 1, h⟩ (outAt hp x n (Nat.lt_of_succ_lt h))

theorem stepOut_real (hp : Parts m a b c d) (x : Dev nD) (t : Fin grid0.N) (old : Vec F S512x5632 .bf16)
    (h : Sched.real ((grid0.coords t) 0).val a b c d) :
    stepOut hp x t old = itemOut x (grid0.coords t) (iblk m hp.ok x 0 t) (iblk m hp.ok x 1 t) (iblk m hp.ok x 2 t) (iblk m hp.ok x 3 t) old (tbl m 0)
      (hp.chk x _) ((hp.cond_iff x _).2 h) := dif_pos h

theorem stepOut_idle (hp : Parts m a b c d) (x : Dev nD) (t : Fin grid0.N) (old : Vec F S512x5632 .bf16)
    (h : ¬ Sched.real ((grid0.coords t) 0).val a b c d) : stepOut hp x t old = old := dif_neg h

/-- The old contents do not matter at a tile's first item. -/
theorem stepOut_fst (hp : Parts m a b c d) (x : Dev nD) (t : Fin grid0.N) (old old' : Vec F S512x5632 .bf16)
    (h : Sched.real ((grid0.coords t) 0).val a b c d) (hf : Sched.st ((grid0.coords t) 0).val a b c d ≤ 512 * tileN a b c d (grid0.coords t)) :
    stepOut hp x t old = stepOut hp x t old' := by
  rw [stepOut_real hp x t old h, stepOut_real hp x t old' h]
  exact bodyOut_fst _ ((hp.fst_iff x _).2 hf) _ _ _ _ _ _

end Cert.Kernel.Hand

end
-- ==== Proof.Kernel.Run.lean ====
/- The run of the kernel: the body's obligation at every grid point, and the frame. -/
module

public import proofs.«01_k».proof.Proof.Kernel.Out

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Sizes Cert.WordNat

-- the condition is read through `idle_4` alone
attribute [local irreducible] k0_cond1

variable {m : (ℓ : Loc nD τ sig) → Buf (Elt F) ℓ} {a b c d : ℕ}

/-! ## The pipeline's proof data -/

/-- The arrays as the region finds them; after the body at point `t` each input's buffer at its block, the output's at `outAt`. -/
def dats (hp : Parts m a b c d) (_ : Fin 1) (x : Dev nD) : Dat τ (Elt F) Unit ℕ (UR sig nD τ) ℕ (cfgM m hp.ok) x where
  A w := V m x (Pipeline.arrRef spec0 w)
  after w t := match w with
    | ⟨0, _⟩ => iblk m hp.ok x 0 t
    | ⟨1, _⟩ => iblk m hp.ok x 1 t
    | ⟨2, _⟩ => iblk m hp.ok x 2 t
    | ⟨3, _⟩ => iblk m hp.ok x 3 t
    | ⟨4, _⟩ => outAt hp x t.val t.isLt
  Φ _ := iprop(Pipeline.ΦA spec0 x ∗ Pipeline.ΦT pre0 (tbl m) x)
  q _ := fullShare
  owed _ := 0

theorem A_eq (hp : Parts m a b c d) (x : Dev nD) (w : Fin (cfgM m hp.ok).W) : (dats hp 0 x).A w = V m x (Pipeline.arrRef spec0 w) := by
  dsimp only [dats]

theorem after0_0 (hp : Parts m a b c d) (x : Dev nD) (t : Fin (cfgM m hp.ok).N) : (dats hp 0 x).after 0 t = iblk m hp.ok x 0 t := by dsimp only [dats]; try rfl
theorem after0_1 (hp : Parts m a b c d) (x : Dev nD) (t : Fin (cfgM m hp.ok).N) : (dats hp 0 x).after 1 t = iblk m hp.ok x 1 t := by dsimp only [dats]; try rfl
theorem after0_2 (hp : Parts m a b c d) (x : Dev nD) (t : Fin (cfgM m hp.ok).N) : (dats hp 0 x).after 2 t = iblk m hp.ok x 2 t := by dsimp only [dats]; try rfl
theorem after0_3 (hp : Parts m a b c d) (x : Dev nD) (t : Fin (cfgM m hp.ok).N) : (dats hp 0 x).after 3 t = iblk m hp.ok x 3 t := by dsimp only [dats]; try rfl
theorem after0_4 (hp : Parts m a b c d) (x : Dev nD) (t : Fin (cfgM m hp.ok).N) : (dats hp 0 x).after 4 t = outAt hp x t.val t.isLt := by dsimp only [dats]; try rfl

theorem before0_0 (hp : Parts m a b c d) (x : Dev nD) (t : Fin (cfgM m hp.ok).N) (z) : (dats hp 0 x).before 0 t z = iblk m hp.ok x 0 t :=
  before0_0_of m hp.ok (dats hp 0 x) (A_eq hp x 0) (after0_0 hp x) t z
theorem before0_1 (hp : Parts m a b c d) (x : Dev nD) (t : Fin (cfgM m hp.ok).N) (z) : (dats hp 0 x).before 1 t z = iblk m hp.ok x 1 t :=
  before0_1_of m hp.ok (dats hp 0 x) (A_eq hp x 1) (after0_1 hp x) t z
theorem before0_2 (hp : Parts m a b c d) (x : Dev nD) (t : Fin (cfgM m hp.ok).N) (z) : (dats hp 0 x).before 2 t z = iblk m hp.ok x 2 t :=
  before0_2_of m hp.ok (dats hp 0 x) (A_eq hp x 2) (after0_2 hp x) t z
theorem before0_3 (hp : Parts m a b c d) (x : Dev nD) (t : Fin (cfgM m hp.ok).N) (z) : (dats hp 0 x).before 3 t z = iblk m hp.ok x 3 t :=
  before0_3_of m hp.ok (dats hp 0 x) (A_eq hp x 3) (after0_3 hp x) t z

/-! ## The output's window along the grid -/

theorem index_4 (hp : Parts m a b c d) (t : Fin (cfgM m hp.ok).N) : ((cfgM m hp.ok).win 4).index t = ![Sched.tile t.val a b c d, 0] :=
  (hp.ix_4 (grid0.coords t)).trans (by unfold tileN; rw [coords_val t])

theorem idle_4 (hp : Parts m a b c d) (t : Fin (cfgM m hp.ok).N) : (cfgM m hp.ok).idle 4 ((cfgM m hp.ok).grid.coords t) = true ↔ ¬ Sched.real t.val a b c d :=
  (hp.idle_iff (grid0.coords t)).trans (by rw [coords_val t])

/-- When an output's block is written back. -/
theorem flush_iff {G : Pipeline.Grid} (w : Pipeline.Window sig G) (h : w.isOut = true) (t : Fin G.N) :
    w.flush t = true ↔ (t.val + 1 = G.N ∨ ∃ h : t.val + 1 < G.N, w.index ⟨t.val + 1, h⟩ ≠ w.index t) := by
  unfold Pipeline.Window.flush
  rw [h, Bool.true_and, Bool.or_eq_true, decide_eq_true_iff, decide_eq_true_iff]

/-- The block is written back where the next point has another tile, and at the last point. -/
theorem flush_4 (hp : Parts m a b c d) (t : Fin (cfgM m hp.ok).N) :
    ((cfgM m hp.ok).win 4).flush t = true ↔ (t.val + 1 = 27 ∨ Sched.tile (t.val + 1) a b c d ≠ Sched.tile t.val a b c d) := by
  have hN : (cfgM m hp.ok).grid.N = 27 := N_0
  have ht : t.val < 27 := lt_of_lt_of_eq t.isLt hN
  refine (flush_iff ((cfgM m hp.ok).win 4) rfl t).trans ?_
  constructor
  · rintro (h | ⟨h, h'⟩)
    · exact .inl (h.trans hN)
    · refine .inr fun e => h' ?_
      exact (index_4 hp ⟨t.val + 1, h⟩).trans ((congrArg (fun n => ![n, 0]) e).trans (index_4 hp t).symm)
  · rintro (h | h)
    · exact .inl (h.trans hN.symm)
    · by_cases hl : t.val + 1 = 27
      · exact .inl (hl.trans hN.symm)
      · have hlt : t.val + 1 < (cfgM m hp.ok).grid.N := lt_of_lt_of_eq (by omega : t.val + 1 < 27) hN.symm
        refine .inr ⟨hlt, fun e => h ?_⟩
        exact congrFun ((index_4 hp ⟨t.val + 1, hlt⟩).symm.trans (e.trans (index_4 hp t))) 0

/-- A point whose tile is the point before's finds what that point left. -/
theorem before_same (hp : Parts m a b c d) (x : Dev nD) (z) : ∀ (n : ℕ) (hn : n + 1 < (cfgM m hp.ok).N),
    Sched.tile (n + 1) a b c d = Sched.tile n a b c d → (dats hp 0 x).before 4 ⟨n + 1, hn⟩ z = outAt hp x n (Nat.lt_of_succ_lt hn) := by
  intro n
  induction n with
  | zero =>
    intro hn hT
    rw [Dat.before_of_pos _ _ _ (Nat.succ_ne_zero _) rfl]
    have hf : ((cfgM m hp.ok).win 4).flush ⟨0, Nat.lt_of_succ_lt hn⟩ = false := by
      rw [Bool.eq_false_iff, Ne, flush_4 hp]; push Not; exact ⟨by simp, hT⟩
    have hi : (cfgM m hp.ok).idle 4 ((cfgM m hp.ok).grid.coords ⟨0, Nat.lt_of_succ_lt hn⟩) = false := by
      rw [Bool.eq_false_iff, Ne, idle_4 hp, not_not]; exact Sched.real_zero hp.sum
    refine (if_neg (by rw [show (⟨0 + 1 - 1, _⟩ : Fin (cfgM m hp.ok).N) = ⟨0, Nat.lt_of_succ_lt hn⟩ from rfl, hf]; exact Bool.false_ne_true)).trans ?_
    show Dat.left (dats hp 0 x) 4 ⟨0, Nat.lt_of_succ_lt hn⟩ z = _
    unfold Dat.left
    rw [hi]
    exact after0_4 hp x ⟨0, _⟩
  | succ n ih =>
    intro hn hT
    rw [Dat.before_of_pos _ _ _ (Nat.succ_ne_zero _) rfl]
    have hN : (cfgM m hp.ok).N = 27 := N_0
    have hf : ((cfgM m hp.ok).win 4).flush ⟨n + 1, Nat.lt_of_succ_lt hn⟩ = false := by
      rw [Bool.eq_false_iff, Ne, flush_4 hp]; push Not; exact ⟨by show n + 1 + 1 ≠ 27; omega, hT⟩
    refine (if_neg (by rw [show (⟨n + 1 + 1 - 1, _⟩ : Fin (cfgM m hp.ok).N) = ⟨n + 1, Nat.lt_of_succ_lt hn⟩ from rfl, hf]; exact Bool.false_ne_true)).trans ?_
    show Dat.left (dats hp 0 x) 4 ⟨n + 1, Nat.lt_of_succ_lt hn⟩ z = _
    unfold Dat.left
    by_cases hr : Sched.real (n + 1) a b c d
    · have hi : (cfgM m hp.ok).idle 4 ((cfgM m hp.ok).grid.coords ⟨n + 1, Nat.lt_of_succ_lt hn⟩) = false := by
        rw [Bool.eq_false_iff, Ne, idle_4 hp, not_not]; exact hr
      rw [hi]
      exact after0_4 hp x ⟨n + 1, _⟩
    · have hi : (cfgM m hp.ok).idle 4 ((cfgM m hp.ok).grid.coords ⟨n + 1, Nat.lt_of_succ_lt hn⟩) = true := (idle_4 hp _).2 hr
      rw [hi]
      refine (ih (Nat.lt_of_succ_lt hn) ?_).trans (stepOut_idle hp x ⟨n + 1, _⟩ _ (by rw [coords_val]; exact hr)).symm
      rw [Sched.tile_not_real hp.sum hr]
      by_cases hr' : Sched.real n a b c d
      · exact (Sched.real_last hp.sum hr' hr).1.symm
      · exact (Sched.tile_not_real hp.sum hr').symm

/-- At a work item the body's step from what it finds is `outAt`. -/
theorem step_before (hp : Parts m a b c d) (x : Dev nD) (t : Fin (cfgM m hp.ok).N) (z) (hr : Sched.real t.val a b c d) :
    stepOut hp x t ((dats hp 0 x).before 4 t z) = outAt hp x t.val t.isLt := by
  obtain ⟨n, hn⟩ := t
  cases n with
  | zero => exact stepOut_fst hp x _ _ _ (by rw [coords_val]; exact hr) (by
      unfold tileN; rw [coords_val]; show Sched.st 0 a b c d ≤ _; rw [(Sched.tile_zero hp.sum).2]; exact Nat.zero_le _)
  | succ n =>
    rcases Sched.real_step hp.sum hr with h | h
    · exact congrArg (stepOut hp x ⟨n + 1, hn⟩) (before_same hp x z n hn h.1)
    · exact stepOut_fst hp x _ _ _ (by rw [coords_val]; exact hr) (by unfold tileN; rw [coords_val]; exact h.2.2)

/-- Past the work items the buffer still holds `outAt`. -/
theorem idle_before (hp : Parts m a b c d) (x : Dev nD) (t : Fin (cfgM m hp.ok).N) (z) (hr : ¬ Sched.real t.val a b c d) :
    (dats hp 0 x).before 4 t z = outAt hp x t.val t.isLt := by
  obtain ⟨n, hn⟩ := t
  cases n with
  | zero => exact absurd (Sched.real_zero hp.sum) hr
  | succ n =>
    refine (before_same hp x z n hn ?_).trans (stepOut_idle hp x ⟨n + 1, _⟩ _ (by rw [coords_val]; exact hr)).symm
    rw [Sched.tile_not_real hp.sum hr]
    by_cases hr' : Sched.real n a b c d
    · exact (Sched.real_last hp.sum hr' hr).1.symm
    · exact (Sched.tile_not_real hp.sum hr').symm

/-! ## What the body hands back -/

theorem leaves_0 (hp : Parts m a b c d) (x : Dev nD) (t : Fin (cfgM m hp.ok).N) :
    (dats hp 0 x).leavesExact 0 t = owns (x : Thread nD τ) (ms0_0 m hp.ok t) fullShare (iblk m hp.ok x 0 t) := by
  unfold Dat.leavesExact; rw [show (cfgM m hp.ok).idle 0 ((cfgM m hp.ok).grid.coords t) = false from rfl, after0_0]; rfl

theorem leaves_1 (hp : Parts m a b c d) (x : Dev nD) (t : Fin (cfgM m hp.ok).N) :
    (dats hp 0 x).leavesExact 1 t = owns (x : Thread nD τ) (ms0_1 m hp.ok t) fullShare (iblk m hp.ok x 1 t) := by
  unfold Dat.leavesExact; rw [show (cfgM m hp.ok).idle 1 ((cfgM m hp.ok).grid.coords t) = false from rfl, after0_1]; rfl

theorem leaves_2 (hp : Parts m a b c d) (x : Dev nD) (t : Fin (cfgM m hp.ok).N) :
    (dats hp 0 x).leavesExact 2 t = owns (x : Thread nD τ) (ms0_2 m hp.ok t) fullShare (iblk m hp.ok x 2 t) := by
  unfold Dat.leavesExact; rw [show (cfgM m hp.ok).idle 2 ((cfgM m hp.ok).grid.coords t) = false from rfl, after0_2]; rfl

theorem leaves_3 (hp : Parts m a b c d) (x : Dev nD) (t : Fin (cfgM m hp.ok).N) :
    (dats hp 0 x).leavesExact 3 t = owns (x : Thread nD τ) (ms0_3 m hp.ok t) fullShare (iblk m hp.ok x 3 t) := by
  unfold Dat.leavesExact; rw [show (cfgM m hp.ok).idle 3 ((cfgM m hp.ok).grid.coords t) = false from rfl, after0_3]; rfl

theorem leaves_4_real (hp : Parts m a b c d) (x : Dev nD) (t : Fin (cfgM m hp.ok).N) (hr : Sched.real t.val a b c d) :
    (dats hp 0 x).leavesExact 4 t = owns (x : Thread nD τ) (ms0_4 m hp.ok t) fullShare (outAt hp x t.val t.isLt) := by
  have hi : (cfgM m hp.ok).idle 4 ((cfgM m hp.ok).grid.coords t) = false := by
    rw [Bool.eq_false_iff, Ne, idle_4 hp, not_not]; exact hr
  unfold Dat.leavesExact; rw [hi, after0_4]; rfl

theorem leaves_4_flush (hp : Parts m a b c d) (x : Dev nD) (t : Fin (cfgM m hp.ok).N) (hr : ¬ Sched.real t.val a b c d)
    (hf : ((cfgM m hp.ok).win 4).flush t = true) :
    (dats hp 0 x).leavesExact 4 t = owns (x : Thread nD τ) (ms0_4 m hp.ok t) fullShare (outAt hp x t.val t.isLt) := by
  unfold Dat.leavesExact; rw [(idle_4 hp t).2 hr, hf, after0_4]; rfl

theorem leaves_4_keep (hp : Parts m a b c d) (x : Dev nD) (t : Fin (cfgM m hp.ok).N) (hr : ¬ Sched.real t.val a b c d)
    (hf : ((cfgM m hp.ok).win 4).flush t = false) :
    (dats hp 0 x).leavesExact 4 t = iprop(∃ z, owns (x : Thread nD τ) (ms0_4 m hp.ok t) fullShare ((dats hp 0 x).before 4 t z)) :=
  Dat.leavesExact_idle (dats hp 0 x) 4 t ((idle_4 hp t).2 hr) hf

/-- The body's step from what it finds, at a work item, is what `outAt` says. -/
theorem item_before (hp : Parts m a b c d) (x : Dev nD) (t : Fin (cfgM m hp.ok).N) (z) (hr : Sched.real ((grid0.coords t) 0).val a b c d) :
    outAt hp x t.val t.isLt = itemOut x (grid0.coords t) (iblk m hp.ok x 0 t) (iblk m hp.ok x 1 t) (iblk m hp.ok x 2 t) (iblk m hp.ok x 3 t)
      ((dats hp 0 x).before 4 t z) (tbl m 0) (hp.chk x _) ((hp.cond_iff x _).2 hr) :=
  (step_before hp x t z (by rw [coords_val] at hr; exact hr)).symm.trans (stepOut_real hp x t _ hr)

/-! ## The body's obligation -/

def bodyPre (hp : Parts m a b c d) (x : Dev nD) (t : Fin (cfgM m hp.ok).N) : sProp 𝕄 :=
  iprop((dats hp 0 x).Φ t.castSucc ∗ (dats hp 0 x).owesAt () t.castSucc
    ∗ (∃ z, owns (x : Thread nD τ) (ms0_0 m hp.ok t) fullShare ((dats hp 0 x).before 0 t z))
    ∗ (∃ z, owns (x : Thread nD τ) (ms0_1 m hp.ok t) fullShare ((dats hp 0 x).before 1 t z))
    ∗ (∃ z, owns (x : Thread nD τ) (ms0_2 m hp.ok t) fullShare ((dats hp 0 x).before 2 t z))
    ∗ (∃ z, owns (x : Thread nD τ) (ms0_3 m hp.ok t) fullShare ((dats hp 0 x).before 3 t z))
    ∗ (∃ z, owns (x : Thread nD τ) (ms0_4 m hp.ok t) fullShare ((dats hp 0 x).before 4 t z)))

def bodyPost (hp : Parts m a b c d) (x : Dev nD) (t : Fin (cfgM m hp.ok).N) : sProp 𝕄 :=
  iprop((dats hp 0 x).Φ t.succ ∗ (dats hp 0 x).owesAt () t.succ
    ∗ (dats hp 0 x).leavesExact 0 t
    ∗ (dats hp 0 x).leavesExact 1 t
    ∗ (dats hp 0 x).leavesExact 2 t
    ∗ (dats hp 0 x).leavesExact 3 t
    ∗ (dats hp 0 x).leavesExact 4 t)

set_option maxHeartbeats 1600000 in
/-- The body at a work item. -/
theorem sound_real (hp : Parts m a b c d) (x : Dev nD) (t : Fin (cfgM m hp.ok).N) (hr : Sched.real t.val a b c d) :
    bodyPre hp x t ⊢ wp frame (wpE (defs₀ (F := F)) Variants.none x none) Set.univ (bodyAt0 m hp.ok t) (fun _ => bodyPost hp x t) := by
  have hr' : Sched.real ((grid0.coords t) 0).val a b c d := by rw [coords_val]; exact hr
  unfold bodyPre bodyPost bodyAt0
  simp only [before0_0, before0_1, before0_2, before0_3]
  rw [show (dats hp 0 x).Φ t.succ = (dats hp 0 x).Φ t.castSucc from rfl,
    show (dats hp 0 x).owesAt () t.succ = (dats hp 0 x).owesAt () t.castSucc from rfl,
    leaves_0, leaves_1, leaves_2, leaves_3, leaves_4_real hp x t hr]
  rw [show (dats hp 0 x).Φ t.castSucc = iprop(Pipeline.ΦA spec0 x ∗ Pipeline.ΦT pre0 (tbl m) x) from rfl, PhiT0_eq]
  iintro ⟨⟨HΦ, HT0⟩, Ho, ⟨%d0, H0⟩, ⟨%d1, H1⟩, ⟨%d2, H2⟩, ⟨%d3, H3⟩, ⟨%d4, H4⟩⟩
  rw [item_before hp x t d4 hr']
  iapply (kernelRun_item x (grid0.coords t) _ _ _ _ _ _ _ _ _ _ (iblk m hp.ok x 0 t) (iblk m hp.ok x 1 t) (iblk m hp.ok x 2 t) (iblk m hp.ok x 3 t)
    ((dats hp 0 x).before 4 t d4) (tbl m 0) (hp.chk x _) ((hp.cond_iff x _).2 hr') Set.univ _)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexact H4

set_option maxHeartbeats 1600000 in
/-- The body past the work items, at the last point: the block held is written back. -/
theorem sound_flush (hp : Parts m a b c d) (x : Dev nD) (t : Fin (cfgM m hp.ok).N) (hr : ¬ Sched.real t.val a b c d)
    (hf : ((cfgM m hp.ok).win 4).flush t = true) :
    bodyPre hp x t ⊢ wp frame (wpE (defs₀ (F := F)) Variants.none x none) Set.univ (bodyAt0 m hp.ok t) (fun _ => bodyPost hp x t) := by
  have hr' : ¬ k0_cond1 (grid0.coords t) (rd0 x (tbl m 0)) (rd1 x (tbl m 0)) (rd2 x (tbl m 0)) (rd3 x (tbl m 0)) = 1#1 := by
    rw [hp.cond_iff, coords_val]; exact hr
  unfold bodyPre bodyPost bodyAt0
  simp only [before0_0, before0_1, before0_2, before0_3]
  rw [show (dats hp 0 x).Φ t.succ = (dats hp 0 x).Φ t.castSucc from rfl,
    show (dats hp 0 x).owesAt () t.succ = (dats hp 0 x).owesAt () t.castSucc from rfl,
    leaves_0, leaves_1, leaves_2, leaves_3, leaves_4_flush hp x t hr hf]
  rw [show (dats hp 0 x).Φ t.castSucc = iprop(Pipeline.ΦA spec0 x ∗ Pipeline.ΦT pre0 (tbl m) x) from rfl, PhiT0_eq]
  iintro ⟨⟨HΦ, HT0⟩, Ho, ⟨%d0, H0⟩, ⟨%d1, H1⟩, ⟨%d2, H2⟩, ⟨%d3, H3⟩, ⟨%d4, H4⟩⟩
  rw [← idle_before hp x t d4 hr]
  iapply (kernelRun_idle x (grid0.coords t) _ _ _ _ _ _ _ _ _ _ (iblk m hp.ok x 0 t) (iblk m hp.ok x 1 t) (iblk m hp.ok x 2 t) (iblk m hp.ok x 3 t)
    ((dats hp 0 x).before 4 t d4) (tbl m 0) (hp.chk x _) hr' Set.univ _)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexact H4

set_option maxHeartbeats 1600000 in
/-- The body past the work items, before the last point: the block is kept. -/
theorem sound_keep (hp : Parts m a b c d) (x : Dev nD) (t : Fin (cfgM m hp.ok).N) (hr : ¬ Sched.real t.val a b c d)
    (hf : ((cfgM m hp.ok).win 4).flush t = false) :
    bodyPre hp x t ⊢ wp frame (wpE (defs₀ (F := F)) Variants.none x none) Set.univ (bodyAt0 m hp.ok t) (fun _ => bodyPost hp x t) := by
  have hr' : ¬ k0_cond1 (grid0.coords t) (rd0 x (tbl m 0)) (rd1 x (tbl m 0)) (rd2 x (tbl m 0)) (rd3 x (tbl m 0)) = 1#1 := by
    rw [hp.cond_iff, coords_val]; exact hr
  unfold bodyPre bodyPost bodyAt0
  simp only [before0_0, before0_1, before0_2, before0_3]
  rw [show (dats hp 0 x).Φ t.succ = (dats hp 0 x).Φ t.castSucc from rfl,
    show (dats hp 0 x).owesAt () t.succ = (dats hp 0 x).owesAt () t.castSucc from rfl,
    leaves_0, leaves_1, leaves_2, leaves_3, leaves_4_keep hp x t hr hf]
  rw [show (dats hp 0 x).Φ t.castSucc = iprop(Pipeline.ΦA spec0 x ∗ Pipeline.ΦT pre0 (tbl m) x) from rfl, PhiT0_eq]
  iintro ⟨⟨HΦ, HT0⟩, Ho, ⟨%d0, H0⟩, ⟨%d1, H1⟩, ⟨%d2, H2⟩, ⟨%d3, H3⟩, ⟨%d4, H4⟩⟩
  iapply (kernelRun_idle x (grid0.coords t) _ _ _ _ _ _ _ _ _ _ (iblk m hp.ok x 0 t) (iblk m hp.ok x 1 t) (iblk m hp.ok x 2 t) (iblk m hp.ok x 3 t)
    ((dats hp 0 x).before 4 t d4) (tbl m 0) (hp.chk x _) hr' Set.univ _)
  isplitl [H0]; · iexact H0
  isplitl [H1]; · iexact H1
  isplitl [H2]; · iexact H2
  isplitl [H3]; · iexact H3
  isplitl [H4]; · iexact H4
  isplitl [HT0]; · iexact HT0
  iintro ⟨H0, H1, H2, H3, H4, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  iexists d4; iexact H4

theorem sound_body (hp : Parts m a b c d) (x : Dev nD) (t : Fin (cfgM m hp.ok).N) :
    bodyPre hp x t ⊢ wp frame (wpE (defs₀ (F := F)) Variants.none x none) Set.univ (bodyAt0 m hp.ok t) (fun _ => bodyPost hp x t) := by
  by_cases hr : Sched.real t.val a b c d
  · exact sound_real hp x t hr
  · rcases hf : ((cfgM m hp.ok).win 4).flush t with _ | _
    · exact sound_keep hp x t hr hf
    · exact sound_flush hp x t hr hf

theorem defs₀_row (hp : Parts m a b c d) (t : Fin (cfgM m hp.ok).N) :
    defs₀ (F := F) .tc (cfgM m hp.ok).body ((cfgM m hp.ok).bodyArgs t ((cfgM m hp.ok).slots t)) = bodyAt0 m hp.ok t := by
  unfold defs₀; rw [Defs.onTc_tc]; rfl

set_option maxHeartbeats 1600000 in
theorem body_obligation (hp : Parts m a b c d) (x : Dev nD) : BodyObligation (dats (F := F) hp 0 x) (defs₀ (F := F)) Variants.none () Set.univ := fun t => by
  rw [bigSep_W0, bigSep_W0, defs₀_row hp]
  refine triple_restated (sound_body hp x t) rfl .rfl fun _ => ?_
  unfold bodyPost Dat.leavesExact
  exact .rfl

/-! ## The run -/

variable (ρ : Dev nD → PrngReg)

set_option backward.isDefEq.respectTransparency.types false in
/-- Every run ends, with every array of the pipeline at what its windows' write-backs made it, every other buffer as the region found it, and
    every semaphore at zero. -/
theorem run_main (hp : Parts m a b c d) : θ_run defs (onTc (τ := τ) (main (F := F))) (s₀ m ρ)
    (fun r => Pipeline.FramePost (Pipeline.pin pcfgs fun _ => adm m hp.ok) (dats hp) 0 (V m) r ∧ r.2.sem = fun _ => 0) :=
  Pipeline.θ_run_frameP (Q' := _) pcfgs (fun _ => adm m hp.ok) (dats hp) (0 : Fin 1) launch0 defs₀ Variants.none m ρ main
    (hbody := fun x => (body_obligation hp x).loose) (hshare := fun x => (dats hp 0 x).share_full fun _ => rfl)
    (howed := fun _ _ => rfl) (V := V m) (hmain := hmain m Variants.none) (hA := A_eq hp) (hpf := V_pre m) (hΦ := fun _ _ => rfl)

/-- What a run leaves: the result's array, the arguments unchanged, the semaphores at zero. -/
theorem run_result (hp : Parts m a b c d) : θ_run defs (onTc (τ := τ) (main (F := F))) (s₀ m ρ) (fun r =>
      (∀ x : Dev nD, r.2.mem ((x.tc : Thread nD τ).loc main_v1) = (dats hp 0 x).arrAt 4 (cfgM m hp.ok).N
        ∧ r.2.mem ((x.tc : Thread nD τ).loc main_arg0) = m ((x.tc : Thread nD τ).loc main_arg0)
        ∧ r.2.mem ((x.tc : Thread nD τ).loc main_arg1) = m ((x.tc : Thread nD τ).loc main_arg1)
        ∧ r.2.mem ((x.tc : Thread nD τ).loc main_arg2) = m ((x.tc : Thread nD τ).loc main_arg2)
        ∧ r.2.mem ((x.tc : Thread nD τ).loc main_arg3) = m ((x.tc : Thread nD τ).loc main_arg3)
        ∧ r.2.mem ((x.tc : Thread nD τ).loc main_arg4) = m ((x.tc : Thread nD τ).loc main_arg4))
      ∧ r.2.sem = fun _ => 0) := by
  refine (θ_run defs _ _).mono (fun r h => ⟨fun x => ⟨?_, ?_, ?_, ?_, ?_, ?_⟩, h.2⟩) (run_main ρ hp)
  · exact (h.1 x).1 4
  · exact ((h.1 x).1 0).trans (((dats hp 0 x).arrAt_in 0 rfl _).trans ((A_eq hp x 0).trans (V_main_arg0 m x)))
  · exact ((h.1 x).1 1).trans (((dats hp 0 x).arrAt_in 1 rfl _).trans ((A_eq hp x 1).trans (V_main_arg1 m x)))
  · exact ((h.1 x).2 main_arg2 (by decide : main_arg2 ∈ Pipeline.restRefs sig spec0)).trans (V_main_arg2 m x)
  · exact ((h.1 x).1 2).trans (((dats hp 0 x).arrAt_in 2 rfl _).trans ((A_eq hp x 2).trans (V_main_arg3 m x)))
  · exact ((h.1 x).2 main_arg4 (by decide : main_arg4 ∈ Pipeline.restRefs sig spec0)).trans (V_main_arg4 m x)

end Cert.Kernel.Hand

end
-- ==== Proof.Frames.lean ====
/- The frames of the three programs, and the group sizes that the precondition gives each run of the kernel. -/
module

public import proofs.«01_k».proof.Defs
public import proofs.«01_k».proof.Proof.Gen.ReferenceIdeal.Frame
public import proofs.«01_k».proof.Proof.KernelIdeal.Run
public import proofs.«01_k».proof.Proof.Kernel.Run

@[expose] public section

noncomputable section

namespace Cert.Frames

open Idealize.ShloMosaic Idealize.ShloMosaic.TcCoe Idealize.SL.Sem

/-- The precondition gives the sizes that the kernel's schedule is stated in. -/
theorem parts_kernel (m : (ℓ : Loc Kernel.nD Kernel.τ Kernel.sig) → Buf (Elt Bits) ℓ)
    (h : Pre_Kernel (hPre_sizes_partition := Pre_sizes_partition.Gen.facts) m) :
    ∃ a b c d : ℕ, Kernel.Hand.Parts (F := Bits) m a b c d := by
  obtain ⟨a, b, c, d, hs, h0, h1, h2, h3⟩ := Sizes.of_pre _ _ _ _ _ (h 0)
  exact ⟨a, b, c, d, hs, h0, h1, h2, h3⟩

/-- The precondition gives the sizes that the idealized kernel's schedule is stated in. -/
theorem parts_kernelIdeal (m : (ℓ : Loc KernelIdeal.nD KernelIdeal.τ KernelIdeal.sig) → Buf (Elt Ideal) ℓ)
    (h : Pre_KernelIdeal (hPre_sizes_partition := Pre_sizes_partition.Gen.facts) m) :
    ∃ a b c d : ℕ, KernelIdeal.Hand.Parts (F := Ideal) m a b c d := by
  obtain ⟨a, b, c, d, hs, h0, h1, h2, h3⟩ := Sizes.of_pre _ _ _ _ _ (h 0)
  exact ⟨a, b, c, d, hs, h0, h1, h2, h3⟩

/-- The kernel's frame. -/
theorem kernel : quiescent_Kernel (hKernel := Kernel.Gen.facts) (hPre_sizes_partition := Pre_sizes_partition.Gen.facts) := fun m g h => by
  obtain ⟨a, b, c, d, hp⟩ := parts_kernel m h
  exact (θ_run Kernel.defs _ _).mono (fun r h => ⟨fun x => (h.1 x).2, h.2⟩) (Kernel.Hand.run_result g hp)

/-- The idealized kernel's frame. -/
theorem kernelIdeal : quiescent_KernelIdeal (hKernelIdeal := KernelIdeal.Gen.facts) (hPre_sizes_partition := Pre_sizes_partition.Gen.facts) := fun m g h => by
  obtain ⟨a, b, c, d, hp⟩ := parts_kernelIdeal m h
  exact (θ_run KernelIdeal.defs _ _).mono (fun r h => ⟨fun x => (h.1 x).2, h.2⟩) (KernelIdeal.Hand.run_result g hp)

/-- The idealized reference's frame. -/
theorem referenceIdeal : quiescent_ReferenceIdeal (hReferenceIdeal := ReferenceIdeal.Gen.facts) (hPre_sizes_partition := Pre_sizes_partition.Gen.facts) :=
  fun m g _ => ReferenceIdeal.Gen.frame m g

end Cert.Frames

end
-- ==== Proof.Spec.lean ====
/- What both programs compute: every row of the codes times the weights of the row's group, times the row's scale, times the
   group's scale of the column. -/
module

public import proofs.«01_k».proof.Proof.Sched
public import Idealize.ShloMosaic.PureOps.Ideal.Laws
public import Idealize.ShloMosaic.Lib.ValueIdxCore

@[expose] public section

noncomputable section

namespace Cert.Spec

open Idealize.ShloMosaic Idealize.ShloMosaic.ValueIdx
open scoped BigOperators

/-- The group of row `r`, when the first three groups have `a`, `b` and `c` rows. -/
def rowGroup (a b c r : ℕ) : Fin 4 := if r < a then 0 else if r < a + b then 1 else if r < a + b + c then 2 else 3

/-- Row `r` of the codes against column `q` of group `e`'s weights, scaled. -/
def scaled (x : Vec Ideal ⟨2, ![12288, 2816]⟩ .fp8e4m3) (xs : Vec Ideal ⟨2, ![12288, 1]⟩ .f32)
    (w : Vec Ideal ⟨3, ![4, 2816, 5632]⟩ .fp8e4m3) (ws : Vec Ideal ⟨2, ![4, 5632]⟩ .f32) (e : Fin 4) (r : Fin 12288) (q : Fin 5632) : EReal :=
  (∑ k : Fin 2816, (x (ix2 r k) : EReal) * (w (ix3 e k q) : EReal)) * (xs (ix2 r 0) : EReal) * (ws (ix2 e q) : EReal)

/-- The result: each row with the weights of its group. -/
def grouped (a b c : ℕ) (x : Vec Ideal ⟨2, ![12288, 2816]⟩ .fp8e4m3) (xs : Vec Ideal ⟨2, ![12288, 1]⟩ .f32)
    (w : Vec Ideal ⟨3, ![4, 2816, 5632]⟩ .fp8e4m3) (ws : Vec Ideal ⟨2, ![4, 5632]⟩ .f32) : Vec Ideal ⟨2, ![12288, 5632]⟩ .bf16 :=
  fun y => scaled x xs w ws (rowGroup a b c (y 0).val) (y 0) (y 1)

/-- A row that a work item's group holds belongs to that group. -/
theorem rowGroup_eq {i a b c d r : ℕ} (h1 : Sched.st i a b c d ≤ r) (h2 : r < Sched.en i a b c d) :
    (rowGroup a b c r).val = Sched.group i a b c d := by
  have hg := Sched.group_le (i := i) (a := a) (b := b) (c := c) (d := d)
  unfold Sched.en at h2
  unfold Sched.st at h1
  generalize Sched.group i a b c d = g at *
  have : g = 0 ∨ g = 1 ∨ g = 2 ∨ g = 3 := by omega
  rcases this with rfl | rfl | rfl | rfl
  · rw [Sched.start_0] at h1 h2; rw [Sched.size_0] at h2
    unfold rowGroup; rw [if_pos (by omega)]; rfl
  · rw [Sched.start_1] at h1 h2; rw [Sched.size_1] at h2
    unfold rowGroup; rw [if_neg (by omega), if_pos (by omega)]; rfl
  · rw [Sched.start_2] at h1 h2; rw [Sched.size_2] at h2
    unfold rowGroup; rw [if_neg (by omega), if_neg (by omega), if_pos (by omega)]; rfl
  · rw [Sched.start_3] at h1 h2; rw [Sched.size_3] at h2
    unfold rowGroup; rw [if_neg (by omega), if_neg (by omega), if_neg (by omega)]; rfl

end Cert.Spec

end
-- ==== Proof.Layout.lean ====
/- Layout operations and matrix products read at an index given by coordinates. -/
module

public import Idealize.ShloMosaic.Lib.ValueLayout
public import Idealize.ShloMosaic.Lib.MatmulPlain
public import Idealize.ShloMosaic.PureOps.Ideal.Laws

@[expose] public section

noncomputable section

namespace Cert.Layout

open Idealize.ShloMosaic Idealize.ShloMosaic.ValueIdx
open scoped BigOperators

variable {α : Type}

/-- One column broadcast over many: at `(r, q)` the operand's one column at `r`. -/
theorem broadcastTo_col {a b : ℕ} (v : (⟨2, ![a, 1]⟩ : Shape).Idx → α) (h : (⟨2, ![a, 1]⟩ : Shape).Broadcasts ⟨2, ![a, b]⟩)
    (r : Fin a) (q : Fin b) : broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

/-- A matrix given a unit axis between its two: at `(g, u, q)` the operand at `(g, q)`. -/
theorem shapeCast_mid {a b : ℕ} (x : (⟨2, ![a, b]⟩ : Shape).Idx → α) (h : (⟨2, ![a, b]⟩ : Shape).ShapeCasts ⟨3, ![a, 1, b]⟩)
    (g : Fin a) (u : Fin 1) (q : Fin b) : shapeCast ⟨3, ![a, 1, b]⟩ x h (ix3 g u q) = x (ix2 g q) :=
  shapeCast_apply x h _ _ (by
    have hu : u.val = 0 := by omega
    rw [Shape.rowMajor_val_three, Shape.rowMajor_val_two]
    show g.val * b + q.val = (g.val * 1 + u.val) * b + q.val
    rw [hu, Nat.mul_one, Nat.add_zero])

/-- A product onto zero. -/
theorem matmul_zero {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, (lhs (ix2 r k) : EReal) * (rhs (ix2 k c) : EReal) := by
  rw [Ideal.matmul_plain_apply]
  show Ideal.ofBits .f32 0x00000000#32 + _ = _
  rw [Ideal.ofBits_zero_f32, zero_add]

end Cert.Layout

end
-- ==== Proof.KernelIdeal.Chunk.lean ====
/- One element of what the body leaves, at the ideal instance: the row's scaled product with the group's weights where the row is
   of the group, else zero at a tile's first item and the old element at a later one. -/
module

public import proofs.«01_k».proof.Proof.KernelIdeal.Body
public import proofs.«01_k».proof.Proof.Layout

@[expose] public section

noncomputable section

namespace Cert.KernelIdeal.Hand

open Idealize.ShloMosaic Idealize.ShloMosaic.ValueIdx
open Cert.KernelIdeal.Gen
open scoped BigOperators

/-- An element of one column chunk, at a row of the group. -/
theorem chunk_mine (mine : IVec S512x1 1) (fst : BitVec 1) (x : Vec Ideal S512x2816 .fp8e4m3) (xs : Vec Ideal S512x1 .f32)
    (w : Vec Ideal S1x2816x512 .fp8e4m3) (ws : Vec Ideal S1x1x512 .f32) (old : Vec Ideal S512x512 .bf16) (r q : Fin 512)
    (h : mine (ix2 r (0 : Fin 1)) = 1#1) :
    chunkOf mine fst x xs w ws old (ix2 r q)
      = (∑ k : Fin 2816, (x (ix2 r k) : EReal) * (w (ix3 (0 : Fin 1) k q) : EReal)) * (xs (ix2 r (0 : Fin 1)) : EReal) * (ws (ix3 (0 : Fin 1) (0 : Fin 1) q) : EReal) := by
  unfold chunkOf k0_pay1
  rw [select_apply, Layout.broadcastTo_col, shapeCast_self, h]
  refine Eq.trans (if_pos rfl) ?_
  show (FloatOps.matmul (DotDims.plain 512 2816 512) none x _ (constant (F := Ideal) S512x512 .f32 0x00000000#32) (ix2 r q) : EReal)
    * broadcastTo S512x512 xs _ (ix2 r q) * broadcastTo S512x512 _ _ (ix2 r q) = _
  rw [Layout.matmul_zero, Layout.broadcastTo_col, broadcastTo_1b_ab_apply, shapeCast_1ab_ab_apply]
  congr 2
  refine Finset.sum_congr rfl fun k _ => ?_
  rw [shapeCast_1ab_ab_apply]

/-- An element of one column chunk, at a row that is not of the group and an item that is not its tile's first. -/
theorem chunk_old (mine : IVec S512x1 1) (fst : BitVec 1) (x : Vec Ideal S512x2816 .fp8e4m3) (xs : Vec Ideal S512x1 .f32)
    (w : Vec Ideal S1x2816x512 .fp8e4m3) (ws : Vec Ideal S1x1x512 .f32) (old : Vec Ideal S512x512 .bf16) (r q : Fin 512)
    (h : mine (ix2 r (0 : Fin 1)) ≠ 1#1) (hf : fst ≠ 1#1) :
    chunkOf mine fst x xs w ws old (ix2 r q) = old (ix2 r q) := by
  unfold chunkOf k0_pay1
  rw [select_apply, Layout.broadcastTo_col, shapeCast_self]
  refine Eq.trans (if_neg h) ?_
  rw [shapeCast_self]
  exact congrFun (if_neg hf) _

/-- The column of chunk `chIx y` at `inIx y`. -/
theorem ch_in (y : S512x5632.Idx) : 512 * (chIx y).val + ((y 1).val % 512) = (y 1).val := by
  show 512 * ((y 1).val / 512) + (y 1).val % 512 = _
  omega

theorem inIx_eq (y : S512x5632.Idx) : inIx y = ix2 (y 0) (⟨(y 1).val % 512, Nat.mod_lt _ (by decide)⟩ : Fin 512) := eq_ix2 _

/-- An element of the block the body leaves, at a row of the group. -/
theorem bodyOut_mine (mine : IVec S512x1 1) (fst : BitVec 1) (x : Vec Ideal S512x2816 .fp8e4m3) (xs : Vec Ideal S512x1 .f32)
    (w : Vec Ideal S1x2816x5632 .fp8e4m3) (ws : Vec Ideal S1x1x5632 .f32) (old : Vec Ideal S512x5632 .bf16) (r : Fin 512) (q : Fin 5632)
    (h : mine (ix2 r (0 : Fin 1)) = 1#1) :
    bodyOut mine fst x xs w ws old (ix2 r q)
      = (∑ k : Fin 2816, (x (ix2 r k) : EReal) * (w (ix3 (0 : Fin 1) k q) : EReal)) * (xs (ix2 r (0 : Fin 1)) : EReal) * (ws (ix3 (0 : Fin 1) (0 : Fin 1) q) : EReal) := by
  have hq := ch_in (ix2 r q)
  unfold bodyOut
  rw [inIx_eq]
  refine (chunk_mine _ _ _ _ _ _ _ r _ h).trans ?_
  have ew : ∀ k : Fin 2816, colW (chIx (ix2 r q)) w (ix3 (0 : Fin 1) k ⟨q.val % 512, Nat.mod_lt _ (by decide)⟩) = w (ix3 (0 : Fin 1) k q) := fun k => by
    unfold colW
    congr 1; funext a; apply Fin.ext
    match a with
    | ⟨0, _⟩ => rfl
    | ⟨1, _⟩ => rfl
    | ⟨2, _⟩ => exact hq
  have es : colS (chIx (ix2 r q)) ws (ix3 (0 : Fin 1) (0 : Fin 1) ⟨q.val % 512, Nat.mod_lt _ (by decide)⟩) = ws (ix3 (0 : Fin 1) (0 : Fin 1) q) := by
    unfold colS
    congr 1; funext a; apply Fin.ext
    match a with
    | ⟨0, _⟩ => rfl
    | ⟨1, _⟩ => rfl
    | ⟨2, _⟩ => exact hq
  refine congrArg₂ (fun (u v : EReal) => u * v) (congrArg (fun u : EReal => u * (xs (ix2 r (0 : Fin 1)) : EReal)) (Finset.sum_congr rfl fun k _ => ?_)) es
  exact congrArg (fun u : EReal => (x (ix2 r k) : EReal) * u) (ew k)

/-- An element of the block the body leaves, at a row that is not of the group and an item that is not its tile's first. -/
theorem bodyOut_old (mine : IVec S512x1 1) (fst : BitVec 1) (x : Vec Ideal S512x2816 .fp8e4m3) (xs : Vec Ideal S512x1 .f32)
    (w : Vec Ideal S1x2816x5632 .fp8e4m3) (ws : Vec Ideal S1x1x5632 .f32) (old : Vec Ideal S512x5632 .bf16) (r : Fin 512) (q : Fin 5632)
    (h : mine (ix2 r (0 : Fin 1)) ≠ 1#1) (hf : fst ≠ 1#1) :
    bodyOut mine fst x xs w ws old (ix2 r q) = old (ix2 r q) := by
  have hq := ch_in (ix2 r q)
  unfold bodyOut
  rw [inIx_eq]
  refine (chunk_old _ _ _ _ _ _ _ r _ h hf).trans ?_
  unfold colO
  congr 1; funext a; apply Fin.ext
  match a with
  | ⟨0, _⟩ => rfl
  | ⟨1, _⟩ => exact hq

end Cert.KernelIdeal.Hand

end
-- ==== Proof.KernelIdeal.Blocks.lean ====
/- The blocks of the arrays that a grid point works on, element by element. -/
module

public import proofs.«01_k».proof.Proof.KernelIdeal.Out
public import proofs.«01_k».proof.Proof.Layout
public import Idealize.ShloMosaic.Lib.Pipeline.ValueKit.Geometry

@[expose] public section

noncomputable section

namespace Cert.KernelIdeal.Hand

open Idealize.ShloMosaic Idealize.ShloMosaic.TcCoe Idealize.ShloMosaic.ValueIdx
open Cert.KernelIdeal.Gen

attribute [local irreducible] k0_cond1

variable {F : FTy → Type} [FloatOps F]
variable {m : (ℓ : Loc nD τ sig) → Buf (Elt F) ℓ} {a b c d : ℕ}

/-- The block of codes: rows `512 T` on, `T` the point's tile. -/
theorem iblk_0 (hp : Parts m a b c d) (x : Dev nD) (t : Fin grid0.N) (r : Fin 512) (k : Fin 2816) (r' : Fin 12288)
    (h : r'.val = 512 * tileN a b c d (grid0.coords t) + r.val) :
    iblk m hp.ok x 0 t (ix2 r k) = (m (x.tc.loc main_arg0) : S12288x2816.Idx → Elt F .fp8e4m3) (ix2 r' k) := by
  have e := hp.ix_0 (grid0.coords t)
  unfold iblk
  blk_simp
  refine (congrFun (V_main_arg0 m x) _).trans (congrArg (m (x.tc.loc main_arg0)) (funext fun ax => Fin.ext ?_))
  match ax with
  | ⟨0, _⟩ =>
    show ix0 (tbl m) 0 (grid0.coords t) 0 * 512 + 1 * r.val = r'.val
    rw [e, h, Nat.one_mul]; show tileN a b c d (grid0.coords t) * 512 + r.val = _; rw [Nat.mul_comm]
  | ⟨1, _⟩ =>
    show ix0 (tbl m) 0 (grid0.coords t) 1 * 2816 + 1 * k.val = k.val
    rw [e, Nat.one_mul]; show 0 * 2816 + k.val = _; rw [Nat.zero_mul, Nat.zero_add]

/-- The block of the rows' scales. -/
theorem iblk_1 (hp : Parts m a b c d) (x : Dev nD) (t : Fin grid0.N) (r : Fin 512) (r' : Fin 12288)
    (h : r'.val = 512 * tileN a b c d (grid0.coords t) + r.val) :
    iblk m hp.ok x 1 t (ix2 r (0 : Fin 1)) = (m (x.tc.loc main_arg1) : S12288x1.Idx → Elt F .f32) (ix2 r' (0 : Fin 1)) := by
  have e := hp.ix_1 (grid0.coords t)
  unfold iblk
  blk_simp
  refine (congrFun (V_main_arg1 m x) _).trans (congrArg (m (x.tc.loc main_arg1)) (funext fun ax => Fin.ext ?_))
  match ax with
  | ⟨0, _⟩ =>
    show ix0 (tbl m) 1 (grid0.coords t) 0 * 512 + 1 * r.val = r'.val
    rw [e, h, Nat.one_mul]; show tileN a b c d (grid0.coords t) * 512 + r.val = _; rw [Nat.mul_comm]
  | ⟨1, _⟩ =>
    show ix0 (tbl m) 1 (grid0.coords t) 1 * 1 + 1 * 0 = 0
    rw [e]; rfl

/-- The block of weights: the matrix of the point's group. -/
theorem iblk_2 (hp : Parts m a b c d) (x : Dev nD) (t : Fin grid0.N) (k : Fin 2816) (q : Fin 5632) (g : Fin 4)
    (h : g.val = groupN a b c d (grid0.coords t)) :
    iblk m hp.ok x 2 t (ix3 (0 : Fin 1) k q) = (m (x.tc.loc main_arg3) : S4x2816x5632.Idx → Elt F .fp8e4m3) (ix3 g k q) := by
  have e := hp.ix_2 (grid0.coords t)
  unfold iblk
  blk_simp
  refine (congrFun (V_main_arg3 m x) _).trans (congrArg (m (x.tc.loc main_arg3)) (funext fun ax => Fin.ext ?_))
  match ax with
  | ⟨0, _⟩ =>
    show ix0 (tbl m) 2 (grid0.coords t) 0 * 1 + 1 * 0 = g.val
    rw [e, h]; show groupN a b c d (grid0.coords t) * 1 + 1 * 0 = _; omega
  | ⟨1, _⟩ =>
    show ix0 (tbl m) 2 (grid0.coords t) 1 * 2816 + 1 * k.val = k.val
    rw [e, Nat.one_mul]; show 0 * 2816 + k.val = _; rw [Nat.zero_mul, Nat.zero_add]
  | ⟨2, _⟩ =>
    show ix0 (tbl m) 2 (grid0.coords t) 2 * 5632 + 1 * q.val = q.val
    rw [e, Nat.one_mul]; show 0 * 5632 + q.val = _; rw [Nat.zero_mul, Nat.zero_add]

/-- The weights' scales as the host lays them out. -/
theorem V_main_v0 (x : Dev nD) (g : Fin 4) (u : Fin 1) (q : Fin 5632) :
    (V m x main_v0 : S4x1x5632.Idx → Elt F .f32) (ix3 g u q) = (m (x.tc.loc main_arg4) : S4x5632.Idx → Elt F .f32) (ix2 g q) := by
  have e : V m x main_v0 = shapeCast S4x1x5632 (m (x.tc.loc main_arg4) : S4x5632.Idx → Elt F .f32) shapeCasts_S4x5632_S4x1x5632 := rfl
  rw [e]
  exact Layout.shapeCast_mid _ _ g u q

/-- The block of the weights' scales: the row of the point's group. -/
theorem iblk_3 (hp : Parts m a b c d) (x : Dev nD) (t : Fin grid0.N) (q : Fin 5632) (g : Fin 4)
    (h : g.val = groupN a b c d (grid0.coords t)) :
    iblk m hp.ok x 3 t (ix3 (0 : Fin 1) (0 : Fin 1) q) = (m (x.tc.loc main_arg4) : S4x5632.Idx → Elt F .f32) (ix2 g q) := by
  have e := hp.ix_3 (grid0.coords t)
  refine Eq.trans ?_ (V_main_v0 x g 0 q)
  unfold iblk
  blk_simp
  refine congrArg (V m x main_v0) (funext fun ax => Fin.ext ?_)
  match ax with
  | ⟨0, _⟩ =>
    show ix0 (tbl m) 3 (grid0.coords t) 0 * 1 + 1 * 0 = g.val
    rw [e, h]; show groupN a b c d (grid0.coords t) * 1 + 1 * 0 = _; omega
  | ⟨1, _⟩ =>
    show ix0 (tbl m) 3 (grid0.coords t) 1 * 1 + 1 * 0 = 0
    rw [e]; rfl
  | ⟨2, _⟩ =>
    show ix0 (tbl m) 3 (grid0.coords t) 2 * 5632 + 1 * q.val = q.val
    rw [e, Nat.one_mul]; show 0 * 5632 + q.val = _; rw [Nat.zero_mul, Nat.zero_add]

end Cert.KernelIdeal.Hand

end
-- ==== Proof.KernelIdeal.Value.lean ====
/- What the idealized kernel computes: after its run the output array holds, at every row, the row's scaled product with the weights
   of the row's group. A tile's block is written row by row as the groups that meet the tile come, and each write-back comes after
   the last of them. -/
module

public import proofs.«01_k».proof.Proof.Spec
public import proofs.«01_k».proof.Proof.KernelIdeal.Chunk
public import proofs.«01_k».proof.Proof.KernelIdeal.Blocks
public import proofs.«01_k».proof.Proof.KernelIdeal.Run

@[expose] public section

noncomputable section

namespace Cert.KernelIdeal.Hand

open Idealize.ShloMosaic Idealize.ShloMosaic.TcCoe Idealize.ShloMosaic.ValueIdx
open Idealize.ShloMosaic.Pipeline (Dat Cfg Window)
open Cert.KernelIdeal.Gen
open scoped BigOperators

attribute [local irreducible] k0_cond1

variable {m : (ℓ : Loc nD τ sig) → Buf (Elt Ideal) ℓ} {a b c d : ℕ}

/-- The result as a function of the argument arrays. -/
def goal (m : (ℓ : Loc nD τ sig) → Buf (Elt Ideal) ℓ) (a b c : ℕ) (x : Dev nD) : S12288x5632.Idx → EReal :=
  Spec.grouped a b c (m (x.tc.loc main_arg0)) (m (x.tc.loc main_arg1)) (m (x.tc.loc main_arg3)) (m (x.tc.loc main_arg4))

/-- At a work item, a row of the item's group gets its result. -/
theorem step_mine (hp : Parts m a b c d) (x : Dev nD) (t : Fin grid0.N) (old : Vec Ideal S512x5632 .bf16) (r : Fin 512) (q : Fin 5632)
    (r' : Fin 12288) (hr : Sched.real t.val a b c d) (h : r'.val = 512 * Sched.tile t.val a b c d + r.val)
    (h1 : Sched.st t.val a b c d ≤ r'.val) (h2 : r'.val < Sched.en t.val a b c d) :
    stepOut hp x t old (ix2 r q) = goal m a b c x (ix2 r' q) := by
  have hc := coords_val t
  have hT : r'.val = 512 * tileN a b c d (grid0.coords t) + r.val := by unfold tileN; rw [hc]; exact h
  have hG : (Spec.rowGroup a b c r'.val).val = groupN a b c d (grid0.coords t) := by
    unfold groupN; rw [hc]; exact Spec.rowGroup_eq h1 h2
  rw [stepOut_real hp x t old (by rw [hc]; exact hr)]
  unfold itemOut
  refine (bodyOut_mine _ _ _ _ _ _ _ r q ((hp.mine_iff x _ _ _ _).2 ?_)).trans ?_
  · show Sched.st _ a b c d ≤ 512 * tileN a b c d (grid0.coords t) + r.val ∧ 512 * tileN a b c d (grid0.coords t) + r.val < Sched.en _ a b c d
    rw [← hT, hc]; exact ⟨h1, h2⟩
  · unfold goal Spec.grouped Spec.scaled
    refine congrArg₂ (fun (u v : EReal) => u * v) (congrArg₂ (fun (u v : EReal) => u * v) (Finset.sum_congr rfl fun k _ => ?_) (iblk_1 hp x t r r' hT)) (iblk_3 hp x t q _ hG)
    exact congrArg₂ (fun (u v : EReal) => u * v) (iblk_0 hp x t r k r' hT) (iblk_2 hp x t k q _ hG)

/-- At a work item that is not its tile's first, a row before the item's group keeps what it held. -/
theorem step_old (hp : Parts m a b c d) (x : Dev nD) (t : Fin grid0.N) (old : Vec Ideal S512x5632 .bf16) (r : Fin 512) (q : Fin 5632)
    (hr : Sched.real t.val a b c d) (h1 : 512 * Sched.tile t.val a b c d + r.val < Sched.st t.val a b c d)
    (h2 : 512 * Sched.tile t.val a b c d < Sched.st t.val a b c d) :
    stepOut hp x t old (ix2 r q) = old (ix2 r q) := by
  have hc := coords_val t
  rw [stepOut_real hp x t old (by rw [hc]; exact hr)]
  unfold itemOut
  refine bodyOut_old _ _ _ _ _ _ _ r q (fun e => ?_) (fun e => ?_)
  · have := ((hp.mine_iff x _ _ _ _).1 e).1
    unfold tileN at this
    rw [hc] at this
    exact absurd this (Nat.not_le.2 h1)
  · have := (hp.fst_iff x _).1 e
    unfold tileN at this
    rw [hc] at this
    exact absurd this (Nat.not_le.2 h2)

/-- After each point, the rows of its tile up to the end of its group hold their results; after the last work item, all of them. -/
theorem outAt_eq (hp : Parts m a b c d) (x : Dev nD) : ∀ (n : ℕ) (hn : n < grid0.N) (r : Fin 512) (q : Fin 5632) (r' : Fin 12288),
    r'.val = 512 * Sched.tile n a b c d + r.val → (Sched.real n a b c d → r'.val < Sched.en n a b c d) →
    outAt hp x n hn (ix2 r q) = goal m a b c x (ix2 r' q) := by
  intro n
  induction n with
  | zero =>
    intro hn r q r' h he
    have hr := Sched.real_zero hp.sum
    exact step_mine hp x ⟨0, hn⟩ _ r q r' hr h (by rw [(Sched.tile_zero hp.sum).2]; exact Nat.zero_le _) (he hr)
  | succ n ih =>
    intro hn r q r' h he
    by_cases hr : Sched.real (n + 1) a b c d
    · by_cases hs : Sched.st (n + 1) a b c d ≤ r'.val
      · exact step_mine hp x ⟨n + 1, hn⟩ _ r q r' hr h hs (he hr)
      · rcases Sched.real_step hp.sum hr with ⟨e1, e2, e3⟩ | ⟨e1, e2, e3⟩
        · have k1 : 512 * Sched.tile (n + 1) a b c d + r.val < Sched.st (n + 1) a b c d := by omega
          have k2 : 512 * Sched.tile (n + 1) a b c d < Sched.st (n + 1) a b c d := by omega
          refine (step_old hp x ⟨n + 1, hn⟩ _ r q hr k1 k2).trans ?_
          exact ih _ r q r' (by omega) (fun _ => by omega)
        · omega
    · have e := Sched.tile_not_real hp.sum hr
      refine (congrFun (stepOut_idle hp x ⟨n + 1, hn⟩ _ (by rw [coords_val]; exact hr)) _).trans ?_
      by_cases hn' : Sched.real n a b c d
      · obtain ⟨e1, e2⟩ := Sched.real_last hp.sum hn' hr
        exact ih _ r q r' (by omega) (fun _ => by have := r'.isLt; omega)
      · have e1 := Sched.tile_not_real hp.sum hn'
        exact ih _ r q r' (by omega) (fun h => absurd h hn')

/-- Where a block is written back, its group reaches its tile's end. -/
theorem flush_en (hp : Parts m a b c d) (t : Fin (cfgM m hp.ok).N) (hf : ((cfgM m hp.ok).win 4).flush t = true) (hr : Sched.real t.val a b c d) :
    512 * (Sched.tile t.val a b c d + 1) ≤ Sched.en t.val a b c d := by
  by_cases hn : Sched.real (t.val + 1) a b c d
  · rcases Sched.real_step hp.sum hn with ⟨e1, _, _⟩ | ⟨_, e2, _⟩
    · rcases (flush_4 hp t).1 hf with h | h
      · have := Sched.be4_le hp.sum
        unfold Sched.real at hn
        omega
      · exact absurd e1 h
    · exact e2
  · obtain ⟨e1, e2⟩ := Sched.real_last hp.sum hr hn
    omega

/-- The output array after the run. -/
theorem final (hp : Parts m a b c d) (x : Dev nD) : (dats hp 0 x).arrAt 4 (cfgM m hp.ok).N = goal m a b c x := by
  have hemb : ∀ (t : Fin (cfgM m hp.ok).N) (r : Fin 512) (q : Fin 5632) (r' : Fin 12288), r'.val = 512 * Sched.tile t.val a b c d + r.val →
      (((cfgM m hp.ok).win 4).blk t).view.emb (ix2 r q) = ix2 r' q := fun t r q r' h => by
    have e := hp.ix_4 (grid0.coords t)
    unfold tileN at e
    rw [coords_val] at e
    refine funext fun ax => Fin.ext ?_
    match ax with
    | ⟨0, _⟩ =>
      show ix0 (tbl m) 4 (grid0.coords t) 0 * 512 + 1 * r.val = r'.val
      rw [e, h, Nat.one_mul]; show Sched.tile t.val a b c d * 512 + r.val = _; rw [Nat.mul_comm]
    | ⟨1, _⟩ =>
      show ix0 (tbl m) 4 (grid0.coords t) 1 * 5632 + 1 * q.val = q.val
      rw [e, Nat.one_mul]; show 0 * 5632 + q.val = _; rw [Nat.zero_mul, Nat.zero_add]
  refine Dat.arrAt_eq_of_emb (dats hp 0 x) 4 (goal m a b c x) (fun t hf (y : S512x5632.Idx) => ?_) (fun (i : S12288x5632.Idx) => ?_)
  · obtain ⟨r, q, rfl⟩ : ∃ (r : Fin 512) (q : Fin 5632), y = ix2 r q := ⟨y 0, y 1, eq_ix2 _⟩
    have hT := Sched.tile_le hp.sum (i := t.val)
    have hlt : 512 * Sched.tile t.val a b c d + r.val < 12288 := by have := r.isLt; omega
    refine Eq.trans ?_ ((outAt_eq hp x t.val t.isLt r q ⟨_, hlt⟩ rfl fun hr => ?_).trans (congrArg (goal m a b c x) (hemb t r q ⟨_, hlt⟩ rfl).symm))
    · exact congrFun (after0_4 hp x t) _
    · have := flush_en hp t hf hr
      have := r.isLt
      show 512 * Sched.tile t.val a b c d + r.val < _
      omega
  · have h0 : (i 0).val < 12288 := (i 0).isLt
    obtain ⟨n, hn, hT, hl⟩ := Sched.tile_last hp.sum ((i 0).val / 512) (by omega)
    have hN : n < (cfgM m hp.ok).N := lt_of_lt_of_eq (by omega : n < 27) (by decide +kernel : (27 : ℕ) = grid0.N)
    refine ⟨⟨n, hN⟩, (flush_4 hp _).2 (hl.imp (fun h => by show n + 1 = 27; omega) fun h => by rw [hT]; exact h), ?_⟩
    have e := hemb ⟨n, hN⟩ ⟨(i 0).val % 512, Nat.mod_lt _ (by decide)⟩ (i 1) (i 0)
      (by show (i 0).val = 512 * Sched.tile n a b c d + (i 0).val % 512; rw [hT]; omega)
    have ei : i = ix2 (i 0) (i 1) := eq_ix2 _
    have hm := View.emb_mem_set (((cfgM m hp.ok).win 4).blk ⟨n, hN⟩).view (ix2 (⟨(i 0).val % 512, Nat.mod_lt _ (by decide)⟩ : Fin 512) (i 1 : Fin 5632))
    exact Eq.subst (motive := fun z => z ∈ (((cfgM m hp.ok).win 4).blk ⟨n, hN⟩).view.set) (e.trans ei.symm) hm

end Cert.KernelIdeal.Hand

end
-- ==== Proof.ReferenceIdeal.Pays.lean ====
/- The reference's values at one element, at the ideal instance: which group a row falls in, the row's product with its group's
   weights, and the two scales. -/
module

public import proofs.«01_k».proof.Proof.Gen.ReferenceIdeal.Skeleton
public import proofs.«01_k».proof.Proof.Spec
public import proofs.«01_k».proof.Proof.WordNat
public import proofs.«01_k».proof.Proof.Layout
public import Idealize.ShloMosaic.Lib.WordCmp

@[expose] public section

noncomputable section

namespace Cert.ReferenceIdeal.Hand

open Idealize.ShloMosaic Idealize.ShloMosaic.ValueIdx
open Cert.ReferenceIdeal.Gen Cert.WordNat
open scoped BigOperators

/-- The rows' numbers. -/
def rows : IVec S12288x1 32 := iota .tc S12288x1 32 [0] iota_S12288x1_d0_w32

theorem rows_at (r : Fin 12288) : rows (ix2 r (0 : Fin 1)) = W r.val := by
  unfold rows
  rw [WordCmp.iota_at]
  show W (0 * 12288 + r.val) = _
  rw [Nat.zero_mul, Nat.zero_add]

/-- The rows that end at `H` and are `s` in number. -/
theorem mask_at {H s : ℕ} (hs : s ≤ H) (hH : H ≤ 12288) (r : Fin 12288) :
    andi (cmpi .sge rows (broadcast S12288x1 (Scalar.subi (W H) (W s)))) (cmpi .slt rows (broadcast S12288x1 (W H))) (ix2 r (0 : Fin 1))
      = BitVec.ofBool (decide (H - s ≤ r.val ∧ r.val < H)) := by
  have hr := r.isLt
  show IntOp.andi (IntOp.cmpi .sge (rows (ix2 r (0 : Fin 1))) (Scalar.subi (W H) (W s))) (IntOp.cmpi .slt (rows (ix2 r (0 : Fin 1))) (W H)) = _
  rw [rows_at, subi_W hs]
  have e1 : IntOp.cmpi .sge (W r.val) (W (H - s)) = BitVec.ofBool (decide (H - s ≤ r.val)) :=
    WordCmp.cmpi_sge_ofNat (hr.trans (by norm_num)) ((by omega : H - s < 12289).trans (by norm_num))
  have e2 : IntOp.cmpi .slt (W r.val) (W H) = BitVec.ofBool (decide (r.val < H)) :=
    WordCmp.cmpi_slt_ofNat (hr.trans (by norm_num)) ((by omega : H < 12289).trans (by norm_num))
  rw [e1, e2, WordCmp.andi_ofBool, ← Bool.decide_and]

/-- A row of the codes against a column of a matrix of weights. -/
def dotAt (x : Vec Ideal S12288x2816 .fp8e4m3) (w : Vec Ideal S1x2816x5632 .fp8e4m3) (r : Fin 12288) (q : Fin 5632) : EReal :=
  ∑ k : Fin 2816, (x (ix2 r k) : EReal) * (w (ix3 (0 : Fin 1) k q) : EReal)

/-- The product with a group's weights. -/
theorem pay4_at (x : Vec Ideal S12288x2816 .fp8e4m3) (w : Vec Ideal S1x2816x5632 .fp8e4m3) (r : Fin 12288) (q : Fin 5632) :
    k0_pay4 x w (ix2 r q) = dotAt x w r q := by
  unfold k0_pay4
  show (FloatOps.matmul (DotDims.plain 12288 2816 5632) none x _ (constant (F := Ideal) S12288x5632 .f32 0x00000000#32) (ix2 r q) : EReal) = _
  rw [Layout.matmul_zero]
  refine Finset.sum_congr rfl fun k _ => ?_
  rw [shapeCast_1ab_ab_apply]

/-- A group's product where the row is of the group. -/
theorem group_at {H s : ℕ} (hs : s ≤ H) (hH : H ≤ 12288) (x : Vec Ideal S12288x2816 .fp8e4m3) (w : Vec Ideal S1x2816x5632 .fp8e4m3)
    (acc : FVec Ideal S12288x5632 .f32) (r : Fin 12288) (q : Fin 5632) :
    select (broadcastTo S12288x5632 (shapeCast S12288x1
      (andi (cmpi .sge rows (broadcast S12288x1 (Scalar.subi (W H) (W s)))) (cmpi .slt rows (broadcast S12288x1 (W H))))
      shapeCasts_S12288x1_S12288x1) broadcasts_S12288x1_S12288x5632) (k0_pay4 x w) acc (ix2 r q)
      = if H - s ≤ r.val ∧ r.val < H then dotAt x w r q else acc (ix2 r q) := by
  rw [select_apply, Layout.broadcastTo_col, shapeCast_self, mask_at hs hH, WordCmp.select_decide, pay4_at]

theorem pay2_at {a : ℕ} (ha : a ≤ 12288) (x : Vec Ideal S12288x2816 .fp8e4m3) (w : Vec Ideal S1x2816x5632 .fp8e4m3) (r : Fin 12288) (q : Fin 5632) :
    k0_pay2 (F := Ideal) (W a) (W a) x w (ix2 r q) = if a - a ≤ r.val ∧ r.val < a then dotAt x w r q else Ideal.ofBits .f32 0x00000000#32 :=
  group_at le_rfl ha x w _ r q

theorem pay3_at {H s H' s' : ℕ} (hs : s ≤ H) (hH : H ≤ 12288) (hs' : s' ≤ H') (hH' : H' ≤ 12288) (acc : FVec Ideal S12288x5632 .f32)
    (x : Vec Ideal S12288x2816 .fp8e4m3) (w w' : Vec Ideal S1x2816x5632 .fp8e4m3) (r : Fin 12288) (q : Fin 5632) :
    k0_pay3 (F := Ideal) rows (W H) (W H') acc (W s) x w (W s') x w' (ix2 r q)
      = if H' - s' ≤ r.val ∧ r.val < H' then dotAt x w' r q else if H - s ≤ r.val ∧ r.val < H then dotAt x w r q else acc (ix2 r q) := by
  refine (group_at hs' hH' x w' _ r q).trans ?_
  exact congrArg (fun u : EReal => if H' - s' ≤ r.val ∧ r.val < H' then dotAt x w' r q else u) (group_at hs hH x w acc r q)

theorem pay5_at {H s : ℕ} (hs : s ≤ H) (hH : H ≤ 12288) (r : Fin 12288) :
    k0_pay5 (F := Ideal) rows (W H) (W s) (ix2 r (0 : Fin 1)) = BitVec.ofBool (decide (H - s ≤ r.val ∧ r.val < H)) := by
  refine Eq.trans ?_ (mask_at hs hH r)
  unfold k0_pay5
  rw [shapeCast_self]

/-- The number of a row's group. -/
theorem pay1_at {a b c d : ℕ} (hsum : a + b + c + d = 12288) (r : Fin 12288) :
    k0_pay1 (F := Ideal) (W a) (W b) (W c) (W d) (ix2 r (0 : Fin 1)) = W (Spec.rowGroup a b c r.val).val := by
  have hr := r.isLt
  have e (n : ℕ) (hn : n ≤ 12288) : IntOp.cmpi .sle (W n) (rows (ix2 r (0 : Fin 1))) = BitVec.ofBool (decide (n ≤ r.val)) := by
    rw [rows_at]
    exact WordCmp.cmpi_sle_ofNat (hn.trans_lt (by norm_num)) (hr.trans (by norm_num))
  have w1 : Scalar.addi (W a) (W b) = W (a + b) := WordCmp.addi_ofNat _ _
  have w2 : Scalar.addi (W (a + b)) (W c) = W (a + b + c) := WordCmp.addi_ofNat _ _
  have w3 : Scalar.addi (W (a + b + c)) (W d) = W (a + b + c + d) := WordCmp.addi_ofNat _ _
  show IntOp.minsi 3#32 (IntOp.maxsi 0#32 (IntOp.addi (IntOp.addi (IntOp.addi (IntOp.addi 0#32
      ((IntOp.cmpi .sle (W a) (rows (ix2 r (0 : Fin 1)))).setWidth 32))
      ((IntOp.cmpi .sle (Scalar.addi (W a) (W b)) (rows (ix2 r (0 : Fin 1)))).setWidth 32))
      ((IntOp.cmpi .sle (Scalar.addi (Scalar.addi (W a) (W b)) (W c)) (rows (ix2 r (0 : Fin 1)))).setWidth 32))
      ((IntOp.cmpi .sle (Scalar.addi (Scalar.addi (Scalar.addi (W a) (W b)) (W c)) (W d)) (rows (ix2 r (0 : Fin 1)))).setWidth 32))) = _
  rw [w1, w2, w3, e a (by omega), e (a + b) (by omega), e (a + b + c) (by omega), e (a + b + c + d) (by omega)]
  unfold Spec.rowGroup
  rw [decide_eq_false (by omega : ¬ a + b + c + d ≤ r.val)]
  by_cases h0 : r.val < a
  · rw [if_pos h0, decide_eq_false (by omega : ¬ a ≤ r.val), decide_eq_false (by omega : ¬ a + b ≤ r.val), decide_eq_false (by omega : ¬ a + b + c ≤ r.val)]
    decide
  rw [if_neg h0, decide_eq_true (by omega : a ≤ r.val)]
  by_cases h1 : r.val < a + b
  · rw [if_pos h1, decide_eq_false (by omega : ¬ a + b ≤ r.val), decide_eq_false (by omega : ¬ a + b + c ≤ r.val)]
    decide
  rw [if_neg h1, decide_eq_true (by omega : a + b ≤ r.val)]
  by_cases h2 : r.val < a + b + c
  · rw [if_pos h2, decide_eq_false (by omega : ¬ a + b + c ≤ r.val)]
    decide
  rw [if_neg h2, decide_eq_true (by omega : a + b + c ≤ r.val)]
  decide

/-- A group's scales where the row's group is that group. -/
theorem scale_at (v28 : IVec S12288x1 32) (k : BitVec 32) (s : Vec Ideal S1x5632 .f32) (acc : FVec Ideal S12288x5632 .f32) (r : Fin 12288) (q : Fin 5632) :
    select (broadcastTo S12288x5632 (shapeCast S12288x1 (cmpi .eq v28 (broadcast S12288x1 k)) shapeCasts_S12288x1_S12288x1) broadcasts_S12288x1_S12288x5632)
      (broadcastTo S12288x5632 (shapeCast S1x5632 s shapeCasts_S1x5632_S1x5632) broadcasts_S1x5632_S12288x5632) acc (ix2 r q)
      = Scalar.select (IntOp.cmpi .eq (v28 (ix2 r (0 : Fin 1))) k) (s (ix2 (0 : Fin 1) q)) (acc (ix2 r q)) := by
  rw [select_apply, Layout.broadcastTo_col, shapeCast_self, shapeCast_self, broadcastTo_1b_ab_apply]
  rfl

/-- The scaled result. -/
theorem pay6_at (v28 : IVec S12288x1 32) (v71 v82 : FVec Ideal S12288x5632 .f32) (v83 : IVec S12288x1 1) (s : Fin 4 → Vec Ideal S1x5632 .f32)
    (xs : Vec Ideal S12288x1 .f32) (r : Fin 12288) (q : Fin 5632) (g : Fin 4) (p : Prop) [Decidable p]
    (hg : v28 (ix2 r (0 : Fin 1)) = W g.val) (hp : v83 (ix2 r (0 : Fin 1)) = BitVec.ofBool (decide p)) :
    k0_pay6 (F := Ideal) v28 v71 v82 v83 (s 0) (s 1) (s 2) (s 3) xs (ix2 r q)
      = ((if p then v82 (ix2 r q) else v71 (ix2 r q) : EReal)) * (xs (ix2 r (0 : Fin 1)) : EReal) * (s g (ix2 (0 : Fin 1) q) : EReal) := by
  unfold k0_pay6
  show (select (broadcastTo S12288x5632 v83 _) v82 v71 (ix2 r q) : EReal) * (broadcastTo S12288x5632 xs _ (ix2 r q) : EReal) * (select _ _ _ (ix2 r q) : EReal) = _
  rw [scale_at, scale_at, scale_at, scale_at, select_apply, Layout.broadcastTo_col, Layout.broadcastTo_col, hp, hg, WordCmp.select_decide]
  congr 1
  match g with
  | 0 => rfl
  | 1 => rfl
  | 2 => rfl
  | 3 => rfl

end Cert.ReferenceIdeal.Hand

end
-- ==== Proof.ReferenceIdeal.Run.lean ====
/- The reference's result buffer as one value of its arguments: the only block written is the whole result. -/
module

public import proofs.«01_k».proof.Proof.Gen.ReferenceIdeal.Value
public import proofs.«01_k».proof.Proof.ReferenceIdeal.Pays
public import proofs.«01_k».proof.Proof.Sizes
public import Idealize.ShloMosaic.Lib.WholeRead

@[expose] public section

set_option maxRecDepth 65536

noncomputable section

namespace Cert.ReferenceIdeal.Hand

open Idealize.ShloMosaic Idealize.ShloMosaic.TcCoe Idealize.ShloMosaic.ValueIdx
open Cert.ReferenceIdeal.Gen Cert.WordNat

variable {F : FTy → Type} [FloatOps F]

/-- The weights of group `g`. -/
def wRow (g : Fin 4) (w : Vec F S4x2816x5632 .fp8e4m3) : Vec F S1x2816x5632 .fp8e4m3 := fun z => w (ix3 g (z 1) (z 2))

/-- The scales of group `g`'s columns. -/
def sRow (g : Fin 4) (s : Vec F S4x5632 .f32) : Vec F S1x5632 .f32 := fun z => s (ix2 g (z 1))

/-- The reference's result, of the sizes of the groups and what it reads of the other arguments. -/
def refTerm (n0 n1 n2 n3 : BitVec 32) (x : Vec F S12288x2816 .fp8e4m3) (w0 w1 w2 w3 : Vec F S1x2816x5632 .fp8e4m3)
    (s0 s1 s2 s3 : Vec F S1x5632 .f32) (xs : Vec F S12288x1 .f32) : Vec F S12288x5632 .bf16 :=
  k0_pay6 (k0_pay1 (F := F) n0 n1 n2 n3)
    (k0_pay3 rows (Scalar.addi n0 n1) (Scalar.addi (Scalar.addi n0 n1) n2) (k0_pay2 n0 n0 x w0) n1 x w1 n2 x w2)
    (k0_pay4 x w3) (k0_pay5 (F := F) rows (Scalar.addi (Scalar.addi (Scalar.addi n0 n1) n2) n3) n3) s0 s1 s2 s3 xs

/-- The reference's result, of its arguments. -/
def refOut (x : Vec F S12288x2816 .fp8e4m3) (xs : Vec F S12288x1 .f32) (n : IVec S4 32) (w : Vec F S4x2816x5632 .fp8e4m3)
    (s : Vec F S4x5632 .f32) : Vec F S12288x5632 .bf16 :=
  refTerm (n (Sizes.gIx 0)) (n (Sizes.gIx 1)) (n (Sizes.gIx 2)) (n (Sizes.gIx 3)) x (wRow 0 w) (wRow 1 w) (wRow 2 w) (wRow 3 w)
    (sRow 0 s) (sRow 1 s) (sRow 2 s) (sRow 3 s) xs

/-- A size of a group, as read. -/
theorem read_size {m : Memref sig .tc .smem S4 .i32} (hm : m.IsWhole) (n : Vec F S4 .i32) (k : Fin 4) (inb) (z : S1.Idx) :
    m.view.readAt (Elt F) (Rect.unit (s := S4) ![k.val] S1.size inb).toLoadRect (hm.unread n) z = n (Sizes.gIx k) := by
  rw [hm.readAt_unread]
  refine congrArg n (Sizes.eq_gIx ?_)
  show k.val + 1 * (z 0).val = k.val
  have h : (z 0).val < 1 := (z 0).isLt
  omega

theorem read_whole {s : Shape} {e : EltTy} {sp : Space} {m : Memref sig .tc sp s e} (hm : m.IsWhole) (X : Vec F s e) {off : Fin s.rank → ℕ} (hoff : ∀ a, off a = 0)
    (inb : ∀ a, off a + s.size a ≤ s.size a) :
    m.view.readAt (Elt F) (Rect.unit off s.size inb).toLoadRect (hm.unread X) = X := by
  funext y
  rw [hm.readAt_unread]
  congr 1; funext a; apply Fin.ext
  show off a + 1 * (y a).val = _
  rw [hoff]; omega

theorem read_w {m : Memref sig .tc .vmem S4x2816x5632 .fp8e4m3} (hm : m.IsWhole) (X : Vec F S4x2816x5632 .fp8e4m3) (g : Fin 4) (inb) :
    m.view.readAt (Elt F) (Rect.unit (s := S4x2816x5632) ![g.val, 0, 0] ![1, 2816, 5632] inb).toLoadRect (hm.unread X) = wRow g X := by
  funext y
  rw [hm.readAt_unread]
  unfold wRow
  congr 1; funext a; apply Fin.ext
  match a with
  | 0 =>
    show g.val + 1 * (y 0).val = g.val
    have h : (y 0).val < 1 := (y 0).isLt
    omega
  | 1 => show 0 + 1 * (y 1).val = (y 1).val; omega
  | 2 => show 0 + 1 * (y 2).val = (y 2).val; omega

theorem read_s {m : Memref sig .tc .vmem S4x5632 .f32} (hm : m.IsWhole) (X : Vec F S4x5632 .f32) (g : Fin 4) (inb) :
    m.view.readAt (Elt F) (Rect.unit (s := S4x5632) ![g.val, 0] ![1, 5632] inb).toLoadRect (hm.unread X) = sRow g X := by
  funext y
  rw [hm.readAt_unread]
  unfold sRow
  congr 1; funext a; apply Fin.ext
  match a with
  | 0 =>
    show g.val + 1 * (y 0).val = g.val
    have h : (y 0).val < 1 := (y 0).isLt
    omega
  | 1 => show 0 + 1 * (y 1).val = (y 1).val; omega

theorem refTerm_congr {n0 n1 n2 n3 n0' n1' n2' n3' : BitVec 32} {x x' : Vec F S12288x2816 .fp8e4m3} {w0 w1 w2 w3 w0' w1' w2' w3' : Vec F S1x2816x5632 .fp8e4m3}
    {s0 s1 s2 s3 s0' s1' s2' s3' : Vec F S1x5632 .f32} {xs xs' : Vec F S12288x1 .f32}
    (h0 : n0 = n0') (h1 : n1 = n1') (h2 : n2 = n2') (h3 : n3 = n3') (hx : x = x') (k0 : w0 = w0') (k1 : w1 = w1') (k2 : w2 = w2') (k3 : w3 = w3')
    (l0 : s0 = s0') (l1 : s1 = s1') (l2 : s2 = s2') (l3 : s3 = s3') (hxs : xs = xs') :
    refTerm n0 n1 n2 n3 x w0 w1 w2 w3 s0 s1 s2 s3 xs = refTerm n0' n1' n2' n3' x' w0' w1' w2' w3' s0' s1' s2' s3' xs' := by
  subst h0 h1 h2 h3 hx k0 k1 k2 k3 l0 l1 l2 l3 hxs; rfl

section
variable (c : Dev nD) (arg0 : Memref sig .tc .vmem S12288x2816 .fp8e4m3) (harg0 : arg0.IsWhole) (arg1 : Memref sig .tc .vmem S12288x1 .f32) (harg1 : arg1.IsWhole) (arg2 : Memref sig .tc .smem S4 .i32) (harg2 : arg2.IsWhole) (arg3 : Memref sig .tc .vmem S4x2816x5632 .fp8e4m3) (harg3 : arg3.IsWhole) (arg4 : Memref sig .tc .vmem S4x5632 .f32) (harg4 : arg4.IsWhole) (arg5 : Memref sig .tc .vmem S12288x5632 .bf16) (harg5 : arg5.IsWhole)
    (x0 : Vec F S12288x2816 .fp8e4m3) (x1 : Vec F S12288x1 .f32) (x2 : Vec F S4 .i32) (x3 : Vec F S4x2816x5632 .fp8e4m3) (x4 : Vec F S4x5632 .f32)

/-- Every piece of the run is a piece of the result. -/
theorem pieces_eq : ∀ p ∈ (kernelRun0_A c arg0 harg0 arg1 harg1 arg2 harg2 arg3 harg3 arg4 harg4 arg5 harg5 x0 x1 x2 x3 x4).1, ∀ z,
    p.2 z = refOut x0 x1 x2 x3 x4 (p.1.emb z) := by
  unfold kernelRun0_A; dsimp only
  unfold kernelRun0_A.sl.r_9
  simp only [kernelRun0_A.sl.r_4, kernelRun0_A.sl.r_5, kernelRun0_A.sl.r_6, kernelRun0_A.sl.r_7, kernelRun0_A.sl.r_8]
  intro p hp
  rw [List.mem_singleton] at hp
  subst hp
  intro z
  have hz : (Rect.unit (s := S12288x5632) ![0, 0] ![12288, 5632] inb_S12288x5632_S12288x5632_0_0).emb z = z := by
    funext a; apply Fin.ext
    match a with
    | 0 => show 0 + 1 * (z 0).val = (z 0).val; omega
    | 1 => show 0 + 1 * (z 1).val = (z 1).val; omega
  refine Eq.trans ?_ (congrArg (refOut x0 x1 x2 x3 x4) hz).symm
  exact congrFun (refTerm_congr (read_size harg2 x2 0 inb_S4_S1_0 _) (read_size harg2 x2 1 inb_S4_S1_1 _) (read_size harg2 x2 2 inb_S4_S1_2 _)
    (read_size harg2 x2 3 inb_S4_S1_3 _) (read_whole harg0 x0 (off := ![0, 0]) (by decide) inb_S12288x2816_S12288x2816_0_0)
    (read_w harg3 x3 0 inb_S4x2816x5632_S1x2816x5632_0_0_0) (read_w harg3 x3 1 inb_S4x2816x5632_S1x2816x5632_1_0_0)
    (read_w harg3 x3 2 inb_S4x2816x5632_S1x2816x5632_2_0_0) (read_w harg3 x3 3 inb_S4x2816x5632_S1x2816x5632_3_0_0)
    (read_s harg4 x4 0 inb_S4x5632_S1x5632_0_0) (read_s harg4 x4 1 inb_S4x5632_S1x5632_1_0)
    (read_s harg4 x4 2 inb_S4x5632_S1x5632_2_0) (read_s harg4 x4 3 inb_S4x5632_S1x5632_3_0)
    (read_whole harg1 x1 (off := ![0, 0]) (by decide) inb_S12288x1_S12288x1_0_0)) z

/-- What the run leaves in the result's buffer. -/
theorem out_eq : out0_A_5 c arg0 harg0 arg1 harg1 arg2 harg2 arg3 harg3 arg4 harg4 arg5 harg5 x0 x1 x2 x3 x4 = refOut x0 x1 x2 x3 x4 := by
  unfold out0_A_5
  exact funext fun y => View.read_writes_apply_of_pieces _ _ (refOut x0 x1 x2 x3 x4) _
    (pieces_eq c arg0 harg0 arg1 harg1 arg2 harg2 arg3 harg3 arg4 harg4 arg5 harg5 x0 x1 x2 x3 x4) y
    (cover0_A_5 c arg0 harg0 arg1 harg1 arg2 harg2 arg3 harg3 arg4 harg4 arg5 harg5 x0 x1 x2 x3 x4 y)
end

end Cert.ReferenceIdeal.Hand

end
-- ==== Proof.ReferenceIdeal.Value.lean ====
/- The reference's result at the ideal instance: every row's product with the weights of its group, scaled. -/
module

public import proofs.«01_k».proof.Proof.ReferenceIdeal.Run
public import Idealize.ShloMosaic.Lib.Pipeline.ValueKit.Geometry

@[expose] public section

noncomputable section

namespace Cert.ReferenceIdeal.Hand

open Idealize.ShloMosaic Idealize.ShloMosaic.TcCoe Idealize.ShloMosaic.ValueIdx
open Idealize.ShloMosaic.Pipeline (Dat Cfg Window)
open Cert.ReferenceIdeal.Gen Cert.WordNat
open scoped BigOperators

variable {a b c d : ℕ}

/-- The result at one element, the groups' sizes adding up to the number of rows. -/
theorem refOut_eq (hsum : a + b + c + d = 12288) (x : Vec Ideal S12288x2816 .fp8e4m3) (xs : Vec Ideal S12288x1 .f32) (n : IVec S4 32)
    (w : Vec Ideal S4x2816x5632 .fp8e4m3) (s : Vec Ideal S4x5632 .f32)
    (h0 : n (Sizes.gIx 0) = W a) (h1 : n (Sizes.gIx 1) = W b) (h2 : n (Sizes.gIx 2) = W c) (h3 : n (Sizes.gIx 3) = W d) :
    refOut x xs n w s = Spec.grouped a b c x xs w s := by
  funext y
  obtain ⟨r, q, rfl⟩ : ∃ (r : Fin 12288) (q : Fin 5632), y = ix2 r q := ⟨y 0, y 1, eq_ix2 _⟩
  have hr := r.isLt
  unfold refOut refTerm
  rw [h0, h1, h2, h3, addi_W, addi_W, addi_W]
  refine (pay6_at _ _ _ _ (fun g => sRow g s) xs r q (Spec.rowGroup a b c r.val) _ (pay1_at hsum r)
    (pay5_at (H := a + b + c + d) (s := d) (by omega) (by omega) r)).trans ?_
  rw [pay3_at (H := a + b) (s := b) (H' := a + b + c) (s' := c) (by omega) (by omega) (by omega) (by omega),
    pay2_at (a := a) (by omega), pay4_at]
  show _ = Spec.scaled x xs w s (Spec.rowGroup a b c r.val) r q
  unfold Spec.scaled
  have hdot : (if a + b + c + d - d ≤ r.val ∧ r.val < a + b + c + d then dotAt x (wRow 3 w) r q
      else if a + b + c - c ≤ r.val ∧ r.val < a + b + c then dotAt x (wRow 2 w) r q
      else if a + b - b ≤ r.val ∧ r.val < a + b then dotAt x (wRow 1 w) r q
      else if a - a ≤ r.val ∧ r.val < a then dotAt x (wRow 0 w) r q else Ideal.ofBits .f32 0x00000000#32)
      = dotAt x (wRow (Spec.rowGroup a b c r.val) w) r q := by
    unfold Spec.rowGroup
    by_cases k0 : r.val < a
    · rw [if_neg (by omega), if_neg (by omega), if_neg (by omega), if_pos (by omega), if_pos k0]
    by_cases k1 : r.val < a + b
    · rw [if_neg (by omega), if_neg (by omega), if_pos (by omega), if_neg k0, if_pos k1]
    by_cases k2 : r.val < a + b + c
    · rw [if_neg (by omega), if_pos (by omega), if_neg k0, if_neg k1, if_pos k2]
    · rw [if_pos (by omega), if_neg k0, if_neg k1, if_neg k2]
  rw [hdot]
  rfl

variable (m : (ℓ : Loc nD τ sig) → Buf (Elt Ideal) ℓ)

/-- The launch's arguments, as the reference reads them. -/
theorem after_eq (x : Dev nD) (t : Fin cfg0.N) :
    (dats m 0 x).after 5 t = refOut (F := Ideal) (m ((x : Thread nD τ).loc main_arg0)) (m ((x : Thread nD τ).loc main_arg1)) (m ((x : Thread nD τ).loc main_arg2))
      (m ((x : Thread nD τ).loc main_arg3)) (m ((x : Thread nD τ).loc main_arg4)) := by
  rw [after0_5]
  unfold outsAt0
  rw [out_eq]
  have e0 : iblk m x 0 t = m ((x : Thread nD τ).loc main_arg0) := funext fun (y : S12288x2816.Idx) =>
    congrArg (m ((x : Thread nD τ).loc main_arg0)) (funext fun ax => Fin.ext (by
      show 0 * S12288x2816.size ax + 1 * (y ax).val = (y ax).val
      rw [Nat.zero_mul, Nat.one_mul, Nat.zero_add]))
  have e1 : iblk m x 1 t = m ((x : Thread nD τ).loc main_arg1) := funext fun (y : S12288x1.Idx) =>
    congrArg (m ((x : Thread nD τ).loc main_arg1)) (funext fun ax => Fin.ext (by
      show 0 * S12288x1.size ax + 1 * (y ax).val = (y ax).val
      rw [Nat.zero_mul, Nat.one_mul, Nat.zero_add]))
  have e2 : iblk m x 2 t = m ((x : Thread nD τ).loc main_arg2) := funext fun (y : S4.Idx) =>
    congrArg (m ((x : Thread nD τ).loc main_arg2)) (funext fun ax => Fin.ext (by
      show 0 * S4.size ax + 1 * (y ax).val = (y ax).val
      rw [Nat.zero_mul, Nat.one_mul, Nat.zero_add]))
  have e3 : iblk m x 3 t = m ((x : Thread nD τ).loc main_arg3) := funext fun (y : S4x2816x5632.Idx) =>
    congrArg (m ((x : Thread nD τ).loc main_arg3)) (funext fun ax => Fin.ext (by
      show 0 * S4x2816x5632.size ax + 1 * (y ax).val = (y ax).val
      rw [Nat.zero_mul, Nat.one_mul, Nat.zero_add]))
  have e4 : iblk m x 4 t = m ((x : Thread nD τ).loc main_arg4) := funext fun (y : S4x5632.Idx) =>
    congrArg (m ((x : Thread nD τ).loc main_arg4)) (funext fun ax => Fin.ext (by
      show 0 * S4x5632.size ax + 1 * (y ax).val = (y ax).val
      rw [Nat.zero_mul, Nat.one_mul, Nat.zero_add]))
  rw [e0, e1, e2, e3, e4]

/-- The result array after the run. -/
theorem final (x : Dev nD) :
    (dats m 0 x).arrAt 5 cfg0.N = refOut (F := Ideal) (m ((x : Thread nD τ).loc main_arg0)) (m ((x : Thread nD τ).loc main_arg1)) (m ((x : Thread nD τ).loc main_arg2))
      (m ((x : Thread nD τ).loc main_arg3)) (m ((x : Thread nD τ).loc main_arg4)) := by
  have hemb : ∀ (t : Fin cfg0.N) (y : S12288x5632.Idx), ((cfg0.win 5).blk t).view.emb y = y := fun t y => funext fun ax => Fin.ext (by
    show 0 * S12288x5632.size ax + 1 * (y ax).val = (y ax).val
    rw [Nat.zero_mul, Nat.one_mul, Nat.zero_add])
  have hN : 0 < cfg0.N := (by decide +kernel : 0 < grid0.N)
  have hf : (cfg0.win 5).flush ⟨0, hN⟩ = true := (by decide +kernel : ∀ t : Fin grid0.N, win0_5.flush t = true) _
  refine Dat.arrAt_eq_of_emb (dats m 0 x) 5 _ (fun t _ (y : S12288x5632.Idx) => ?_) (fun (i : S12288x5632.Idx) => ⟨⟨0, hN⟩, hf, ?_⟩)
  · exact (congrFun (after_eq m x t) _).trans (congrArg _ (hemb t y).symm)
  · have hm := View.emb_mem_set ((cfg0.win 5).blk ⟨0, hN⟩).view i
    exact Eq.subst (motive := fun z => z ∈ ((cfg0.win 5).blk ⟨0, hN⟩).view.set) (hemb _ i) hm

end Cert.ReferenceIdeal.Hand

end
-- ==== Proof.Algebraic.lean ====
/- The kernel and the reference compute the same result, over the extended reals: every row's product with the weights of its group. -/
module

public import proofs.«01_k».proof.Proof.Frames
public import proofs.«01_k».proof.Proof.KernelIdeal.Value
public import proofs.«01_k».proof.Proof.ReferenceIdeal.Value

@[expose] public section

noncomputable section

namespace Cert.Algebraic

open Idealize.ShloMosaic Idealize.ShloMosaic.TcCoe Idealize.SL.Sem

/-- From agreeing arguments, with sizes that add up, both end at the grouped products. -/
theorem kernel_reference : algebraic_KernelIdeal_ReferenceIdeal (hKernelIdeal := KernelIdeal.Gen.facts) (hReferenceIdeal := ReferenceIdeal.Gen.facts)
    (hPre_sizes_partition := Pre_sizes_partition.Gen.facts) := fun m g m' g' h hag => by
  obtain ⟨a, b, c, d, hp⟩ := Frames.parts_kernelIdeal m h
  refine ⟨fun x => KernelIdeal.Hand.goal m a b c x, ?_, ?_⟩
  · exact (θ_run KernelIdeal.defs _ _).mono (fun r h x => ⟨(h.1 x).1.trans (KernelIdeal.Hand.final hp x), (h.1 x).2⟩) (KernelIdeal.Hand.run_result g hp)
  · refine (θ_run ReferenceIdeal.defs _ _).mono (fun r h x => ⟨(h x).1.trans ?_, (h x).2⟩) (ReferenceIdeal.Value.run_blocks m' g')
    obtain ⟨h0, h1, h2, h3, h4⟩ := hag x
    refine (ReferenceIdeal.Hand.final m' x).trans ?_
    have hx : x = 0 := Subsingleton.elim (α := Fin 1) x 0
    rw [h0, h1, h2, h3, h4]
    subst hx
    exact ReferenceIdeal.Hand.refOut_eq hp.sum _ _ _ _ _ hp.at0 hp.at1 hp.at2 hp.at3

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_sizes_partition
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sizes_partition.Gen.facts,
  Cert.Frames.kernel, Cert.Frames.kernelIdeal, Cert.Frames.referenceIdeal, trivial, Cert.Algebraic.kernel_reference⟩

end Cert.Proof

end
